-- ==== Defs.lean ====
def Pre_KernelIdeal [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0))) = (fun _ => 1#1)

def Pre_Gather [hPre_in_range : Cert.Pre_in_range.Facts] (m : (ℓ : Loc Cert.Gather.nD Cert.Gather.τ Cert.Gather.sig) → Buf (Elt Bits) ℓ) : Prop :=
  ∀ c : Dev Cert.Gather.nD,
    (Cert.Pre_in_range.fn (F := Bits) (m ((c.tc : Thread Cert.Gather.nD Cert.Gather.τ).loc Cert.Gather.main_arg0)) (m ((c.tc : Thread Cert.Gather.nD Cert.Gather.τ).loc Cert.Gather.main_arg1))) = (fun _ => 1#1)

def Pre_GatherIdeal [hPre_in_range : Cert.Pre_in_range.Facts] (m : (ℓ : Loc Cert.GatherIdeal.nD Cert.GatherIdeal.τ Cert.GatherIdeal.sig) → Buf (Elt Ideal) ℓ) : Prop :=
  ∀ c : Dev Cert.GatherIdeal.nD,
    (Cert.Pre_in_range.fn (F := Ideal) (m ((c.tc : Thread Cert.GatherIdeal.nD Cert.GatherIdeal.τ).loc Cert.GatherIdeal.main_arg0)) (m ((c.tc : Thread Cert.GatherIdeal.nD Cert.GatherIdeal.τ).loc Cert.GatherIdeal.main_arg1))) = (fun _ => 1#1)

def Pre_GatherReferenceIdeal (m : (ℓ : Loc Cert.GatherReferenceIdeal.nD Cert.GatherReferenceIdeal.τ Cert.GatherReferenceIdeal.sig) → Buf (Elt Ideal) ℓ) : Prop :=
  True

def Pre_GatherReferenceIdeal_in_range [hPre_in_range : Cert.Pre_in_range.Facts] (m : (ℓ : Loc Cert.GatherReferenceIdeal.nD Cert.GatherReferenceIdeal.τ Cert.GatherReferenceIdeal.sig) → Buf (Elt Ideal) ℓ) : Prop :=
  ∀ c : Dev Cert.GatherReferenceIdeal.nD,
    (Cert.Pre_in_range.fn (F := Ideal) (m ((c.tc : Thread Cert.GatherReferenceIdeal.nD Cert.GatherReferenceIdeal.τ).loc Cert.GatherReferenceIdeal.main_arg0)) (m ((c.tc : Thread Cert.GatherReferenceIdeal.nD Cert.GatherReferenceIdeal.τ).loc Cert.GatherReferenceIdeal.main_arg1))) = (fun _ => 1#1)

def quiescent_KernelIdeal [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Gather [hGather : Cert.Gather.Facts] [hPre_in_range : Cert.Pre_in_range.Facts] : Prop :=
  ∀ (m : (ℓ : Loc Cert.Gather.nD Cert.Gather.τ Cert.Gather.sig) → Buf (Elt Bits) ℓ) (g : Dev Cert.Gather.nD → PrngReg), Pre_Gather m →
    θ_run (Cert.Gather.defs (F := Bits)) (Cert.Gather.threads (F := Bits)) ⟨m, fun _ => 0, g⟩ (fun r => (∀ c : Dev Cert.Gather.nD,
      r.2.mem ((c.tc : Thread Cert.Gather.nD Cert.Gather.τ).loc Cert.Gather.main_arg0) = m ((c.tc : Thread Cert.Gather.nD Cert.Gather.τ).loc Cert.Gather.main_arg0)
      ∧ r.2.mem ((c.tc : Thread Cert.Gather.nD Cert.Gather.τ).loc Cert.Gather.main_arg1) = m ((c.tc : Thread Cert.Gather.nD Cert.Gather.τ).loc Cert.Gather.main_arg1))
      ∧ r.2.sem = fun _ => 0)

def quiescent_GatherIdeal [hGatherIdeal : Cert.GatherIdeal.Facts] [hPre_in_range : Cert.Pre_in_range.Facts] : Prop :=
  ∀ (m : (ℓ : Loc Cert.GatherIdeal.nD Cert.GatherIdeal.τ Cert.GatherIdeal.sig) → Buf (Elt Ideal) ℓ) (g : Dev Cert.GatherIdeal.nD → PrngReg), Pre_GatherIdeal m →
    θ_run (Cert.GatherIdeal.defs (F := Ideal)) (Cert.GatherIdeal.threads (F := Ideal)) ⟨m, fun _ => 0, g⟩ (fun r => (∀ c : Dev Cert.GatherIdeal.nD,
      r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0)
      ∧ r.2.mem ((c.tc : Thread Cert.GatherIdeal.nD Cert.GatherIdeal.τ).loc Cert.GatherIdeal.main_arg1) = m ((c.tc : Thread Cert.GatherIdeal.nD Cert.GatherIdeal.τ).loc Cert.GatherIdeal.main_arg1))
      ∧ r.2.sem = fun _ => 0)

def quiescent_GatherReferenceIdeal [hGatherReferenceIdeal : Cert.GatherReferenceIdeal.Facts] : Prop :=
  ∀ (m : (ℓ : Loc Cert.GatherReferenceIdeal.nD Cert.GatherReferenceIdeal.τ Cert.GatherReferenceIdeal.sig) → Buf (Elt Ideal) ℓ) (g : Dev Cert.GatherReferenceIdeal.nD → PrngReg), Pre_GatherReferenceIdeal m →
    θ_run (Cert.GatherReferenceIdeal.defs (F := Ideal)) (onTc (τ := Cert.GatherReferenceIdeal.τ) (Cert.GatherReferenceIdeal.main (F := Ideal))) ⟨m, fun _ => 0, g⟩ (fun r => (∀ c : Dev Cert.GatherReferenceIdeal.nD,
      r.2.mem ((c.tc : Thread Cert.GatherReferenceIdeal.nD Cert.GatherReferenceIdeal.τ).loc Cert.GatherReferenceIdeal.main_arg0) = m ((c.tc : Thread Cert.GatherReferenceIdeal.nD Cert.GatherReferenceIdeal.τ).loc Cert.GatherReferenceIdeal.main_arg0)
      ∧ r.2.mem ((c.tc : Thread Cert.GatherReferenceIdeal.nD Cert.GatherReferenceIdeal.τ).loc Cert.GatherReferenceIdeal.main_arg1) = m ((c.tc : Thread Cert.GatherReferenceIdeal.nD Cert.GatherReferenceIdeal.τ).loc Cert.GatherReferenceIdeal.main_arg1))
      ∧ r.2.sem = fun _ => 0)

def quiescent_GatherReferenceIdeal_pre_in_range [hGatherReferenceIdeal : Cert.GatherReferenceIdeal.Facts] [hPre_in_range : Cert.Pre_in_range.Facts] : Prop :=
  ∀ (m : (ℓ : Loc Cert.GatherReferenceIdeal.nD Cert.GatherReferenceIdeal.τ Cert.GatherReferenceIdeal.sig) → Buf (Elt Ideal) ℓ) (g : Dev Cert.GatherReferenceIdeal.nD → PrngReg), Pre_GatherReferenceIdeal_in_range m →
    θ_run (Cert.GatherReferenceIdeal.defs (F := Ideal)) (onTc (τ := Cert.GatherReferenceIdeal.τ) (Cert.GatherReferenceIdeal.main (F := Ideal))) ⟨m, fun _ => 0, g⟩ (fun r => (∀ c : Dev Cert.GatherReferenceIdeal.nD,
      r.2.mem ((c.tc : Thread Cert.GatherReferenceIdeal.nD Cert.GatherReferenceIdeal.τ).loc Cert.GatherReferenceIdeal.main_arg0) = m ((c.tc : Thread Cert.GatherReferenceIdeal.nD Cert.GatherReferenceIdeal.τ).loc Cert.GatherReferenceIdeal.main_arg0)
      ∧ r.2.mem ((c.tc : Thread Cert.GatherReferenceIdeal.nD Cert.GatherReferenceIdeal.τ).loc Cert.GatherReferenceIdeal.main_arg1) = m ((c.tc : Thread Cert.GatherReferenceIdeal.nD Cert.GatherReferenceIdeal.τ).loc Cert.GatherReferenceIdeal.main_arg1))
      ∧ r.2.sem = fun _ => 0)

def algebraic_KernelIdeal_ReferenceIdeal [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def preserves_Gather_GatherIdeal : Prop :=
  True

def algebraic_GatherIdeal_GatherReferenceIdeal [hGatherIdeal : Cert.GatherIdeal.Facts] [hGatherReferenceIdeal : Cert.GatherReferenceIdeal.Facts] [hPre_in_range : Cert.Pre_in_range.Facts] : Prop :=
  ∀ (m : (ℓ : Loc Cert.GatherIdeal.nD Cert.GatherIdeal.τ Cert.GatherIdeal.sig) → Buf (Elt Ideal) ℓ) (g : Dev Cert.GatherIdeal.nD → PrngReg)
    (m' : (ℓ : Loc Cert.GatherReferenceIdeal.nD Cert.GatherReferenceIdeal.τ Cert.GatherReferenceIdeal.sig) → Buf (Elt Ideal) ℓ) (g' : Dev Cert.GatherReferenceIdeal.nD → PrngReg), Pre_GatherIdeal m →
    (∀ c : Dev Cert.GatherIdeal.nD,
      m' ((c.tc : Thread Cert.GatherReferenceIdeal.nD Cert.GatherReferenceIdeal.τ).loc Cert.GatherReferenceIdeal.main_arg0) = m ((c.tc : Thread Cert.GatherIdeal.nD Cert.GatherIdeal.τ).loc Cert.GatherIdeal.main_arg0)
      ∧ m' ((c.tc : Thread Cert.GatherReferenceIdeal.nD Cert.GatherReferenceIdeal.τ).loc Cert.GatherReferenceIdeal.main_arg1) = m ((c.tc : Thread Cert.GatherIdeal.nD Cert.GatherIdeal.τ).loc Cert.GatherIdeal.main_arg1)) →
    ∃ (v0 : (c : Dev Cert.GatherIdeal.nD) → Buf (Elt Ideal) ((c.tc : Thread Cert.GatherIdeal.nD Cert.GatherIdeal.τ).loc Cert.GatherIdeal.main_v0)),
      θ_run (Cert.GatherIdeal.defs (F := Ideal)) (Cert.GatherIdeal.threads (F := Ideal)) ⟨m, fun _ => 0, g⟩ (fun r => ∀ c : Dev Cert.GatherIdeal.nD,
          r.2.mem ((c.tc : Thread Cert.GatherIdeal.nD Cert.GatherIdeal.τ).loc Cert.GatherIdeal.main_v0) = v0 c
          ∧ r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0)
          ∧ r.2.mem ((c.tc : Thread Cert.GatherIdeal.nD Cert.GatherIdeal.τ).loc Cert.GatherIdeal.main_arg1) = m ((c.tc : Thread Cert.GatherIdeal.nD Cert.GatherIdeal.τ).loc Cert.GatherIdeal.main_arg1))
      ∧ θ_run (Cert.GatherReferenceIdeal.defs (F := Ideal)) (onTc (τ := Cert.GatherReferenceIdeal.τ) (Cert.GatherReferenceIdeal.main (F := Ideal))) ⟨m', fun _ => 0, g'⟩ (fun r => ∀ c : Dev Cert.GatherReferenceIdeal.nD,
          r.2.mem ((c.tc : Thread Cert.GatherReferenceIdeal.nD Cert.GatherReferenceIdeal.τ).loc Cert.GatherReferenceIdeal.main_v0) = v0 c
          ∧ r.2.mem ((c.tc : Thread Cert.GatherReferenceIdeal.nD Cert.GatherReferenceIdeal.τ).loc Cert.GatherReferenceIdeal.main_arg0) = m' ((c.tc : Thread Cert.GatherReferenceIdeal.nD Cert.GatherReferenceIdeal.τ).loc Cert.GatherReferenceIdeal.main_arg0)
          ∧ r.2.mem ((c.tc : Thread Cert.GatherReferenceIdeal.nD Cert.GatherReferenceIdeal.τ).loc Cert.GatherReferenceIdeal.main_arg1) = m' ((c.tc : Thread Cert.GatherReferenceIdeal.nD Cert.GatherReferenceIdeal.τ).loc Cert.GatherReferenceIdeal.main_arg1))

def Claim : Prop :=
  ∃ (hKernelIdeal : Cert.KernelIdeal.Facts) (hReferenceIdeal : Cert.ReferenceIdeal.Facts) (hGather : Cert.Gather.Facts) (hGatherIdeal : Cert.GatherIdeal.Facts) (hGatherReferenceIdeal : Cert.GatherReferenceIdeal.Facts) (hPre_finite : Cert.Pre_finite.Facts) (hPre_in_range : Cert.Pre_in_range.Facts),
    quiescent_KernelIdeal (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Gather (hGather := hGather) (hPre_in_range := hPre_in_range)
    ∧ quiescent_GatherIdeal (hGatherIdeal := hGatherIdeal) (hPre_in_range := hPre_in_range)
    ∧ quiescent_GatherReferenceIdeal (hGatherReferenceIdeal := hGatherReferenceIdeal)
    ∧ quiescent_GatherReferenceIdeal_pre_in_range (hGatherReferenceIdeal := hGatherReferenceIdeal) (hPre_in_range := hPre_in_range)
    ∧ algebraic_KernelIdeal_ReferenceIdeal (hKernelIdeal := hKernelIdeal) (hReferenceIdeal := hReferenceIdeal) (hPre_finite := hPre_finite)
    ∧ preserves_Gather_GatherIdeal
    ∧ algebraic_GatherIdeal_GatherReferenceIdeal (hGatherIdeal := hGatherIdeal) (hGatherReferenceIdeal := hGatherReferenceIdeal) (hPre_in_range := hPre_in_range)
-- ==== Pre_finite.lean ====
abbrev S16x768x48x48 : Shape := ⟨4, ![16, 768, 48, 48]⟩
abbrev S_ : Shape := ⟨0, ![]⟩

class Facts : Prop where
  bcast_S_S16x768x48x48 : S_.BroadcastsInDim S16x768x48x48 (![] : Fin 0 → Fin S16x768x48x48.rank)
  reducesTo_S16x768x48x48_S_d0_1_2_3 : S16x768x48x48.ReducesTo [0, 1, 2, 3] S_
  h_S_ : 0 < S_.numel

variable [Facts]

def fn {F : FTy → Type} [FloatOps F] (main_arg0 : FVec F S16x768x48x48 .f32) : IVec S_ 1 :=
  let main_v0 : FVec F S16x768x48x48 .f32 := Host.absf main_arg0
  let main_cst : FVec F S_ .f32 := constant S_ .f32 0x7F800000#32
  let main_v1 : FVec F S16x768x48x48 .f32 := broadcastInDim S16x768x48x48 ![] bcast_S_S16x768x48x48 main_cst
  let main_v2 : IVec S16x768x48x48 1 := cmpf .olt main_v0 main_v1
  let main_c : IVec S_ 1 := constantI S_ 1 1#1
  let main_v3 : IVec S_ 1 := (fun x v => Host.reduce IntOp.andi x v reducesTo_S16x768x48x48_S_d0_1_2_3 h_S_) main_v2 main_c
  main_v3
-- ==== Pre_in_range.lean ====
abbrev S16x768x48x48 : Shape := ⟨4, ![16, 768, 48, 48]⟩
abbrev S192 : Shape := ⟨1, ![192]⟩
abbrev S_ : Shape := ⟨0, ![]⟩

class Facts : Prop where
  bcast_S_S192 : S_.BroadcastsInDim S192 (![] : Fin 0 → Fin S192.rank)
  reducesTo_S192_S_d0 : S192.ReducesTo [0] S_
  h_S_ : 0 < S_.numel

variable [Facts]

def fn {F : FTy → Type} [FloatOps F] (main_arg0 : FVec F S16x768x48x48 .f32) (main_arg1 : IVec S192 32) : IVec S_ 1 :=
  let main_c : IVec S_ 32 := constantI S_ 32 0#32
  let main_v0 : IVec S192 32 := broadcastInDim S192 ![] bcast_S_S192 main_c
  let main_v1 : IVec S192 1 := cmpi .sge main_arg1 main_v0
  let main_c_0 : IVec S_ 32 := constantI S_ 32 768#32
  let main_v2 : IVec S192 32 := broadcastInDim S192 ![] bcast_S_S192 main_c_0
  let main_v3 : IVec S192 1 := cmpi .slt main_arg1 main_v2
  let main_v4 : IVec S192 1 := andi main_v1 main_v3
  let main_c_1 : IVec S_ 1 := constantI S_ 1 1#1
  let main_v5 : IVec S_ 1 := (fun x v => Host.reduce IntOp.andi x v reducesTo_S192_S_d0 h_S_) main_v4 main_c_1
  main_v5
-- ==== KernelIdeal.lean ====
abbrev S16x768x48x48 : Shape := ⟨4, ![16, 768, 48, 48]⟩
abbrev S512x16 : Shape := ⟨2, ![512, 16]⟩
abbrev S8x48x48 : Shape := ⟨3, ![8, 48, 48]⟩
abbrev S16x16 : Shape := ⟨2, ![16, 16]⟩
abbrev S_ : Shape := ⟨0, ![]⟩
abbrev S1x8x48x48 : Shape := ⟨4, ![1, 8, 48, 48]⟩
abbrev S16 : Shape := ⟨1, ![16]⟩
abbrev S1x16 : Shape := ⟨2, ![1, 16]⟩
abbrev S1x1x16 : Shape := ⟨3, ![1, 1, 16]⟩
abbrev S1x256 : Shape := ⟨2, ![1, 256]⟩
abbrev S1x256x48x48 : Shape := ⟨4, ![1, 256, 48, 48]⟩
abbrev S256 : Shape := ⟨1, ![256]⟩
abbrev S1x192 : Shape := ⟨2, ![1, 192]⟩
abbrev S512 : Shape := ⟨1, ![512]⟩
abbrev S512x1 : Shape := ⟨2, ![512, 1]⟩
abbrev S768x768 : Shape := ⟨2, ![768, 768]⟩
abbrev S256x256 : Shape := ⟨2, ![256, 256]⟩
abbrev S256x1 : Shape := ⟨2, ![256, 1]⟩
abbrev S768x1 : Shape := ⟨2, ![768, 1]⟩
abbrev S1x768 : Shape := ⟨2, ![1, 768]⟩
abbrev S768x192 : Shape := ⟨2, ![768, 192]⟩
abbrev S192 : Shape := ⟨1, ![192]⟩
abbrev S16x192x48x48 : Shape := ⟨4, ![16, 192, 48, 48]⟩
abbrev S208 : Shape := ⟨1, ![208]⟩
abbrev S1 : Shape := ⟨1, ![1]⟩
abbrev S8x1x48x48 : Shape := ⟨4, ![8, 1, 48, 48]⟩

abbrev nBuf : Table → Nat
  | .hbm => 6
  | .local .tc .vmem => 7
  | .local .scVector .vmem => 6
  | _ => 0

abbrev bufTy : (tb : Table) → Fin (nBuf tb) → BufTy
  | .hbm, ⟨0, _⟩ => ⟨S16x768x48x48, .f32⟩
  | .hbm, ⟨1, _⟩ => ⟨S512x16, .f32⟩
  | .hbm, ⟨2, _⟩ => ⟨S1x256, .f32⟩
  | .hbm, ⟨3, _⟩ => ⟨S1x192, .i32⟩
  | .hbm, ⟨4, _⟩ => ⟨S192, .i32⟩
  | .hbm, ⟨5, _⟩ => ⟨S16x192x48x48, .f32⟩
  | .local .tc .vmem, ⟨0, _⟩ => ⟨S1x256x48x48, .f32⟩
  | .local .tc .vmem, ⟨1, _⟩ => ⟨S1x256x48x48, .f32⟩
  | .local .tc .vmem, ⟨2, _⟩ => ⟨S1x256, .f32⟩
  | .local .tc .vmem, ⟨3, _⟩ => ⟨S1x256, .f32⟩
  | .local .tc .vmem, ⟨4, _⟩ => ⟨S1x256, .f32⟩
  | .local .tc .vmem, ⟨5, _⟩ => ⟨S512x16, .f32⟩
  | .local .tc .vmem, ⟨6, _⟩ => ⟨S1x192, .i32⟩
  | .local .scVector .vmem, ⟨0, _⟩ => ⟨S8x48x48, .f32⟩
  | .local .scVector .vmem, ⟨1, _⟩ => ⟨S8x48x48, .f32⟩
  | .local .scVector .vmem, ⟨2, _⟩ => ⟨S16x16, .f32⟩
  | .local .scVector .vmem, ⟨3, _⟩ => ⟨S208, .i32⟩
  | .local .scVector .vmem, ⟨4, _⟩ => ⟨S8x48x48, .f32⟩
  | .local .scVector .vmem, ⟨5, _⟩ => ⟨S8x48x48, .f32⟩
  | _, _ => ⟨S16x768x48x48, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 24 → Bool
  | ⟨0, _⟩ => false
  | ⟨1, _⟩ => false
  | ⟨2, _⟩ => false
  | ⟨3, _⟩ => true
  | ⟨4, _⟩ => true
  | ⟨5, _⟩ => true
  | ⟨6, _⟩ => true
  | ⟨7, _⟩ => true
  | ⟨8, _⟩ => true
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => false
  | ⟨20, _⟩ => false
  | ⟨21, _⟩ => false
  | ⟨22, _⟩ => false
  | ⟨23, _⟩ => false
  | _ => false

abbrev sig : RefSig :=
  ofTables nBuf rfl bufTy 4 24 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_arg0_scv : Ref sig .scVector := ⟨.hbm, 0, rfl⟩
abbrev main_v0_scv : Ref sig .scVector := ⟨.hbm, 1, rfl⟩
abbrev main_v3_scv : Ref sig .scVector := ⟨.hbm, 4, rfl⟩
abbrev main_v4_scv : Ref sig .scVector := ⟨.hbm, 5, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_scratch0 : Ref sig .tc := ⟨.vmem, 3, rfl⟩
abbrev cc2_stg0_0 : Ref sig .tc := ⟨.vmem, 4, rfl⟩
abbrev cc2_stg1_0 : Ref sig .tc := ⟨.vmem, 5, rfl⟩
abbrev cc2_stg2_0 : Ref sig .tc := ⟨.vmem, 6, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc3_scratch0 : Ref sig .scVector := ⟨.vmem, 3, rfl⟩
abbrev cc3_scratch1 : Ref sig .scVector := ⟨.vmem, 4, rfl⟩
abbrev cc3_scratch2 : Ref sig .scVector := ⟨.vmem, 5, rfl⟩
abbrev cc1_sem0_0 : DmaSem sig := 3
abbrev cc1_sem0_1 : DmaSem sig := 4
abbrev cc1_sem1_0 : DmaSem sig := 5
abbrev cc2_sem0_0 : DmaSem sig := 6
abbrev cc2_sem1_0 : DmaSem sig := 7
abbrev cc2_sem2_0 : DmaSem sig := 8
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 4 → Nat :=
  let c0_i32_0 : BitVec 32 := 0#32
  let c256_i32 : BitVec 32 := 256#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let v3 : BitVec 32 := Scalar.addi c256_i32 v2
  let v4 : BitVec 32 := Scalar.addi v3 c0_i32
  let c0_i32_1 : BitVec 32 := 0#32
  let c0_i32_2 : BitVec 32 := 0#32
  ![0, v4.toNat, 0, 0]
@[reducible] def k0_t1_loop : Scf.Loop 32 :=
  let c0_i32_11 : BitVec 32 := 0#32
  let c16_i32_12 : BitVec 32 := 16#32
  let v15 : BitVec 32 := Scalar.addi c0_i32_11 c16_i32_12
  let c1_i32 : BitVec 32 := 1#32
  ⟨c0_i32_11, v15, c1_i32⟩
def k0_off2 (k0_t1 : Fin k0_t1_loop.trips) : Fin 2 → Nat :=
  let c0_i32_11 : BitVec 32 := 0#32
  let c1_i32 : BitVec 32 := 1#32
  let arg9 : BitVec 32 := Scf.iv c0_i32_11 c1_i32 k0_t1
  let v18 : Index := Scalar.indexCast arg9
  let c0 : Index := 0#32
  ![v18.toNat, 0]
@[reducible] def k0_t2_loop : Scf.Loop 32 :=
  let c0_i32_15 : BitVec 32 := 0#32
  let c16_i32_16 : BitVec 32 := 16#32
  let v16 : BitVec 32 := Scalar.addi c0_i32_15 c16_i32_16
  let c1_i32_17 : BitVec 32 := 1#32
  ⟨c0_i32_15, v16, c1_i32_17⟩
@[reducible] def k0_t3_loop : Scf.Loop 32 :=
  let c0_i32_37 : BitVec 32 := 0#32
  let c6_i32 : BitVec 32 := 6#32
  let v43 : BitVec 32 := Scalar.addi c0_i32_37 c6_i32
  let c1_i32_38 : BitVec 32 := 1#32
  ⟨c0_i32_37, v43, c1_i32_38⟩
def k0_off3 (k0_t3 : Fin k0_t3_loop.trips) (c0_i32_182 : BitVec 32) : Fin 3 → Nat :=
  let c0_i32_183 : BitVec 32 := 0#32
  let v302 : Index := Scalar.indexCast c0_i32_183
  let c0_i32_37 : BitVec 32 := 0#32
  let c1_i32_38 : BitVec 32 := 1#32
  let arg10 : BitVec 32 := Scf.iv c0_i32_37 c1_i32_38 k0_t3
  let c8_i32_181 : BitVec 32 := 8#32
  let v300 : BitVec 32 := Scalar.muli arg10 c8_i32_181
  let v301 : BitVec 32 := Scalar.addi v300 c0_i32_182
  let v303 : Index := Scalar.indexCast v301
  let c0_184 : Index := 0#32
  ![0, v303.toNat, 0]
def k0_off4 (k0_t3 : Fin k0_t3_loop.trips) (c0_i32_182 : BitVec 32) : Fin 3 → Nat :=
  let c0_i32_185 : BitVec 32 := 0#32
  let v306 : Index := Scalar.indexCast c0_i32_185
  let c0_i32_37 : BitVec 32 := 0#32
  let c1_i32_38 : BitVec 32 := 1#32
  let arg10 : BitVec 32 := Scf.iv c0_i32_37 c1_i32_38 k0_t3
  let c8_i32_181 : BitVec 32 := 8#32
  let v300 : BitVec 32 := Scalar.muli arg10 c8_i32_181
  let v301 : BitVec 32 := Scalar.addi v300 c0_i32_182
  let v307 : Index := Scalar.indexCast v301
  let c16 : Index := 16#32
  ![0, v307.toNat, 16]
def k0_off5 (k0_t3 : Fin k0_t3_loop.trips) (c0_i32_182 : BitVec 32) : Fin 3 → Nat :=
  let c0_i32_186 : BitVec 32 := 0#32
  let v310 : Index := Scalar.indexCast c0_i32_186
  let c0_i32_37 : BitVec 32 := 0#32
  let c1_i32_38 : BitVec 32 := 1#32
  let arg10 : BitVec 32 := Scf.iv c0_i32_37 c1_i32_38 k0_t3
  let c8_i32_181 : BitVec 32 := 8#32
  let v300 : BitVec 32 := Scalar.muli arg10 c8_i32_181
  let v301 : BitVec 32 := Scalar.addi v300 c0_i32_182
  let v311 : Index := Scalar.indexCast v301
  let c32 : Index := 32#32
  ![0, v311.toNat, 32]
def k0_off6 (k0_t2 : Fin k0_t2_loop.trips) (c0_i32_21 : BitVec 32) (c0_i32_41 : BitVec 32) : Fin 2 → Nat :=
  let c0_i32_15 : BitVec 32 := 0#32
  let c1_i32_17 : BitVec 32 := 1#32
  let arg9 : BitVec 32 := Scf.iv c0_i32_15 c1_i32_17 k0_t2
  let c2_i32_20 : BitVec 32 := 2#32
  let v18 : BitVec 32 := Scalar.muli arg9 c2_i32_20
  let v19 : BitVec 32 := Scalar.addi v18 c0_i32_21
  let c0_i32_23 : BitVec 32 := 0#32
  let v21 : BitVec 1 := Scalar.cmpi .sgt v19 c0_i32_23
  let v22 : BitVec 32 := Scalar.extui v21
  let c0_i32_24 : BitVec 32 := 0#32
  let v23 : BitVec 1 := Scalar.cmpi .slt v19 c0_i32_24
  let v24 : BitVec 32 := Scalar.extui v23
  let v25 : BitVec 32 := Scalar.subi v22 v24
  let c2_i32_22 : BitVec 32 := 2#32
  let c0_i32_25 : BitVec 32 := 0#32
  let v26 : BitVec 1 := Scalar.cmpi .sgt c2_i32_22 c0_i32_25
  let v27 : BitVec 32 := Scalar.extui v26
  let c0_i32_26 : BitVec 32 := 0#32
  let v28 : BitVec 1 := Scalar.cmpi .slt c2_i32_22 c0_i32_26
  let v29 : BitVec 32 := Scalar.extui v28
  let v30 : BitVec 32 := Scalar.subi v27 v29
  let v31 : BitVec 1 := Scalar.cmpi .ne v25 v30
  let v32 : BitVec 32 := Scalar.remsi v19 c2_i32_22
  let c0_i32_27 : BitVec 32 := 0#32
  let v33 : BitVec 1 := Scalar.cmpi .ne v32 c0_i32_27
  let v34 : BitVec 1 := Scalar.andi v31 v33
  let v20 : BitVec 32 := Scalar.divsi v19 c2_i32_22
  let c1_i32_28 : BitVec 32 := 1#32
  let v35 : BitVec 32 := Scalar.subi v20 c1_i32_28
  let v36 : BitVec 32 := Scalar.select v34 v35 v20
  let c2_i32_29 : BitVec 32 := 2#32
  let v37 : BitVec 32 := Scalar.muli v36 c2_i32_29
  let v38 : BitVec 32 := Scalar.subi v19 v37
  let c8_i32_40 : BitVec 32 := 8#32
  let v45 : BitVec 32 := Scalar.muli v38 c8_i32_40
  let v46 : BitVec 32 := Scalar.addi v45 c0_i32_41
  let v47 : Index := Scalar.indexCast v46
  let c0 : Index := 0#32
  ![v47.toNat, 0]
@[reducible] def k0_t4_loop : Scf.Loop 32 :=
  let c0_i32_43 : BitVec 32 := 0#32
  let c6_i32_44 : BitVec 32 := 6#32
  let v57 : BitVec 32 := Scalar.addi c0_i32_43 c6_i32_44
  let c1_i32_45 : BitVec 32 := 1#32
  ⟨c0_i32_43, v57, c1_i32_45⟩
def k0_off7 (k0_t4 : Fin k0_t4_loop.trips) (c0_i32_182 : BitVec 32) : Fin 3 → Nat :=
  let c1_i32_183 : BitVec 32 := 1#32
  let v302 : Index := Scalar.indexCast c1_i32_183
  let c0_i32_43 : BitVec 32 := 0#32
  let c1_i32_45 : BitVec 32 := 1#32
  let arg10 : BitVec 32 := Scf.iv c0_i32_43 c1_i32_45 k0_t4
  let c8_i32_181 : BitVec 32 := 8#32
  let v300 : BitVec 32 := Scalar.muli arg10 c8_i32_181
  let v301 : BitVec 32 := Scalar.addi v300 c0_i32_182
  let v303 : Index := Scalar.indexCast v301
  let c0_184 : Index := 0#32
  ![1, v303.toNat, 0]
def k0_off8 (k0_t4 : Fin k0_t4_loop.trips) (c0_i32_182 : BitVec 32) : Fin 3 → Nat :=
  let c1_i32_185 : BitVec 32 := 1#32
  let v306 : Index := Scalar.indexCast c1_i32_185
  let c0_i32_43 : BitVec 32 := 0#32
  let c1_i32_45 : BitVec 32 := 1#32
  let arg10 : BitVec 32 := Scf.iv c0_i32_43 c1_i32_45 k0_t4
  let c8_i32_181 : BitVec 32 := 8#32
  let v300 : BitVec 32 := Scalar.muli arg10 c8_i32_181
  let v301 : BitVec 32 := Scalar.addi v300 c0_i32_182
  let v307 : Index := Scalar.indexCast v301
  let c16 : Index := 16#32
  ![1, v307.toNat, 16]
def k0_off9 (k0_t4 : Fin k0_t4_loop.trips) (c0_i32_182 : BitVec 32) : Fin 3 → Nat :=
  let c1_i32_186 : BitVec 32 := 1#32
  let v310 : Index := Scalar.indexCast c1_i32_186
  let c0_i32_43 : BitVec 32 := 0#32
  let c1_i32_45 : BitVec 32 := 1#32
  let arg10 : BitVec 32 := Scf.iv c0_i32_43 c1_i32_45 k0_t4
  let c8_i32_181 : BitVec 32 := 8#32
  let v300 : BitVec 32 := Scalar.muli arg10 c8_i32_181
  let v301 : BitVec 32 := Scalar.addi v300 c0_i32_182
  let v311 : Index := Scalar.indexCast v301
  let c32 : Index := 32#32
  ![1, v311.toNat, 32]
@[reducible] def k0_t5_loop : Scf.Loop 32 :=
  let c0_i32_51 : BitVec 32 := 0#32
  let c6_i32_52 : BitVec 32 := 6#32
  let v71 : BitVec 32 := Scalar.addi c0_i32_51 c6_i32_52
  let c1_i32_53 : BitVec 32 := 1#32
  ⟨c0_i32_51, v71, c1_i32_53⟩
def k0_off10 (k0_t5 : Fin k0_t5_loop.trips) (c0_i32_182 : BitVec 32) : Fin 3 → Nat :=
  let c2_i32_183 : BitVec 32 := 2#32
  let v302 : Index := Scalar.indexCast c2_i32_183
  let c0_i32_51 : BitVec 32 := 0#32
  let c1_i32_53 : BitVec 32 := 1#32
  let arg10 : BitVec 32 := Scf.iv c0_i32_51 c1_i32_53 k0_t5
  let c8_i32_181 : BitVec 32 := 8#32
  let v300 : BitVec 32 := Scalar.muli arg10 c8_i32_181
  let v301 : BitVec 32 := Scalar.addi v300 c0_i32_182
  let v303 : Index := Scalar.indexCast v301
  let c0_184 : Index := 0#32
  ![2, v303.toNat, 0]
def k0_off11 (k0_t5 : Fin k0_t5_loop.trips) (c0_i32_182 : BitVec 32) : Fin 3 → Nat :=
  let c2_i32_185 : BitVec 32 := 2#32
  let v306 : Index := Scalar.indexCast c2_i32_185
  let c0_i32_51 : BitVec 32 := 0#32
  let c1_i32_53 : BitVec 32 := 1#32
  let arg10 : BitVec 32 := Scf.iv c0_i32_51 c1_i32_53 k0_t5
  let c8_i32_181 : BitVec 32 := 8#32
  let v300 : BitVec 32 := Scalar.muli arg10 c8_i32_181
  let v301 : BitVec 32 := Scalar.addi v300 c0_i32_182
  let v307 : Index := Scalar.indexCast v301
  let c16 : Index := 16#32
  ![2, v307.toNat, 16]
def k0_off12 (k0_t5 : Fin k0_t5_loop.trips) (c0_i32_182 : BitVec 32) : Fin 3 → Nat :=
  let c2_i32_186 : BitVec 32 := 2#32
  let v310 : Index := Scalar.indexCast c2_i32_186
  let c0_i32_51 : BitVec 32 := 0#32
  let c1_i32_53 : BitVec 32 := 1#32
  let arg10 : BitVec 32 := Scf.iv c0_i32_51 c1_i32_53 k0_t5
  let c8_i32_181 : BitVec 32 := 8#32
  let v300 : BitVec 32 := Scalar.muli arg10 c8_i32_181
  let v301 : BitVec 32 := Scalar.addi v300 c0_i32_182
  let v311 : Index := Scalar.indexCast v301
  let c32 : Index := 32#32
  ![2, v311.toNat, 32]
@[reducible] def k0_t6_loop : Scf.Loop 32 :=
  let c0_i32_59 : BitVec 32 := 0#32
  let c6_i32_60 : BitVec 32 := 6#32
  let v85 : BitVec 32 := Scalar.addi c0_i32_59 c6_i32_60
  let c1_i32_61 : BitVec 32 := 1#32
  ⟨c0_i32_59, v85, c1_i32_61⟩
def k0_off13 (k0_t6 : Fin k0_t6_loop.trips) (c0_i32_182 : BitVec 32) : Fin 3 → Nat :=
  let c3_i32_183 : BitVec 32 := 3#32
  let v302 : Index := Scalar.indexCast c3_i32_183
  let c0_i32_59 : BitVec 32 := 0#32
  let c1_i32_61 : BitVec 32 := 1#32
  let arg10 : BitVec 32 := Scf.iv c0_i32_59 c1_i32_61 k0_t6
  let c8_i32_181 : BitVec 32 := 8#32
  let v300 : BitVec 32 := Scalar.muli arg10 c8_i32_181
  let v301 : BitVec 32 := Scalar.addi v300 c0_i32_182
  let v303 : Index := Scalar.indexCast v301
  let c0_184 : Index := 0#32
  ![3, v303.toNat, 0]
def k0_off14 (k0_t6 : Fin k0_t6_loop.trips) (c0_i32_182 : BitVec 32) : Fin 3 → Nat :=
  let c3_i32_185 : BitVec 32 := 3#32
  let v306 : Index := Scalar.indexCast c3_i32_185
  let c0_i32_59 : BitVec 32 := 0#32
  let c1_i32_61 : BitVec 32 := 1#32
  let arg10 : BitVec 32 := Scf.iv c0_i32_59 c1_i32_61 k0_t6
  let c8_i32_181 : BitVec 32 := 8#32
  let v300 : BitVec 32 := Scalar.muli arg10 c8_i32_181
  let v301 : BitVec 32 := Scalar.addi v300 c0_i32_182
  let v307 : Index := Scalar.indexCast v301
  let c16 : Index := 16#32
  ![3, v307.toNat, 16]
def k0_off15 (k0_t6 : Fin k0_t6_loop.trips) (c0_i32_182 : BitVec 32) : Fin 3 → Nat :=
  let c3_i32_186 : BitVec 32 := 3#32
  let v310 : Index := Scalar.indexCast c3_i32_186
  let c0_i32_59 : BitVec 32 := 0#32
  let c1_i32_61 : BitVec 32 := 1#32
  let arg10 : BitVec 32 := Scf.iv c0_i32_59 c1_i32_61 k0_t6
  let c8_i32_181 : BitVec 32 := 8#32
  let v300 : BitVec 32 := Scalar.muli arg10 c8_i32_181
  let v301 : BitVec 32 := Scalar.addi v300 c0_i32_182
  let v311 : Index := Scalar.indexCast v301
  let c32 : Index := 32#32
  ![3, v311.toNat, 32]
@[reducible] def k0_t7_loop : Scf.Loop 32 :=
  let c0_i32_66 : BitVec 32 := 0#32
  let c6_i32_67 : BitVec 32 := 6#32
  let v99 : BitVec 32 := Scalar.addi c0_i32_66 c6_i32_67
  let c1_i32_68 : BitVec 32 := 1#32
  ⟨c0_i32_66, v99, c1_i32_68⟩
def k0_off16 (k0_t7 : Fin k0_t7_loop.trips) (c0_i32_182 : BitVec 32) : Fin 3 → Nat :=
  let c4_i32_183 : BitVec 32 := 4#32
  let v302 : Index := Scalar.indexCast c4_i32_183
  let c0_i32_66 : BitVec 32 := 0#32
  let c1_i32_68 : BitVec 32 := 1#32
  let arg10 : BitVec 32 := Scf.iv c0_i32_66 c1_i32_68 k0_t7
  let c8_i32_181 : BitVec 32 := 8#32
  let v300 : BitVec 32 := Scalar.muli arg10 c8_i32_181
  let v301 : BitVec 32 := Scalar.addi v300 c0_i32_182
  let v303 : Index := Scalar.indexCast v301
  let c0_184 : Index := 0#32
  ![4, v303.toNat, 0]
def k0_off17 (k0_t7 : Fin k0_t7_loop.trips) (c0_i32_182 : BitVec 32) : Fin 3 → Nat :=
  let c4_i32_185 : BitVec 32 := 4#32
  let v306 : Index := Scalar.indexCast c4_i32_185
  let c0_i32_66 : BitVec 32 := 0#32
  let c1_i32_68 : BitVec 32 := 1#32
  let arg10 : BitVec 32 := Scf.iv c0_i32_66 c1_i32_68 k0_t7
  let c8_i32_181 : BitVec 32 := 8#32
  let v300 : BitVec 32 := Scalar.muli arg10 c8_i32_181
  let v301 : BitVec 32 := Scalar.addi v300 c0_i32_182
  let v307 : Index := Scalar.indexCast v301
  let c16 : Index := 16#32
  ![4, v307.toNat, 16]
def k0_off18 (k0_t7 : Fin k0_t7_loop.trips) (c0_i32_182 : BitVec 32) : Fin 3 → Nat :=
  let c4_i32_186 : BitVec 32 := 4#32
  let v310 : Index := Scalar.indexCast c4_i32_186
  let c0_i32_66 : BitVec 32 := 0#32
  let c1_i32_68 : BitVec 32 := 1#32
  let arg10 : BitVec 32 := Scf.iv c0_i32_66 c1_i32_68 k0_t7
  let c8_i32_181 : BitVec 32 := 8#32
  let v300 : BitVec 32 := Scalar.muli arg10 c8_i32_181
  let v301 : BitVec 32 := Scalar.addi v300 c0_i32_182
  let v311 : Index := Scalar.indexCast v301
  let c32 : Index := 32#32
  ![4, v311.toNat, 32]
@[reducible] def k0_t8_loop : Scf.Loop 32 :=
  let c0_i32_73 : BitVec 32 := 0#32
  let c6_i32_74 : BitVec 32 := 6#32
  let v113 : BitVec 32 := Scalar.addi c0_i32_73 c6_i32_74
  let c1_i32_75 : BitVec 32 := 1#32
  ⟨c0_i32_73, v113, c1_i32_75⟩
def k0_off19 (k0_t8 : Fin k0_t8_loop.trips) (c0_i32_182 : BitVec 32) : Fin 3 → Nat :=
  let c5_i32_183 : BitVec 32 := 5#32
  let v302 : Index := Scalar.indexCast c5_i32_183
  let c0_i32_73 : BitVec 32 := 0#32
  let c1_i32_75 : BitVec 32 := 1#32
  let arg10 : BitVec 32 := Scf.iv c0_i32_73 c1_i32_75 k0_t8
  let c8_i32_181 : BitVec 32 := 8#32
  let v300 : BitVec 32 := Scalar.muli arg10 c8_i32_181
  let v301 : BitVec 32 := Scalar.addi v300 c0_i32_182
  let v303 : Index := Scalar.indexCast v301
  let c0_184 : Index := 0#32
  ![5, v303.toNat, 0]
def k0_off20 (k0_t8 : Fin k0_t8_loop.trips) (c0_i32_182 : BitVec 32) : Fin 3 → Nat :=
  let c5_i32_185 : BitVec 32 := 5#32
  let v306 : Index := Scalar.indexCast c5_i32_185
  let c0_i32_73 : BitVec 32 := 0#32
  let c1_i32_75 : BitVec 32 := 1#32
  let arg10 : BitVec 32 := Scf.iv c0_i32_73 c1_i32_75 k0_t8
  let c8_i32_181 : BitVec 32 := 8#32
  let v300 : BitVec 32 := Scalar.muli arg10 c8_i32_181
  let v301 : BitVec 32 := Scalar.addi v300 c0_i32_182
  let v307 : Index := Scalar.indexCast v301
  let c16 : Index := 16#32
  ![5, v307.toNat, 16]
def k0_off21 (k0_t8 : Fin k0_t8_loop.trips) (c0_i32_182 : BitVec 32) : Fin 3 → Nat :=
  let c5_i32_186 : BitVec 32 := 5#32
  let v310 : Index := Scalar.indexCast c5_i32_186
  let c0_i32_73 : BitVec 32 := 0#32
  let c1_i32_75 : BitVec 32 := 1#32
  let arg10 : BitVec 32 := Scf.iv c0_i32_73 c1_i32_75 k0_t8
  let c8_i32_181 : BitVec 32 := 8#32
  let v300 : BitVec 32 := Scalar.muli arg10 c8_i32_181
  let v301 : BitVec 32 := Scalar.addi v300 c0_i32_182
  let v311 : Index := Scalar.indexCast v301
  let c32 : Index := 32#32
  ![5, v311.toNat, 32]
@[reducible] def k0_t9_loop : Scf.Loop 32 :=
  let c0_i32_80 : BitVec 32 := 0#32
  let c6_i32_81 : BitVec 32 := 6#32
  let v127 : BitVec 32 := Scalar.addi c0_i32_80 c6_i32_81
  let c1_i32_82 : BitVec 32 := 1#32
  ⟨c0_i32_80, v127, c1_i32_82⟩
def k0_off22 (k0_t9 : Fin k0_t9_loop.trips) (c0_i32_182 : BitVec 32) : Fin 3 → Nat :=
  let c6_i32_183 : BitVec 32 := 6#32
  let v302 : Index := Scalar.indexCast c6_i32_183
  let c0_i32_80 : BitVec 32 := 0#32
  let c1_i32_82 : BitVec 32 := 1#32
  let arg10 : BitVec 32 := Scf.iv c0_i32_80 c1_i32_82 k0_t9
  let c8_i32_181 : BitVec 32 := 8#32
  let v300 : BitVec 32 := Scalar.muli arg10 c8_i32_181
  let v301 : BitVec 32 := Scalar.addi v300 c0_i32_182
  let v303 : Index := Scalar.indexCast v301
  let c0_184 : Index := 0#32
  ![6, v303.toNat, 0]
def k0_off23 (k0_t9 : Fin k0_t9_loop.trips) (c0_i32_182 : BitVec 32) : Fin 3 → Nat :=
  let c6_i32_185 : BitVec 32 := 6#32
  let v306 : Index := Scalar.indexCast c6_i32_185
  let c0_i32_80 : BitVec 32 := 0#32
  let c1_i32_82 : BitVec 32 := 1#32
  let arg10 : BitVec 32 := Scf.iv c0_i32_80 c1_i32_82 k0_t9
  let c8_i32_181 : BitVec 32 := 8#32
  let v300 : BitVec 32 := Scalar.muli arg10 c8_i32_181
  let v301 : BitVec 32 := Scalar.addi v300 c0_i32_182
  let v307 : Index := Scalar.indexCast v301
  let c16 : Index := 16#32
  ![6, v307.toNat, 16]
def k0_off24 (k0_t9 : Fin k0_t9_loop.trips) (c0_i32_182 : BitVec 32) : Fin 3 → Nat :=
  let c6_i32_186 : BitVec 32 := 6#32
  let v310 : Index := Scalar.indexCast c6_i32_186
  let c0_i32_80 : BitVec 32 := 0#32
  let c1_i32_82 : BitVec 32 := 1#32
  let arg10 : BitVec 32 := Scf.iv c0_i32_80 c1_i32_82 k0_t9
  let c8_i32_181 : BitVec 32 := 8#32
  let v300 : BitVec 32 := Scalar.muli arg10 c8_i32_181
  let v301 : BitVec 32 := Scalar.addi v300 c0_i32_182
  let v311 : Index := Scalar.indexCast v301
  let c32 : Index := 32#32
  ![6, v311.toNat, 32]
@[reducible] def k0_t10_loop : Scf.Loop 32 :=
  let c0_i32_88 : BitVec 32 := 0#32
  let c6_i32_89 : BitVec 32 := 6#32
  let v141 : BitVec 32 := Scalar.addi c0_i32_88 c6_i32_89
  let c1_i32_90 : BitVec 32 := 1#32
  ⟨c0_i32_88, v141, c1_i32_90⟩
def k0_off25 (k0_t10 : Fin k0_t10_loop.trips) (c0_i32_182 : BitVec 32) : Fin 3 → Nat :=
  let c7_i32_183 : BitVec 32 := 7#32
  let v302 : Index := Scalar.indexCast c7_i32_183
  let c0_i32_88 : BitVec 32 := 0#32
  let c1_i32_90 : BitVec 32 := 1#32
  let arg10 : BitVec 32 := Scf.iv c0_i32_88 c1_i32_90 k0_t10
  let c8_i32_181 : BitVec 32 := 8#32
  let v300 : BitVec 32 := Scalar.muli arg10 c8_i32_181
  let v301 : BitVec 32 := Scalar.addi v300 c0_i32_182
  let v303 : Index := Scalar.indexCast v301
  let c0_184 : Index := 0#32
  ![7, v303.toNat, 0]
def k0_off26 (k0_t10 : Fin k0_t10_loop.trips) (c0_i32_182 : BitVec 32) : Fin 3 → Nat :=
  let c7_i32_185 : BitVec 32 := 7#32
  let v306 : Index := Scalar.indexCast c7_i32_185
  let c0_i32_88 : BitVec 32 := 0#32
  let c1_i32_90 : BitVec 32 := 1#32
  let arg10 : BitVec 32 := Scf.iv c0_i32_88 c1_i32_90 k0_t10
  let c8_i32_181 : BitVec 32 := 8#32
  let v300 : BitVec 32 := Scalar.muli arg10 c8_i32_181
  let v301 : BitVec 32 := Scalar.addi v300 c0_i32_182
  let v307 : Index := Scalar.indexCast v301
  let c16 : Index := 16#32
  ![7, v307.toNat, 16]
def k0_off27 (k0_t10 : Fin k0_t10_loop.trips) (c0_i32_182 : BitVec 32) : Fin 3 → Nat :=
  let c7_i32_186 : BitVec 32 := 7#32
  let v310 : Index := Scalar.indexCast c7_i32_186
  let c0_i32_88 : BitVec 32 := 0#32
  let c1_i32_90 : BitVec 32 := 1#32
  let arg10 : BitVec 32 := Scf.iv c0_i32_88 c1_i32_90 k0_t10
  let c8_i32_181 : BitVec 32 := 8#32
  let v300 : BitVec 32 := Scalar.muli arg10 c8_i32_181
  let v301 : BitVec 32 := Scalar.addi v300 c0_i32_182
  let v311 : Index := Scalar.indexCast v301
  let c32 : Index := 32#32
  ![7, v311.toNat, 32]
def k0_cond1 (k0_t2 : Fin k0_t2_loop.trips) : BitVec 1 :=
  let c0_i32_15 : BitVec 32 := 0#32
  let c1_i32_17 : BitVec 32 := 1#32
  let arg9 : BitVec 32 := Scf.iv c0_i32_15 c1_i32_17 k0_t2
  let c2_i32_20 : BitVec 32 := 2#32
  let v18 : BitVec 32 := Scalar.muli arg9 c2_i32_20
  let c0_i32_21 : BitVec 32 := 0#32
  let v19 : BitVec 32 := Scalar.addi v18 c0_i32_21
  let c2_i32_95 : BitVec 32 := 2#32
  let v155 : BitVec 32 := Scalar.addi v19 c2_i32_95
  let c32_i32 : BitVec 32 := 32#32
  let v156 : BitVec 1 := Scalar.cmpi .slt v155 c32_i32
  let v157 : BitVec 32 := Scalar.extui v156
  let c0_i32_96 : BitVec 32 := 0#32
  let v158 : BitVec 1 := Scalar.cmpi .ne v157 c0_i32_96
  v158

def k0_off28 (i : grid0.Coords) (k0_t2 : Fin k0_t2_loop.trips) : Fin 4 → Nat :=
  let c0_i32_15 : BitVec 32 := 0#32
  let c1_i32_17 : BitVec 32 := 1#32
  let arg9 : BitVec 32 := Scf.iv c0_i32_15 c1_i32_17 k0_t2
  let c2_i32_20 : BitVec 32 := 2#32
  let v18 : BitVec 32 := Scalar.muli arg9 c2_i32_20
  let c0_i32_21 : BitVec 32 := 0#32
  let v19 : BitVec 32 := Scalar.addi v18 c0_i32_21
  let c2_i32_181 : BitVec 32 := 2#32
  let v300 : BitVec 32 := Scalar.addi v19 c2_i32_181
  let c0_i32_183 : BitVec 32 := 0#32
  let v302 : BitVec 1 := Scalar.cmpi .sgt v300 c0_i32_183
  let v303 : BitVec 32 := Scalar.extui v302
  let c0_i32_184 : BitVec 32 := 0#32
  let v304 : BitVec 1 := Scalar.cmpi .slt v300 c0_i32_184
  let v305 : BitVec 32 := Scalar.extui v304
  let v306 : BitVec 32 := Scalar.subi v303 v305
  let c2_i32_182 : BitVec 32 := 2#32
  let c0_i32_185 : BitVec 32 := 0#32
  let v307 : BitVec 1 := Scalar.cmpi .sgt c2_i32_182 c0_i32_185
  let v308 : BitVec 32 := Scalar.extui v307
  let c0_i32_186 : BitVec 32 := 0#32
  let v309 : BitVec 1 := Scalar.cmpi .slt c2_i32_182 c0_i32_186
  let v310 : BitVec 32 := Scalar.extui v309
  let v311 : BitVec 32 := Scalar.subi v308 v310
  let v312 : BitVec 1 := Scalar.cmpi .ne v306 v311
  let v313 : BitVec 32 := Scalar.remsi v300 c2_i32_182
  let c0_i32_187 : BitVec 32 := 0#32
  let v314 : BitVec 1 := Scalar.cmpi .ne v313 c0_i32_187
  let v315 : BitVec 1 := Scalar.andi v312 v314
  let v301 : BitVec 32 := Scalar.divsi v300 c2_i32_182
  let c1_i32_188 : BitVec 32 := 1#32
  let v316 : BitVec 32 := Scalar.subi v301 c1_i32_188
  let v317 : BitVec 32 := Scalar.select v315 v316 v301
  let c256_i32 : BitVec 32 := 256#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let v3 : BitVec 32 := Scalar.addi c256_i32 v2
  let c2_i32_189 : BitVec 32 := 2#32
  let v318 : BitVec 32 := Scalar.muli v317 c2_i32_189
  let v319 : BitVec 32 := Scalar.subi v300 v318
  let c8_i32_190 : BitVec 32 := 8#32
  let v320 : BitVec 32 := Scalar.muli v319 c8_i32_190
  let v321 : BitVec 32 := Scalar.addi v3 v320
  let c0_i32_191 : BitVec 32 := 0#32
  let c0_i32_192 : BitVec 32 := 0#32
  ![v317.toNat, v321.toNat, 0, 0]
@[reducible] def k0_t11_loop : Scf.Loop 32 :=
  let c0_i32_114 : BitVec 32 := 0#32
  let c6_i32_115 : BitVec 32 := 6#32
  let v184 : BitVec 32 := Scalar.addi c0_i32_114 c6_i32_115
  let c1_i32_116 : BitVec 32 := 1#32
  ⟨c0_i32_114, v184, c1_i32_116⟩
def k0_off29 (k0_t11 : Fin k0_t11_loop.trips) (c0_i32_182 : BitVec 32) : Fin 3 → Nat :=
  let c0_i32_183 : BitVec 32 := 0#32
  let v302 : Index := Scalar.indexCast c0_i32_183
  let c0_i32_114 : BitVec 32 := 0#32
  let c1_i32_116 : BitVec 32 := 1#32
  let arg10 : BitVec 32 := Scf.iv c0_i32_114 c1_i32_116 k0_t11
  let c8_i32_181 : BitVec 32 := 8#32
  let v300 : BitVec 32 := Scalar.muli arg10 c8_i32_181
  let v301 : BitVec 32 := Scalar.addi v300 c0_i32_182
  let v303 : Index := Scalar.indexCast v301
  let c0_184 : Index := 0#32
  ![0, v303.toNat, 0]
def k0_off30 (k0_t11 : Fin k0_t11_loop.trips) (c0_i32_182 : BitVec 32) : Fin 3 → Nat :=
  let c0_i32_185 : BitVec 32 := 0#32
  let v306 : Index := Scalar.indexCast c0_i32_185
  let c0_i32_114 : BitVec 32 := 0#32
  let c1_i32_116 : BitVec 32 := 1#32
  let arg10 : BitVec 32 := Scf.iv c0_i32_114 c1_i32_116 k0_t11
  let c8_i32_181 : BitVec 32 := 8#32
  let v300 : BitVec 32 := Scalar.muli arg10 c8_i32_181
  let v301 : BitVec 32 := Scalar.addi v300 c0_i32_182
  let v307 : Index := Scalar.indexCast v301
  let c16 : Index := 16#32
  ![0, v307.toNat, 16]
def k0_off31 (k0_t11 : Fin k0_t11_loop.trips) (c0_i32_182 : BitVec 32) : Fin 3 → Nat :=
  let c0_i32_186 : BitVec 32 := 0#32
  let v310 : Index := Scalar.indexCast c0_i32_186
  let c0_i32_114 : BitVec 32 := 0#32
  let c1_i32_116 : BitVec 32 := 1#32
  let arg10 : BitVec 32 := Scf.iv c0_i32_114 c1_i32_116 k0_t11
  let c8_i32_181 : BitVec 32 := 8#32
  let v300 : BitVec 32 := Scalar.muli arg10 c8_i32_181
  let v301 : BitVec 32 := Scalar.addi v300 c0_i32_182
  let v311 : Index := Scalar.indexCast v301
  let c32 : Index := 32#32
  ![0, v311.toNat, 32]
@[reducible] def k0_t12_loop : Scf.Loop 32 :=
  let c0_i32_122 : BitVec 32 := 0#32
  let c6_i32_123 : BitVec 32 := 6#32
  let v198 : BitVec 32 := Scalar.addi c0_i32_122 c6_i32_123
  let c1_i32_124 : BitVec 32 := 1#32
  ⟨c0_i32_122, v198, c1_i32_124⟩
def k0_off32 (k0_t12 : Fin k0_t12_loop.trips) (c0_i32_182 : BitVec 32) : Fin 3 → Nat :=
  let c1_i32_183 : BitVec 32 := 1#32
  let v302 : Index := Scalar.indexCast c1_i32_183
  let c0_i32_122 : BitVec 32 := 0#32
  let c1_i32_124 : BitVec 32 := 1#32
  let arg10 : BitVec 32 := Scf.iv c0_i32_122 c1_i32_124 k0_t12
  let c8_i32_181 : BitVec 32 := 8#32
  let v300 : BitVec 32 := Scalar.muli arg10 c8_i32_181
  let v301 : BitVec 32 := Scalar.addi v300 c0_i32_182
  let v303 : Index := Scalar.indexCast v301
  let c0_184 : Index := 0#32
  ![1, v303.toNat, 0]
def k0_off33 (k0_t12 : Fin k0_t12_loop.trips) (c0_i32_182 : BitVec 32) : Fin 3 → Nat :=
  let c1_i32_185 : BitVec 32 := 1#32
  let v306 : Index := Scalar.indexCast c1_i32_185
  let c0_i32_122 : BitVec 32 := 0#32
  let c1_i32_124 : BitVec 32 := 1#32
  let arg10 : BitVec 32 := Scf.iv c0_i32_122 c1_i32_124 k0_t12
  let c8_i32_181 : BitVec 32 := 8#32
  let v300 : BitVec 32 := Scalar.muli arg10 c8_i32_181
  let v301 : BitVec 32 := Scalar.addi v300 c0_i32_182
  let v307 : Index := Scalar.indexCast v301
  let c16 : Index := 16#32
  ![1, v307.toNat, 16]
def k0_off34 (k0_t12 : Fin k0_t12_loop.trips) (c0_i32_182 : BitVec 32) : Fin 3 → Nat :=
  let c1_i32_186 : BitVec 32 := 1#32
  let v310 : Index := Scalar.indexCast c1_i32_186
  let c0_i32_122 : BitVec 32 := 0#32
  let c1_i32_124 : BitVec 32 := 1#32
  let arg10 : BitVec 32 := Scf.iv c0_i32_122 c1_i32_124 k0_t12
  let c8_i32_181 : BitVec 32 := 8#32
  let v300 : BitVec 32 := Scalar.muli arg10 c8_i32_181
  let v301 : BitVec 32 := Scalar.addi v300 c0_i32_182
  let v311 : Index := Scalar.indexCast v301
  let c32 : Index := 32#32
  ![1, v311.toNat, 32]
@[reducible] def k0_t13_loop : Scf.Loop 32 :=
  let c0_i32_130 : BitVec 32 := 0#32
  let c6_i32_131 : BitVec 32 := 6#32
  let v212 : BitVec 32 := Scalar.addi c0_i32_130 c6_i32_131
  let c1_i32_132 : BitVec 32 := 1#32
  ⟨c0_i32_130, v212, c1_i32_132⟩
def k0_off35 (k0_t13 : Fin k0_t13_loop.trips) (c0_i32_182 : BitVec 32) : Fin 3 → Nat :=
  let c2_i32_183 : BitVec 32 := 2#32
  let v302 : Index := Scalar.indexCast c2_i32_183
  let c0_i32_130 : BitVec 32 := 0#32
  let c1_i32_132 : BitVec 32 := 1#32
  let arg10 : BitVec 32 := Scf.iv c0_i32_130 c1_i32_132 k0_t13
  let c8_i32_181 : BitVec 32 := 8#32
  let v300 : BitVec 32 := Scalar.muli arg10 c8_i32_181
  let v301 : BitVec 32 := Scalar.addi v300 c0_i32_182
  let v303 : Index := Scalar.indexCast v301
  let c0_184 : Index := 0#32
  ![2, v303.toNat, 0]
def k0_off36 (k0_t13 : Fin k0_t13_loop.trips) (c0_i32_182 : BitVec 32) : Fin 3 → Nat :=
  let c2_i32_185 : BitVec 32 := 2#32
  let v306 : Index := Scalar.indexCast c2_i32_185
  let c0_i32_130 : BitVec 32 := 0#32
  let c1_i32_132 : BitVec 32 := 1#32
  let arg10 : BitVec 32 := Scf.iv c0_i32_130 c1_i32_132 k0_t13
  let c8_i32_181 : BitVec 32 := 8#32
  let v300 : BitVec 32 := Scalar.muli arg10 c8_i32_181
  let v301 : BitVec 32 := Scalar.addi v300 c0_i32_182
  let v307 : Index := Scalar.indexCast v301
  let c16 : Index := 16#32
  ![2, v307.toNat, 16]
def k0_off37 (k0_t13 : Fin k0_t13_loop.trips) (c0_i32_182 : BitVec 32) : Fin 3 → Nat :=
  let c2_i32_186 : BitVec 32 := 2#32
  let v310 : Index := Scalar.indexCast c2_i32_186
  let c0_i32_130 : BitVec 32 := 0#32
  let c1_i32_132 : BitVec 32 := 1#32
  let arg10 : BitVec 32 := Scf.iv c0_i32_130 c1_i32_132 k0_t13
  let c8_i32_181 : BitVec 32 := 8#32
  let v300 : BitVec 32 := Scalar.muli arg10 c8_i32_181
  let v301 : BitVec 32 := Scalar.addi v300 c0_i32_182
  let v311 : Index := Scalar.indexCast v301
  let c32 : Index := 32#32
  ![2, v311.toNat, 32]
@[reducible] def k0_t14_loop : Scf.Loop 32 :=
  let c0_i32_138 : BitVec 32 := 0#32
  let c6_i32_139 : BitVec 32 := 6#32
  let v226 : BitVec 32 := Scalar.addi c0_i32_138 c6_i32_139
  let c1_i32_140 : BitVec 32 := 1#32
  ⟨c0_i32_138, v226, c1_i32_140⟩
def k0_off38 (k0_t14 : Fin k0_t14_loop.trips) (c0_i32_182 : BitVec 32) : Fin 3 → Nat :=
  let c3_i32_183 : BitVec 32 := 3#32
  let v302 : Index := Scalar.indexCast c3_i32_183
  let c0_i32_138 : BitVec 32 := 0#32
  let c1_i32_140 : BitVec 32 := 1#32
  let arg10 : BitVec 32 := Scf.iv c0_i32_138 c1_i32_140 k0_t14
  let c8_i32_181 : BitVec 32 := 8#32
  let v300 : BitVec 32 := Scalar.muli arg10 c8_i32_181
  let v301 : BitVec 32 := Scalar.addi v300 c0_i32_182
  let v303 : Index := Scalar.indexCast v301
  let c0_184 : Index := 0#32
  ![3, v303.toNat, 0]
def k0_off39 (k0_t14 : Fin k0_t14_loop.trips) (c0_i32_182 : BitVec 32) : Fin 3 → Nat :=
  let c3_i32_185 : BitVec 32 := 3#32
  let v306 : Index := Scalar.indexCast c3_i32_185
  let c0_i32_138 : BitVec 32 := 0#32
  let c1_i32_140 : BitVec 32 := 1#32
  let arg10 : BitVec 32 := Scf.iv c0_i32_138 c1_i32_140 k0_t14
  let c8_i32_181 : BitVec 32 := 8#32
  let v300 : BitVec 32 := Scalar.muli arg10 c8_i32_181
  let v301 : BitVec 32 := Scalar.addi v300 c0_i32_182
  let v307 : Index := Scalar.indexCast v301
  let c16 : Index := 16#32
  ![3, v307.toNat, 16]
def k0_off40 (k0_t14 : Fin k0_t14_loop.trips) (c0_i32_182 : BitVec 32) : Fin 3 → Nat :=
  let c3_i32_186 : BitVec 32 := 3#32
  let v310 : Index := Scalar.indexCast c3_i32_186
  let c0_i32_138 : BitVec 32 := 0#32
  let c1_i32_140 : BitVec 32 := 1#32
  let arg10 : BitVec 32 := Scf.iv c0_i32_138 c1_i32_140 k0_t14
  let c8_i32_181 : BitVec 32 := 8#32
  let v300 : BitVec 32 := Scalar.muli arg10 c8_i32_181
  let v301 : BitVec 32 := Scalar.addi v300 c0_i32_182
  let v311 : Index := Scalar.indexCast v301
  let c32 : Index := 32#32
  ![3, v311.toNat, 32]
@[reducible] def k0_t15_loop : Scf.Loop 32 :=
  let c0_i32_146 : BitVec 32 := 0#32
  let c6_i32_147 : BitVec 32 := 6#32
  let v240 : BitVec 32 := Scalar.addi c0_i32_146 c6_i32_147
  let c1_i32_148 : BitVec 32 := 1#32
  ⟨c0_i32_146, v240, c1_i32_148⟩
def k0_off41 (k0_t15 : Fin k0_t15_loop.trips) (c0_i32_182 : BitVec 32) : Fin 3 → Nat :=
  let c4_i32_183 : BitVec 32 := 4#32
  let v302 : Index := Scalar.indexCast c4_i32_183
  let c0_i32_146 : BitVec 32 := 0#32
  let c1_i32_148 : BitVec 32 := 1#32
  let arg10 : BitVec 32 := Scf.iv c0_i32_146 c1_i32_148 k0_t15
  let c8_i32_181 : BitVec 32 := 8#32
  let v300 : BitVec 32 := Scalar.muli arg10 c8_i32_181
  let v301 : BitVec 32 := Scalar.addi v300 c0_i32_182
  let v303 : Index := Scalar.indexCast v301
  let c0_184 : Index := 0#32
  ![4, v303.toNat, 0]
def k0_off42 (k0_t15 : Fin k0_t15_loop.trips) (c0_i32_182 : BitVec 32) : Fin 3 → Nat :=
  let c4_i32_185 : BitVec 32 := 4#32
  let v306 : Index := Scalar.indexCast c4_i32_185
  let c0_i32_146 : BitVec 32 := 0#32
  let c1_i32_148 : BitVec 32 := 1#32
  let arg10 : BitVec 32 := Scf.iv c0_i32_146 c1_i32_148 k0_t15
  let c8_i32_181 : BitVec 32 := 8#32
  let v300 : BitVec 32 := Scalar.muli arg10 c8_i32_181
  let v301 : BitVec 32 := Scalar.addi v300 c0_i32_182
  let v307 : Index := Scalar.indexCast v301
  let c16 : Index := 16#32
  ![4, v307.toNat, 16]
def k0_off43 (k0_t15 : Fin k0_t15_loop.trips) (c0_i32_182 : BitVec 32) : Fin 3 → Nat :=
  let c4_i32_186 : BitVec 32 := 4#32
  let v310 : Index := Scalar.indexCast c4_i32_186
  let c0_i32_146 : BitVec 32 := 0#32
  let c1_i32_148 : BitVec 32 := 1#32
  let arg10 : BitVec 32 := Scf.iv c0_i32_146 c1_i32_148 k0_t15
  let c8_i32_181 : BitVec 32 := 8#32
  let v300 : BitVec 32 := Scalar.muli arg10 c8_i32_181
  let v301 : BitVec 32 := Scalar.addi v300 c0_i32_182
  let v311 : Index := Scalar.indexCast v301
  let c32 : Index := 32#32
  ![4, v311.toNat, 32]
@[reducible] def k0_t16_loop : Scf.Loop 32 :=
  let c0_i32_154 : BitVec 32 := 0#32
  let c6_i32_155 : BitVec 32 := 6#32
  let v254 : BitVec 32 := Scalar.addi c0_i32_154 c6_i32_155
  let c1_i32_156 : BitVec 32 := 1#32
  ⟨c0_i32_154, v254, c1_i32_156⟩
def k0_off44 (k0_t16 : Fin k0_t16_loop.trips) (c0_i32_182 : BitVec 32) : Fin 3 → Nat :=
  let c5_i32_183 : BitVec 32 := 5#32
  let v302 : Index := Scalar.indexCast c5_i32_183
  let c0_i32_154 : BitVec 32 := 0#32
  let c1_i32_156 : BitVec 32 := 1#32
  let arg10 : BitVec 32 := Scf.iv c0_i32_154 c1_i32_156 k0_t16
  let c8_i32_181 : BitVec 32 := 8#32
  let v300 : BitVec 32 := Scalar.muli arg10 c8_i32_181
  let v301 : BitVec 32 := Scalar.addi v300 c0_i32_182
  let v303 : Index := Scalar.indexCast v301
  let c0_184 : Index := 0#32
  ![5, v303.toNat, 0]
def k0_off45 (k0_t16 : Fin k0_t16_loop.trips) (c0_i32_182 : BitVec 32) : Fin 3 → Nat :=
  let c5_i32_185 : BitVec 32 := 5#32
  let v306 : Index := Scalar.indexCast c5_i32_185
  let c0_i32_154 : BitVec 32 := 0#32
  let c1_i32_156 : BitVec 32 := 1#32
  let arg10 : BitVec 32 := Scf.iv c0_i32_154 c1_i32_156 k0_t16
  let c8_i32_181 : BitVec 32 := 8#32
  let v300 : BitVec 32 := Scalar.muli arg10 c8_i32_181
  let v301 : BitVec 32 := Scalar.addi v300 c0_i32_182
  let v307 : Index := Scalar.indexCast v301
  let c16 : Index := 16#32
  ![5, v307.toNat, 16]
def k0_off46 (k0_t16 : Fin k0_t16_loop.trips) (c0_i32_182 : BitVec 32) : Fin 3 → Nat :=
  let c5_i32_186 : BitVec 32 := 5#32
  let v310 : Index := Scalar.indexCast c5_i32_186
  let c0_i32_154 : BitVec 32 := 0#32
  let c1_i32_156 : BitVec 32 := 1#32
  let arg10 : BitVec 32 := Scf.iv c0_i32_154 c1_i32_156 k0_t16
  let c8_i32_181 : BitVec 32 := 8#32
  let v300 : BitVec 32 := Scalar.muli arg10 c8_i32_181
  let v301 : BitVec 32 := Scalar.addi v300 c0_i32_182
  let v311 : Index := Scalar.indexCast v301
  let c32 : Index := 32#32
  ![5, v311.toNat, 32]
@[reducible] def k0_t17_loop : Scf.Loop 32 :=
  let c0_i32_162 : BitVec 32 := 0#32
  let c6_i32_163 : BitVec 32 := 6#32
  let v268 : BitVec 32 := Scalar.addi c0_i32_162 c6_i32_163
  let c1_i32_164 : BitVec 32 := 1#32
  ⟨c0_i32_162, v268, c1_i32_164⟩
def k0_off47 (k0_t17 : Fin k0_t17_loop.trips) (c0_i32_182 : BitVec 32) : Fin 3 → Nat :=
  let c6_i32_183 : BitVec 32 := 6#32
  let v302 : Index := Scalar.indexCast c6_i32_183
  let c0_i32_162 : BitVec 32 := 0#32
  let c1_i32_164 : BitVec 32 := 1#32
  let arg10 : BitVec 32 := Scf.iv c0_i32_162 c1_i32_164 k0_t17
  let c8_i32_181 : BitVec 32 := 8#32
  let v300 : BitVec 32 := Scalar.muli arg10 c8_i32_181
  let v301 : BitVec 32 := Scalar.addi v300 c0_i32_182
  let v303 : Index := Scalar.indexCast v301
  let c0_184 : Index := 0#32
  ![6, v303.toNat, 0]
def k0_off48 (k0_t17 : Fin k0_t17_loop.trips) (c0_i32_182 : BitVec 32) : Fin 3 → Nat :=
  let c6_i32_185 : BitVec 32 := 6#32
  let v306 : Index := Scalar.indexCast c6_i32_185
  let c0_i32_162 : BitVec 32 := 0#32
  let c1_i32_164 : BitVec 32 := 1#32
  let arg10 : BitVec 32 := Scf.iv c0_i32_162 c1_i32_164 k0_t17
  let c8_i32_181 : BitVec 32 := 8#32
  let v300 : BitVec 32 := Scalar.muli arg10 c8_i32_181
  let v301 : BitVec 32 := Scalar.addi v300 c0_i32_182
  let v307 : Index := Scalar.indexCast v301
  let c16 : Index := 16#32
  ![6, v307.toNat, 16]
def k0_off49 (k0_t17 : Fin k0_t17_loop.trips) (c0_i32_182 : BitVec 32) : Fin 3 → Nat :=
  let c6_i32_186 : BitVec 32 := 6#32
  let v310 : Index := Scalar.indexCast c6_i32_186
  let c0_i32_162 : BitVec 32 := 0#32
  let c1_i32_164 : BitVec 32 := 1#32
  let arg10 : BitVec 32 := Scf.iv c0_i32_162 c1_i32_164 k0_t17
  let c8_i32_181 : BitVec 32 := 8#32
  let v300 : BitVec 32 := Scalar.muli arg10 c8_i32_181
  let v301 : BitVec 32 := Scalar.addi v300 c0_i32_182
  let v311 : Index := Scalar.indexCast v301
  let c32 : Index := 32#32
  ![6, v311.toNat, 32]
@[reducible] def k0_t18_loop : Scf.Loop 32 :=
  let c0_i32_170 : BitVec 32 := 0#32
  let c6_i32_171 : BitVec 32 := 6#32
  let v282 : BitVec 32 := Scalar.addi c0_i32_170 c6_i32_171
  let c1_i32_172 : BitVec 32 := 1#32
  ⟨c0_i32_170, v282, c1_i32_172⟩
def k0_off50 (k0_t18 : Fin k0_t18_loop.trips) (c0_i32_182 : BitVec 32) : Fin 3 → Nat :=
  let c7_i32_183 : BitVec 32 := 7#32
  let v302 : Index := Scalar.indexCast c7_i32_183
  let c0_i32_170 : BitVec 32 := 0#32
  let c1_i32_172 : BitVec 32 := 1#32
  let arg10 : BitVec 32 := Scf.iv c0_i32_170 c1_i32_172 k0_t18
  let c8_i32_181 : BitVec 32 := 8#32
  let v300 : BitVec 32 := Scalar.muli arg10 c8_i32_181
  let v301 : BitVec 32 := Scalar.addi v300 c0_i32_182
  let v303 : Index := Scalar.indexCast v301
  let c0_184 : Index := 0#32
  ![7, v303.toNat, 0]
def k0_off51 (k0_t18 : Fin k0_t18_loop.trips) (c0_i32_182 : BitVec 32) : Fin 3 → Nat :=
  let c7_i32_185 : BitVec 32 := 7#32
  let v306 : Index := Scalar.indexCast c7_i32_185
  let c0_i32_170 : BitVec 32 := 0#32
  let c1_i32_172 : BitVec 32 := 1#32
  let arg10 : BitVec 32 := Scf.iv c0_i32_170 c1_i32_172 k0_t18
  let c8_i32_181 : BitVec 32 := 8#32
  let v300 : BitVec 32 := Scalar.muli arg10 c8_i32_181
  let v301 : BitVec 32 := Scalar.addi v300 c0_i32_182
  let v307 : Index := Scalar.indexCast v301
  let c16 : Index := 16#32
  ![7, v307.toNat, 16]
def k0_off52 (k0_t18 : Fin k0_t18_loop.trips) (c0_i32_182 : BitVec 32) : Fin 3 → Nat :=
  let c7_i32_186 : BitVec 32 := 7#32
  let v310 : Index := Scalar.indexCast c7_i32_186
  let c0_i32_170 : BitVec 32 := 0#32
  let c1_i32_172 : BitVec 32 := 1#32
  let arg10 : BitVec 32 := Scf.iv c0_i32_170 c1_i32_172 k0_t18
  let c8_i32_181 : BitVec 32 := 8#32
  let v300 : BitVec 32 := Scalar.muli arg10 c8_i32_181
  let v301 : BitVec 32 := Scalar.addi v300 c0_i32_182
  let v311 : Index := Scalar.indexCast v301
  let c32 : Index := 32#32
  ![7, v311.toNat, 32]
def k0_cond2 (k0_t2 : Fin k0_t2_loop.trips) : BitVec 1 :=
  let c0_i32_15 : BitVec 32 := 0#32
  let c1_i32_17 : BitVec 32 := 1#32
  let arg9 : BitVec 32 := Scf.iv c0_i32_15 c1_i32_17 k0_t2
  let c2_i32_97 : BitVec 32 := 2#32
  let v159 : BitVec 32 := Scalar.muli arg9 c2_i32_97
  let c1_i32_98 : BitVec 32 := 1#32
  let v160 : BitVec 32 := Scalar.addi v159 c1_i32_98
  let c2_i32_178 : BitVec 32 := 2#32
  let v296 : BitVec 32 := Scalar.addi v160 c2_i32_178
  let c32_i32_179 : BitVec 32 := 32#32
  let v297 : BitVec 1 := Scalar.cmpi .slt v296 c32_i32_179
  let v298 : BitVec 32 := Scalar.extui v297
  let c0_i32_180 : BitVec 32 := 0#32
  let v299 : BitVec 1 := Scalar.cmpi .ne v298 c0_i32_180
  v299

def k0_off53 (i : grid0.Coords) (k0_t2 : Fin k0_t2_loop.trips) : Fin 4 → Nat :=
  let c0_i32_15 : BitVec 32 := 0#32
  let c1_i32_17 : BitVec 32 := 1#32
  let arg9 : BitVec 32 := Scf.iv c0_i32_15 c1_i32_17 k0_t2
  let c2_i32_97 : BitVec 32 := 2#32
  let v159 : BitVec 32 := Scalar.muli arg9 c2_i32_97
  let c1_i32_98 : BitVec 32 := 1#32
  let v160 : BitVec 32 := Scalar.addi v159 c1_i32_98
  let c2_i32_181 : BitVec 32 := 2#32
  let v300 : BitVec 32 := Scalar.addi v160 c2_i32_181
  let c0_i32_183 : BitVec 32 := 0#32
  let v302 : BitVec 1 := Scalar.cmpi .sgt v300 c0_i32_183
  let v303 : BitVec 32 := Scalar.extui v302
  let c0_i32_184 : BitVec 32 := 0#32
  let v304 : BitVec 1 := Scalar.cmpi .slt v300 c0_i32_184
  let v305 : BitVec 32 := Scalar.extui v304
  let v306 : BitVec 32 := Scalar.subi v303 v305
  let c2_i32_182 : BitVec 32 := 2#32
  let c0_i32_185 : BitVec 32 := 0#32
  let v307 : BitVec 1 := Scalar.cmpi .sgt c2_i32_182 c0_i32_185
  let v308 : BitVec 32 := Scalar.extui v307
  let c0_i32_186 : BitVec 32 := 0#32
  let v309 : BitVec 1 := Scalar.cmpi .slt c2_i32_182 c0_i32_186
  let v310 : BitVec 32 := Scalar.extui v309
  let v311 : BitVec 32 := Scalar.subi v308 v310
  let v312 : BitVec 1 := Scalar.cmpi .ne v306 v311
  let v313 : BitVec 32 := Scalar.remsi v300 c2_i32_182
  let c0_i32_187 : BitVec 32 := 0#32
  let v314 : BitVec 1 := Scalar.cmpi .ne v313 c0_i32_187
  let v315 : BitVec 1 := Scalar.andi v312 v314
  let v301 : BitVec 32 := Scalar.divsi v300 c2_i32_182
  let c1_i32_188 : BitVec 32 := 1#32
  let v316 : BitVec 32 := Scalar.subi v301 c1_i32_188
  let v317 : BitVec 32 := Scalar.select v315 v316 v301
  let c256_i32 : BitVec 32 := 256#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let v3 : BitVec 32 := Scalar.addi c256_i32 v2
  let c2_i32_189 : BitVec 32 := 2#32
  let v318 : BitVec 32 := Scalar.muli v317 c2_i32_189
  let v319 : BitVec 32 := Scalar.subi v300 v318
  let c8_i32_190 : BitVec 32 := 8#32
  let v320 : BitVec 32 := Scalar.muli v319 c8_i32_190
  let v321 : BitVec 32 := Scalar.addi v3 v320
  let c0_i32_191 : BitVec 32 := 0#32
  let c0_i32_192 : BitVec 32 := 0#32
  ![v317.toNat, v321.toNat, 0, 0]
def k0_off54 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32_19 : BitVec 32 := 16#32
  let v17 : BitVec 32 := Scalar.muli v1 c16_i32_19
  let c0_i32_20_r0 : BitVec 32 := 0#32
  ![v17.toNat, 0]
abbrev grid1 : Pipeline.Grid := ⟨1, ![16], ![false]⟩

def k1_cond3 (i : grid1.Coords) : BitVec 1 :=
  let arg0 : BitVec 32 := BitVec.ofNat 32 (i 0).val
  let c15_i32 : BitVec 32 := 15#32
  let v10 : BitVec 1 := Scalar.cmpi .eq arg0 c15_i32
  let v11 : BitVec 32 := Scalar.extui v10
  let c0_i32_6 : BitVec 32 := 0#32
  let v12 : BitVec 1 := Scalar.cmpi .ne v11 c0_i32_6
  v12

def cc1_transform_0 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1x256x48x48 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev grid2 : Pipeline.Grid := .none

abbrev stage2_0 : Fin 1 → Memref sig .tc .vmem S1x256 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S512x16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S1x192 .i32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev grid3 : Pipeline.Grid := ⟨2, ![2, 16], ![false, false]⟩

def k3_off1 (i : grid3.Coords) : Fin 1 → Nat :=
  let c6_i32 : BitVec 32 := 6#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.muli c6_i32 v1
  let v3 : Index := Scalar.indexCast v2
  ![v3.toNat]
def k3_off2 (v7 : BitVec 32) : Fin 4 → Nat :=
  let c0_i32 : BitVec 32 := 0#32
  let c0_i32_0 : BitVec 32 := 0#32
  let c0_i32_1 : BitVec 32 := 0#32
  ![0, v7.toNat, 0, 0]

def k3_off3 (v13 : BitVec 32) : Fin 4 → Nat :=
  let c8_i32 : BitVec 32 := 8#32
  let c0_i32_5 : BitVec 32 := 0#32
  let c0_i32_6 : BitVec 32 := 0#32
  ![8, v13.toNat, 0, 0]

def k3_off4 (v7 : BitVec 32) : Fin 4 → Nat :=
  let c0_i32_10 : BitVec 32 := 0#32
  let c0_i32_11 : BitVec 32 := 0#32
  let c0_i32_12 : BitVec 32 := 0#32
  ![0, v7.toNat, 0, 0]

def k3_chk1 (v7 : BitVec 32) : Prop :=
  (∀ a, (k3_off2 v7) a + S8x1x48x48.size a ≤ S16x768x48x48.size a) ∧
  (∀ a, (k3_off4 v7) a + S8x1x48x48.size a ≤ S16x768x48x48.size a)
theorem k3_off2_inb : ∀ (v7 : BitVec 32) (k3_hw1 : k3_chk1 v7), ∀ a, (k3_off2 v7) a + S8x1x48x48.size a ≤ S16x768x48x48.size a := fun v7 k3_hw1 => k3_hw1.1
theorem k3_off4_inb : ∀ (v7 : BitVec 32) (k3_hw1 : k3_chk1 v7), ∀ a, (k3_off4 v7) a + S8x1x48x48.size a ≤ S16x768x48x48.size a := fun v7 k3_hw1 => k3_hw1.2

def k3_off5 (i : grid3.Coords) : Fin 4 → Nat :=
  let c0_i32_162_r1 : BitVec 32 := 0#32
  let c6_i32_16 : BitVec 32 := 6#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v22 : BitVec 32 := Scalar.muli c6_i32_16 v1
  let c0_i32_17 : BitVec 32 := 0#32
  let v23 : BitVec 32 := Scalar.addi v22 c0_i32_17
  let c0_i32_163_r1 : BitVec 32 := 0#32
  let c0_i32_164_r1 : BitVec 32 := 0#32
  ![0, v23.toNat, 0, 0]
def k3_off6 (v25 : BitVec 32) : Fin 4 → Nat :=
  let c0_i32_18 : BitVec 32 := 0#32
  let c0_i32_19 : BitVec 32 := 0#32
  let c0_i32_20 : BitVec 32 := 0#32
  ![0, v25.toNat, 0, 0]

def k3_off7 (v13 : BitVec 32) : Fin 4 → Nat :=
  let c8_i32_24 : BitVec 32 := 8#32
  let c0_i32_25 : BitVec 32 := 0#32
  let c0_i32_26 : BitVec 32 := 0#32
  ![8, v13.toNat, 0, 0]

def k3_chk2 (v13 : BitVec 32) : Prop :=
  (∀ a, (k3_off3 v13) a + S8x1x48x48.size a ≤ S16x768x48x48.size a) ∧
  (∀ a, (k3_off7 v13) a + S8x1x48x48.size a ≤ S16x768x48x48.size a)
theorem k3_off3_inb : ∀ (v13 : BitVec 32) (k3_hw2 : k3_chk2 v13), ∀ a, (k3_off3 v13) a + S8x1x48x48.size a ≤ S16x768x48x48.size a := fun v13 k3_hw2 => k3_hw2.1
theorem k3_off7_inb : ∀ (v13 : BitVec 32) (k3_hw2 : k3_chk2 v13), ∀ a, (k3_off7 v13) a + S8x1x48x48.size a ≤ S16x768x48x48.size a := fun v13 k3_hw2 => k3_hw2.2

def k3_off8 (i : grid3.Coords) : Fin 4 → Nat :=
  let c8_i32_162_r2 : BitVec 32 := 8#32
  let c6_i32_30 : BitVec 32 := 6#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v34 : BitVec 32 := Scalar.muli c6_i32_30 v1
  let c0_i32_31 : BitVec 32 := 0#32
  let v35 : BitVec 32 := Scalar.addi v34 c0_i32_31
  let c0_i32_163_r2 : BitVec 32 := 0#32
  let c0_i32_164_r2 : BitVec 32 := 0#32
  ![8, v35.toNat, 0, 0]
def k3_off9 (v37 : BitVec 32) : Fin 4 → Nat :=
  let c8_i32_32 : BitVec 32 := 8#32
  let c0_i32_33 : BitVec 32 := 0#32
  let c0_i32_34 : BitVec 32 := 0#32
  ![8, v37.toNat, 0, 0]

def k3_off10 (v25 : BitVec 32) : Fin 4 → Nat :=
  let c0_i32_38 : BitVec 32 := 0#32
  let c0_i32_39 : BitVec 32 := 0#32
  let c0_i32_40 : BitVec 32 := 0#32
  ![0, v25.toNat, 0, 0]

def k3_chk3 (v25 : BitVec 32) : Prop :=
  (∀ a, (k3_off6 v25) a + S8x1x48x48.size a ≤ S16x768x48x48.size a) ∧
  (∀ a, (k3_off10 v25) a + S8x1x48x48.size a ≤ S16x768x48x48.size a)
theorem k3_off6_inb : ∀ (v25 : BitVec 32) (k3_hw3 : k3_chk3 v25), ∀ a, (k3_off6 v25) a + S8x1x48x48.size a ≤ S16x768x48x48.size a := fun v25 k3_hw3 => k3_hw3.1
theorem k3_off10_inb : ∀ (v25 : BitVec 32) (k3_hw3 : k3_chk3 v25), ∀ a, (k3_off10 v25) a + S8x1x48x48.size a ≤ S16x768x48x48.size a := fun v25 k3_hw3 => k3_hw3.2

def k3_off11 (i : grid3.Coords) : Fin 4 → Nat :=
  let c0_i32_162_r3 : BitVec 32 := 0#32
  let c6_i32_44 : BitVec 32 := 6#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v46 : BitVec 32 := Scalar.muli c6_i32_44 v1
  let c1_i32 : BitVec 32 := 1#32
  let v47 : BitVec 32 := Scalar.addi v46 c1_i32
  let c0_i32_163_r3 : BitVec 32 := 0#32
  let c0_i32_164_r3 : BitVec 32 := 0#32
  ![0, v47.toNat, 0, 0]
def k3_off12 (v49 : BitVec 32) : Fin 4 → Nat :=
  let c0_i32_45 : BitVec 32 := 0#32
  let c0_i32_46 : BitVec 32 := 0#32
  let c0_i32_47 : BitVec 32 := 0#32
  ![0, v49.toNat, 0, 0]

def k3_off13 (v37 : BitVec 32) : Fin 4 → Nat :=
  let c8_i32_51 : BitVec 32 := 8#32
  let c0_i32_52 : BitVec 32 := 0#32
  let c0_i32_53 : BitVec 32 := 0#32
  ![8, v37.toNat, 0, 0]

def k3_chk4 (v37 : BitVec 32) : Prop :=
  (∀ a, (k3_off9 v37) a + S8x1x48x48.size a ≤ S16x768x48x48.size a) ∧
  (∀ a, (k3_off13 v37) a + S8x1x48x48.size a ≤ S16x768x48x48.size a)
theorem k3_off9_inb : ∀ (v37 : BitVec 32) (k3_hw4 : k3_chk4 v37), ∀ a, (k3_off9 v37) a + S8x1x48x48.size a ≤ S16x768x48x48.size a := fun v37 k3_hw4 => k3_hw4.1
theorem k3_off13_inb : ∀ (v37 : BitVec 32) (k3_hw4 : k3_chk4 v37), ∀ a, (k3_off13 v37) a + S8x1x48x48.size a ≤ S16x768x48x48.size a := fun v37 k3_hw4 => k3_hw4.2

def k3_off14 (i : grid3.Coords) : Fin 4 → Nat :=
  let c8_i32_162_r4 : BitVec 32 := 8#32
  let c6_i32_57 : BitVec 32 := 6#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v58 : BitVec 32 := Scalar.muli c6_i32_57 v1
  let c1_i32_58 : BitVec 32 := 1#32
  let v59 : BitVec 32 := Scalar.addi v58 c1_i32_58
  let c0_i32_163_r4 : BitVec 32 := 0#32
  let c0_i32_164_r4 : BitVec 32 := 0#32
  ![8, v59.toNat, 0, 0]
def k3_off15 (v61 : BitVec 32) : Fin 4 → Nat :=
  let c8_i32_59 : BitVec 32 := 8#32
  let c0_i32_60 : BitVec 32 := 0#32
  let c0_i32_61 : BitVec 32 := 0#32
  ![8, v61.toNat, 0, 0]

def k3_off16 (v49 : BitVec 32) : Fin 4 → Nat :=
  let c0_i32_65 : BitVec 32 := 0#32
  let c0_i32_66 : BitVec 32 := 0#32
  let c0_i32_67 : BitVec 32 := 0#32
  ![0, v49.toNat, 0, 0]

def k3_chk5 (v49 : BitVec 32) : Prop :=
  (∀ a, (k3_off12 v49) a + S8x1x48x48.size a ≤ S16x768x48x48.size a) ∧
  (∀ a, (k3_off16 v49) a + S8x1x48x48.size a ≤ S16x768x48x48.size a)
theorem k3_off12_inb : ∀ (v49 : BitVec 32) (k3_hw5 : k3_chk5 v49), ∀ a, (k3_off12 v49) a + S8x1x48x48.size a ≤ S16x768x48x48.size a := fun v49 k3_hw5 => k3_hw5.1
theorem k3_off16_inb : ∀ (v49 : BitVec 32) (k3_hw5 : k3_chk5 v49), ∀ a, (k3_off16 v49) a + S8x1x48x48.size a ≤ S16x768x48x48.size a := fun v49 k3_hw5 => k3_hw5.2

def k3_off17 (i : grid3.Coords) : Fin 4 → Nat :=
  let c0_i32_162_r5 : BitVec 32 := 0#32
  let c6_i32_71 : BitVec 32 := 6#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v70 : BitVec 32 := Scalar.muli c6_i32_71 v1
  let c2_i32_72 : BitVec 32 := 2#32
  let v71 : BitVec 32 := Scalar.addi v70 c2_i32_72
  let c0_i32_163_r5 : BitVec 32 := 0#32
  let c0_i32_164_r5 : BitVec 32 := 0#32
  ![0, v71.toNat, 0, 0]
def k3_off18 (v73 : BitVec 32) : Fin 4 → Nat :=
  let c0_i32_73 : BitVec 32 := 0#32
  let c0_i32_74 : BitVec 32 := 0#32
  let c0_i32_75 : BitVec 32 := 0#32
  ![0, v73.toNat, 0, 0]

def k3_off19 (v61 : BitVec 32) : Fin 4 → Nat :=
  let c8_i32_79 : BitVec 32 := 8#32
  let c0_i32_80 : BitVec 32 := 0#32
  let c0_i32_81 : BitVec 32 := 0#32
  ![8, v61.toNat, 0, 0]

def k3_chk6 (v61 : BitVec 32) : Prop :=
  (∀ a, (k3_off15 v61) a + S8x1x48x48.size a ≤ S16x768x48x48.size a) ∧
  (∀ a, (k3_off19 v61) a + S8x1x48x48.size a ≤ S16x768x48x48.size a)
theorem k3_off15_inb : ∀ (v61 : BitVec 32) (k3_hw6 : k3_chk6 v61), ∀ a, (k3_off15 v61) a + S8x1x48x48.size a ≤ S16x768x48x48.size a := fun v61 k3_hw6 => k3_hw6.1
theorem k3_off19_inb : ∀ (v61 : BitVec 32) (k3_hw6 : k3_chk6 v61), ∀ a, (k3_off19 v61) a + S8x1x48x48.size a ≤ S16x768x48x48.size a := fun v61 k3_hw6 => k3_hw6.2

def k3_off20 (i : grid3.Coords) : Fin 4 → Nat :=
  let c8_i32_162_r6 : BitVec 32 := 8#32
  let c6_i32_85 : BitVec 32 := 6#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v82 : BitVec 32 := Scalar.muli c6_i32_85 v1
  let c2_i32_86 : BitVec 32 := 2#32
  let v83 : BitVec 32 := Scalar.addi v82 c2_i32_86
  let c0_i32_163_r6 : BitVec 32 := 0#32
  let c0_i32_164_r6 : BitVec 32 := 0#32
  ![8, v83.toNat, 0, 0]
def k3_off21 (v85 : BitVec 32) : Fin 4 → Nat :=
  let c8_i32_87 : BitVec 32 := 8#32
  let c0_i32_88 : BitVec 32 := 0#32
  let c0_i32_89 : BitVec 32 := 0#32
  ![8, v85.toNat, 0, 0]

def k3_off22 (v73 : BitVec 32) : Fin 4 → Nat :=
  let c0_i32_93 : BitVec 32 := 0#32
  let c0_i32_94 : BitVec 32 := 0#32
  let c0_i32_95 : BitVec 32 := 0#32
  ![0, v73.toNat, 0, 0]

def k3_chk7 (v73 : BitVec 32) : Prop :=
  (∀ a, (k3_off18 v73) a + S8x1x48x48.size a ≤ S16x768x48x48.size a) ∧
  (∀ a, (k3_off22 v73) a + S8x1x48x48.size a ≤ S16x768x48x48.size a)
theorem k3_off18_inb : ∀ (v73 : BitVec 32) (k3_hw7 : k3_chk7 v73), ∀ a, (k3_off18 v73) a + S8x1x48x48.size a ≤ S16x768x48x48.size a := fun v73 k3_hw7 => k3_hw7.1
theorem k3_off22_inb : ∀ (v73 : BitVec 32) (k3_hw7 : k3_chk7 v73), ∀ a, (k3_off22 v73) a + S8x1x48x48.size a ≤ S16x768x48x48.size a := fun v73 k3_hw7 => k3_hw7.2

def k3_off23 (i : grid3.Coords) : Fin 4 → Nat :=
  let c0_i32_162_r7 : BitVec 32 := 0#32
  let c6_i32_99 : BitVec 32 := 6#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v94 : BitVec 32 := Scalar.muli c6_i32_99 v1
  let c3_i32 : BitVec 32 := 3#32
  let v95 : BitVec 32 := Scalar.addi v94 c3_i32
  let c0_i32_163_r7 : BitVec 32 := 0#32
  let c0_i32_164_r7 : BitVec 32 := 0#32
  ![0, v95.toNat, 0, 0]
def k3_off24 (v97 : BitVec 32) : Fin 4 → Nat :=
  let c0_i32_100 : BitVec 32 := 0#32
  let c0_i32_101 : BitVec 32 := 0#32
  let c0_i32_102 : BitVec 32 := 0#32
  ![0, v97.toNat, 0, 0]

def k3_off25 (v85 : BitVec 32) : Fin 4 → Nat :=
  let c8_i32_106 : BitVec 32 := 8#32
  let c0_i32_107 : BitVec 32 := 0#32
  let c0_i32_108 : BitVec 32 := 0#32
  ![8, v85.toNat, 0, 0]

def k3_chk8 (v85 : BitVec 32) : Prop :=
  (∀ a, (k3_off21 v85) a + S8x1x48x48.size a ≤ S16x768x48x48.size a) ∧
  (∀ a, (k3_off25 v85) a + S8x1x48x48.size a ≤ S16x768x48x48.size a)
theorem k3_off21_inb : ∀ (v85 : BitVec 32) (k3_hw8 : k3_chk8 v85), ∀ a, (k3_off21 v85) a + S8x1x48x48.size a ≤ S16x768x48x48.size a := fun v85 k3_hw8 => k3_hw8.1
theorem k3_off25_inb : ∀ (v85 : BitVec 32) (k3_hw8 : k3_chk8 v85), ∀ a, (k3_off25 v85) a + S8x1x48x48.size a ≤ S16x768x48x48.size a := fun v85 k3_hw8 => k3_hw8.2

def k3_off26 (i : grid3.Coords) : Fin 4 → Nat :=
  let c8_i32_162_r8 : BitVec 32 := 8#32
  let c6_i32_112 : BitVec 32 := 6#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v106 : BitVec 32 := Scalar.muli c6_i32_112 v1
  let c3_i32_113 : BitVec 32 := 3#32
  let v107 : BitVec 32 := Scalar.addi v106 c3_i32_113
  let c0_i32_163_r8 : BitVec 32 := 0#32
  let c0_i32_164_r8 : BitVec 32 := 0#32
  ![8, v107.toNat, 0, 0]
def k3_off27 (v109 : BitVec 32) : Fin 4 → Nat :=
  let c8_i32_114 : BitVec 32 := 8#32
  let c0_i32_115 : BitVec 32 := 0#32
  let c0_i32_116 : BitVec 32 := 0#32
  ![8, v109.toNat, 0, 0]

def k3_off28 (v97 : BitVec 32) : Fin 4 → Nat :=
  let c0_i32_120 : BitVec 32 := 0#32
  let c0_i32_121 : BitVec 32 := 0#32
  let c0_i32_122 : BitVec 32 := 0#32
  ![0, v97.toNat, 0, 0]

def k3_chk9 (v97 : BitVec 32) : Prop :=
  (∀ a, (k3_off24 v97) a + S8x1x48x48.size a ≤ S16x768x48x48.size a) ∧
  (∀ a, (k3_off28 v97) a + S8x1x48x48.size a ≤ S16x768x48x48.size a)
theorem k3_off24_inb : ∀ (v97 : BitVec 32) (k3_hw9 : k3_chk9 v97), ∀ a, (k3_off24 v97) a + S8x1x48x48.size a ≤ S16x768x48x48.size a := fun v97 k3_hw9 => k3_hw9.1
theorem k3_off28_inb : ∀ (v97 : BitVec 32) (k3_hw9 : k3_chk9 v97), ∀ a, (k3_off28 v97) a + S8x1x48x48.size a ≤ S16x768x48x48.size a := fun v97 k3_hw9 => k3_hw9.2

def k3_off29 (i : grid3.Coords) : Fin 4 → Nat :=
  let c0_i32_162_r9 : BitVec 32 := 0#32
  let c6_i32_126 : BitVec 32 := 6#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v118 : BitVec 32 := Scalar.muli c6_i32_126 v1
  let c4_i32 : BitVec 32 := 4#32
  let v119 : BitVec 32 := Scalar.addi v118 c4_i32
  let c0_i32_163_r9 : BitVec 32 := 0#32
  let c0_i32_164_r9 : BitVec 32 := 0#32
  ![0, v119.toNat, 0, 0]
def k3_off30 (v121 : BitVec 32) : Fin 4 → Nat :=
  let c0_i32_127 : BitVec 32 := 0#32
  let c0_i32_128 : BitVec 32 := 0#32
  let c0_i32_129 : BitVec 32 := 0#32
  ![0, v121.toNat, 0, 0]

def k3_off31 (v109 : BitVec 32) : Fin 4 → Nat :=
  let c8_i32_133 : BitVec 32 := 8#32
  let c0_i32_134 : BitVec 32 := 0#32
  let c0_i32_135 : BitVec 32 := 0#32
  ![8, v109.toNat, 0, 0]

def k3_chk10 (v109 : BitVec 32) : Prop :=
  (∀ a, (k3_off27 v109) a + S8x1x48x48.size a ≤ S16x768x48x48.size a) ∧
  (∀ a, (k3_off31 v109) a + S8x1x48x48.size a ≤ S16x768x48x48.size a)
theorem k3_off27_inb : ∀ (v109 : BitVec 32) (k3_hw10 : k3_chk10 v109), ∀ a, (k3_off27 v109) a + S8x1x48x48.size a ≤ S16x768x48x48.size a := fun v109 k3_hw10 => k3_hw10.1
theorem k3_off31_inb : ∀ (v109 : BitVec 32) (k3_hw10 : k3_chk10 v109), ∀ a, (k3_off31 v109) a + S8x1x48x48.size a ≤ S16x768x48x48.size a := fun v109 k3_hw10 => k3_hw10.2

def k3_off32 (i : grid3.Coords) : Fin 4 → Nat :=
  let c8_i32_162_r10 : BitVec 32 := 8#32
  let c6_i32_139 : BitVec 32 := 6#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v130 : BitVec 32 := Scalar.muli c6_i32_139 v1
  let c4_i32_140 : BitVec 32 := 4#32
  let v131 : BitVec 32 := Scalar.addi v130 c4_i32_140
  let c0_i32_163_r10 : BitVec 32 := 0#32
  let c0_i32_164_r10 : BitVec 32 := 0#32
  ![8, v131.toNat, 0, 0]
def k3_off33 (v133 : BitVec 32) : Fin 4 → Nat :=
  let c8_i32_141 : BitVec 32 := 8#32
  let c0_i32_142 : BitVec 32 := 0#32
  let c0_i32_143 : BitVec 32 := 0#32
  ![8, v133.toNat, 0, 0]

def k3_chk12 (v133 : BitVec 32) : Prop :=
  (∀ a, (k3_off33 v133) a + S8x1x48x48.size a ≤ S16x768x48x48.size a)
theorem k3_off33_inb : ∀ (v133 : BitVec 32) (k3_hw12 : k3_chk12 v133), ∀ a, (k3_off33 v133) a + S8x1x48x48.size a ≤ S16x768x48x48.size a := fun v133 k3_hw12 => k3_hw12

def k3_off34 (v121 : BitVec 32) : Fin 4 → Nat :=
  let c0_i32_147 : BitVec 32 := 0#32
  let c0_i32_148 : BitVec 32 := 0#32
  let c0_i32_149 : BitVec 32 := 0#32
  ![0, v121.toNat, 0, 0]

def k3_chk11 (v121 : BitVec 32) : Prop :=
  (∀ a, (k3_off30 v121) a + S8x1x48x48.size a ≤ S16x768x48x48.size a) ∧
  (∀ a, (k3_off34 v121) a + S8x1x48x48.size a ≤ S16x768x48x48.size a)
theorem k3_off30_inb : ∀ (v121 : BitVec 32) (k3_hw11 : k3_chk11 v121), ∀ a, (k3_off30 v121) a + S8x1x48x48.size a ≤ S16x768x48x48.size a := fun v121 k3_hw11 => k3_hw11.1
theorem k3_off34_inb : ∀ (v121 : BitVec 32) (k3_hw11 : k3_chk11 v121), ∀ a, (k3_off34 v121) a + S8x1x48x48.size a ≤ S16x768x48x48.size a := fun v121 k3_hw11 => k3_hw11.2

def k3_off35 (i : grid3.Coords) : Fin 4 → Nat :=
  let c0_i32_162_r11 : BitVec 32 := 0#32
  let c6_i32_153 : BitVec 32 := 6#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v142 : BitVec 32 := Scalar.muli c6_i32_153 v1
  let c5_i32 : BitVec 32 := 5#32
  let v143 : BitVec 32 := Scalar.addi v142 c5_i32
  let c0_i32_163_r11 : BitVec 32 := 0#32
  let c0_i32_164_r11 : BitVec 32 := 0#32
  ![0, v143.toNat, 0, 0]
def k3_off36 (i : grid3.Coords) : Fin 4 → Nat :=
  let c8_i32_162_r12 : BitVec 32 := 8#32
  let c6_i32_160 : BitVec 32 := 6#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v148 : BitVec 32 := Scalar.muli c6_i32_160 v1
  let c5_i32_161 : BitVec 32 := 5#32
  let v149 : BitVec 32 := Scalar.addi v148 c5_i32_161
  let c0_i32_163_r12 : BitVec 32 := 0#32
  let c0_i32_164_r12 : BitVec 32 := 0#32
  ![8, v149.toNat, 0, 0]
abbrev scKind : Fin 2 → Kind := fun | 0 => .scVector | 1 => .scVector | ⟨_ + 2, h⟩ => absurd h (Nat.not_lt.2 (Nat.le_add_left _ _))
abbrev scNCore : Fin 2 → Nat := fun | 0 => 2 | 1 => 2 | ⟨_ + 2, h⟩ => absurd h (Nat.not_lt.2 (Nat.le_add_left _ _))
abbrev scNSub : Fin 2 → Nat := fun | 0 => 16 | 1 => 16 | ⟨_ + 2, h⟩ => absurd h (Nat.not_lt.2 (Nat.le_add_left _ _))
-- ==== ReferenceIdeal.lean ====
abbrev S16x768x48x48 : Shape := ⟨4, ![16, 768, 48, 48]⟩
abbrev S_ : Shape := ⟨0, ![]⟩
abbrev S768 : Shape := ⟨1, ![768]⟩
abbrev S192 : Shape := ⟨1, ![192]⟩
abbrev S192x1 : Shape := ⟨2, ![192, 1]⟩
abbrev S1 : Shape := ⟨1, ![1]⟩
abbrev S1x1 : Shape := ⟨2, ![1, 1]⟩
abbrev S16x192x48x48 : Shape := ⟨4, ![16, 192, 48, 48]⟩

abbrev nBuf : Space → Nat
  | .hbm => 29
  | .vmem => 0
  | .smem => 0
  | _ => 0

abbrev bufTy : (tb : Table) → Fin (tcTables nBuf tb) → BufTy
  | .hbm, ⟨0, _⟩ => ⟨S16x768x48x48, .f32⟩
  | .hbm, ⟨1, _⟩ => ⟨S16x768x48x48, .f32⟩
  | .hbm, ⟨2, _⟩ => ⟨S_, .f32⟩
  | .hbm, ⟨3, _⟩ => ⟨S768, .f32⟩
  | .hbm, ⟨4, _⟩ => ⟨S192, .f32⟩
  | .hbm, ⟨5, _⟩ => ⟨S192, .i32⟩
  | .hbm, ⟨6, _⟩ => ⟨S_, .i32⟩
  | .hbm, ⟨7, _⟩ => ⟨S192, .i32⟩
  | .hbm, ⟨8, _⟩ => ⟨S192, .i1⟩
  | .hbm, ⟨9, _⟩ => ⟨S_, .i32⟩
  | .hbm, ⟨10, _⟩ => ⟨S192, .i32⟩
  | .hbm, ⟨11, _⟩ => ⟨S192, .i32⟩
  | .hbm, ⟨12, _⟩ => ⟨S192, .i32⟩
  | .hbm, ⟨13, _⟩ => ⟨S192x1, .i32⟩
  | .hbm, ⟨14, _⟩ => ⟨S1, .i32⟩
  | .hbm, ⟨15, _⟩ => ⟨S_, .i32⟩
  | .hbm, ⟨16, _⟩ => ⟨S192x1, .i32⟩
  | .hbm, ⟨17, _⟩ => ⟨S192x1, .i1⟩
  | .hbm, ⟨18, _⟩ => ⟨S1x1, .i32⟩
  | .hbm, ⟨19, _⟩ => ⟨S192x1, .i32⟩
  | .hbm, ⟨20, _⟩ => ⟨S192x1, .i1⟩
  | .hbm, ⟨21, _⟩ => ⟨S192x1, .i1⟩
  | .hbm, ⟨22, _⟩ => ⟨S_, .i1⟩
  | .hbm, ⟨23, _⟩ => ⟨S192, .i1⟩
  | .hbm, ⟨24, _⟩ => ⟨S16x192x48x48, .f32⟩
  | .hbm, ⟨25, _⟩ => ⟨S16x192x48x48, .i1⟩
  | .hbm, ⟨26, _⟩ => ⟨S_, .f32⟩
  | .hbm, ⟨27, _⟩ => ⟨S16x192x48x48, .f32⟩
  | .hbm, ⟨28, _⟩ => ⟨S16x192x48x48, .f32⟩
  | _, _ => ⟨S16x768x48x48, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_values : Ref sig .tc := ⟨.hbm, 4, rfl⟩
abbrev main_indices : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_cst : Ref sig .tc := ⟨.hbm, 26, rfl⟩
abbrev main_call0_v15 : Ref sig .tc := ⟨.hbm, 27, rfl⟩
abbrev main_v2 : Ref sig .tc := ⟨.hbm, 28, rfl⟩

abbrev nD : Nat := 1
abbrev τ : Topo := Topo.v7x

variable {F : FTy → Type} [FloatOps F]
-- ==== Gather.lean ====
abbrev S16x768x48x48 : Shape := ⟨4, ![16, 768, 48, 48]⟩
abbrev S192 : Shape := ⟨1, ![192]⟩
abbrev S16x192x48x48 : Shape := ⟨4, ![16, 192, 48, 48]⟩
abbrev S208 : Shape := ⟨1, ![208]⟩
abbrev S8x48x48 : Shape := ⟨3, ![8, 48, 48]⟩
abbrev S_ : Shape := ⟨0, ![]⟩
abbrev S16 : Shape := ⟨1, ![16]⟩
abbrev S1 : Shape := ⟨1, ![1]⟩
abbrev S8x1x48x48 : Shape := ⟨4, ![8, 1, 48, 48]⟩

abbrev nBuf : Table → Nat
  | .hbm => 3
  | .local .scVector .vmem => 3
  | _ => 0

abbrev bufTy : (tb : Table) → Fin (nBuf tb) → BufTy
  | .hbm, ⟨0, _⟩ => ⟨S16x768x48x48, .f32⟩
  | .hbm, ⟨1, _⟩ => ⟨S192, .i32⟩
  | .hbm, ⟨2, _⟩ => ⟨S16x192x48x48, .f32⟩
  | .local .scVector .vmem, ⟨0, _⟩ => ⟨S208, .i32⟩
  | .local .scVector .vmem, ⟨1, _⟩ => ⟨S8x48x48, .f32⟩
  | .local .scVector .vmem, ⟨2, _⟩ => ⟨S8x48x48, .f32⟩
  | _, _ => ⟨S16x768x48x48, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 15 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | _ => false

abbrev sig : RefSig :=
  ofTables nBuf rfl bufTy 4 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg0_scv : Ref sig .scVector := ⟨.hbm, 0, rfl⟩
abbrev main_arg1_scv : Ref sig .scVector := ⟨.hbm, 1, rfl⟩
abbrev main_v0_scv : Ref sig .scVector := ⟨.hbm, 2, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let c6_i32 : BitVec 32 := 6#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.muli c6_i32 v1
  let v3 : Index := Scalar.indexCast v2
  ![v3.toNat]
def k0_off2 (v7 : BitVec 32) : Fin 4 → Nat :=
  let c0_i32 : BitVec 32 := 0#32
  let c0_i32_0 : BitVec 32 := 0#32
  let c0_i32_1 : BitVec 32 := 0#32
  ![0, v7.toNat, 0, 0]

def k0_off3 (v13 : BitVec 32) : Fin 4 → Nat :=
  let c8_i32 : BitVec 32 := 8#32
  let c0_i32_5 : BitVec 32 := 0#32
  let c0_i32_6 : BitVec 32 := 0#32
  ![8, v13.toNat, 0, 0]

def k0_off4 (v7 : BitVec 32) : Fin 4 → Nat :=
  let c0_i32_10 : BitVec 32 := 0#32
  let c0_i32_11 : BitVec 32 := 0#32
  let c0_i32_12 : BitVec 32 := 0#32
  ![0, v7.toNat, 0, 0]

def k0_chk1 (v7 : BitVec 32) : Prop :=
  (∀ a, (k0_off2 v7) a + S8x1x48x48.size a ≤ S16x768x48x48.size a) ∧
  (∀ a, (k0_off4 v7) a + S8x1x48x48.size a ≤ S16x768x48x48.size a)
theorem k0_off2_inb : ∀ (v7 : BitVec 32) (k0_hw1 : k0_chk1 v7), ∀ a, (k0_off2 v7) a + S8x1x48x48.size a ≤ S16x768x48x48.size a := fun v7 k0_hw1 => k0_hw1.1
theorem k0_off4_inb : ∀ (v7 : BitVec 32) (k0_hw1 : k0_chk1 v7), ∀ a, (k0_off4 v7) a + S8x1x48x48.size a ≤ S16x768x48x48.size a := fun v7 k0_hw1 => k0_hw1.2

def k0_off5 (i : grid0.Coords) : Fin 4 → Nat :=
  let c0_i32_162_r1 : BitVec 32 := 0#32
  let c6_i32_16 : BitVec 32 := 6#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v22 : BitVec 32 := Scalar.muli c6_i32_16 v1
  let c0_i32_17 : BitVec 32 := 0#32
  let v23 : BitVec 32 := Scalar.addi v22 c0_i32_17
  let c0_i32_163_r1 : BitVec 32 := 0#32
  let c0_i32_164_r1 : BitVec 32 := 0#32
  ![0, v23.toNat, 0, 0]
def k0_off6 (v25 : BitVec 32) : Fin 4 → Nat :=
  let c0_i32_18 : BitVec 32 := 0#32
  let c0_i32_19 : BitVec 32 := 0#32
  let c0_i32_20 : BitVec 32 := 0#32
  ![0, v25.toNat, 0, 0]

def k0_off7 (v13 : BitVec 32) : Fin 4 → Nat :=
  let c8_i32_24 : BitVec 32 := 8#32
  let c0_i32_25 : BitVec 32 := 0#32
  let c0_i32_26 : BitVec 32 := 0#32
  ![8, v13.toNat, 0, 0]

def k0_chk2 (v13 : BitVec 32) : Prop :=
  (∀ a, (k0_off3 v13) a + S8x1x48x48.size a ≤ S16x768x48x48.size a) ∧
  (∀ a, (k0_off7 v13) a + S8x1x48x48.size a ≤ S16x768x48x48.size a)
theorem k0_off3_inb : ∀ (v13 : BitVec 32) (k0_hw2 : k0_chk2 v13), ∀ a, (k0_off3 v13) a + S8x1x48x48.size a ≤ S16x768x48x48.size a := fun v13 k0_hw2 => k0_hw2.1
theorem k0_off7_inb : ∀ (v13 : BitVec 32) (k0_hw2 : k0_chk2 v13), ∀ a, (k0_off7 v13) a + S8x1x48x48.size a ≤ S16x768x48x48.size a := fun v13 k0_hw2 => k0_hw2.2

def k0_off8 (i : grid0.Coords) : Fin 4 → Nat :=
  let c8_i32_162_r2 : BitVec 32 := 8#32
  let c6_i32_30 : BitVec 32 := 6#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v34 : BitVec 32 := Scalar.muli c6_i32_30 v1
  let c0_i32_31 : BitVec 32 := 0#32
  let v35 : BitVec 32 := Scalar.addi v34 c0_i32_31
  let c0_i32_163_r2 : BitVec 32 := 0#32
  let c0_i32_164_r2 : BitVec 32 := 0#32
  ![8, v35.toNat, 0, 0]
def k0_off9 (v37 : BitVec 32) : Fin 4 → Nat :=
  let c8_i32_32 : BitVec 32 := 8#32
  let c0_i32_33 : BitVec 32 := 0#32
  let c0_i32_34 : BitVec 32 := 0#32
  ![8, v37.toNat, 0, 0]

def k0_off10 (v25 : BitVec 32) : Fin 4 → Nat :=
  let c0_i32_38 : BitVec 32 := 0#32
  let c0_i32_39 : BitVec 32 := 0#32
  let c0_i32_40 : BitVec 32 := 0#32
  ![0, v25.toNat, 0, 0]

def k0_chk3 (v25 : BitVec 32) : Prop :=
  (∀ a, (k0_off6 v25) a + S8x1x48x48.size a ≤ S16x768x48x48.size a) ∧
  (∀ a, (k0_off10 v25) a + S8x1x48x48.size a ≤ S16x768x48x48.size a)
theorem k0_off6_inb : ∀ (v25 : BitVec 32) (k0_hw3 : k0_chk3 v25), ∀ a, (k0_off6 v25) a + S8x1x48x48.size a ≤ S16x768x48x48.size a := fun v25 k0_hw3 => k0_hw3.1
theorem k0_off10_inb : ∀ (v25 : BitVec 32) (k0_hw3 : k0_chk3 v25), ∀ a, (k0_off10 v25) a + S8x1x48x48.size a ≤ S16x768x48x48.size a := fun v25 k0_hw3 => k0_hw3.2

def k0_off11 (i : grid0.Coords) : Fin 4 → Nat :=
  let c0_i32_162_r3 : BitVec 32 := 0#32
  let c6_i32_44 : BitVec 32 := 6#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v46 : BitVec 32 := Scalar.muli c6_i32_44 v1
  let c1_i32 : BitVec 32 := 1#32
  let v47 : BitVec 32 := Scalar.addi v46 c1_i32
  let c0_i32_163_r3 : BitVec 32 := 0#32
  let c0_i32_164_r3 : BitVec 32 := 0#32
  ![0, v47.toNat, 0, 0]
def k0_off12 (v49 : BitVec 32) : Fin 4 → Nat :=
  let c0_i32_45 : BitVec 32 := 0#32
  let c0_i32_46 : BitVec 32 := 0#32
  let c0_i32_47 : BitVec 32 := 0#32
  ![0, v49.toNat, 0, 0]

def k0_off13 (v37 : BitVec 32) : Fin 4 → Nat :=
  let c8_i32_51 : BitVec 32 := 8#32
  let c0_i32_52 : BitVec 32 := 0#32
  let c0_i32_53 : BitVec 32 := 0#32
  ![8, v37.toNat, 0, 0]

def k0_chk4 (v37 : BitVec 32) : Prop :=
  (∀ a, (k0_off9 v37) a + S8x1x48x48.size a ≤ S16x768x48x48.size a) ∧
  (∀ a, (k0_off13 v37) a + S8x1x48x48.size a ≤ S16x768x48x48.size a)
theorem k0_off9_inb : ∀ (v37 : BitVec 32) (k0_hw4 : k0_chk4 v37), ∀ a, (k0_off9 v37) a + S8x1x48x48.size a ≤ S16x768x48x48.size a := fun v37 k0_hw4 => k0_hw4.1
theorem k0_off13_inb : ∀ (v37 : BitVec 32) (k0_hw4 : k0_chk4 v37), ∀ a, (k0_off13 v37) a + S8x1x48x48.size a ≤ S16x768x48x48.size a := fun v37 k0_hw4 => k0_hw4.2

def k0_off14 (i : grid0.Coords) : Fin 4 → Nat :=
  let c8_i32_162_r4 : BitVec 32 := 8#32
  let c6_i32_57 : BitVec 32 := 6#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v58 : BitVec 32 := Scalar.muli c6_i32_57 v1
  let c1_i32_58 : BitVec 32 := 1#32
  let v59 : BitVec 32 := Scalar.addi v58 c1_i32_58
  let c0_i32_163_r4 : BitVec 32 := 0#32
  let c0_i32_164_r4 : BitVec 32 := 0#32
  ![8, v59.toNat, 0, 0]
def k0_off15 (v61 : BitVec 32) : Fin 4 → Nat :=
  let c8_i32_59 : BitVec 32 := 8#32
  let c0_i32_60 : BitVec 32 := 0#32
  let c0_i32_61 : BitVec 32 := 0#32
  ![8, v61.toNat, 0, 0]

def k0_off16 (v49 : BitVec 32) : Fin 4 → Nat :=
  let c0_i32_65 : BitVec 32 := 0#32
  let c0_i32_66 : BitVec 32 := 0#32
  let c0_i32_67 : BitVec 32 := 0#32
  ![0, v49.toNat, 0, 0]

def k0_chk5 (v49 : BitVec 32) : Prop :=
  (∀ a, (k0_off12 v49) a + S8x1x48x48.size a ≤ S16x768x48x48.size a) ∧
  (∀ a, (k0_off16 v49) a + S8x1x48x48.size a ≤ S16x768x48x48.size a)
theorem k0_off12_inb : ∀ (v49 : BitVec 32) (k0_hw5 : k0_chk5 v49), ∀ a, (k0_off12 v49) a + S8x1x48x48.size a ≤ S16x768x48x48.size a := fun v49 k0_hw5 => k0_hw5.1
theorem k0_off16_inb : ∀ (v49 : BitVec 32) (k0_hw5 : k0_chk5 v49), ∀ a, (k0_off16 v49) a + S8x1x48x48.size a ≤ S16x768x48x48.size a := fun v49 k0_hw5 => k0_hw5.2

def k0_off17 (i : grid0.Coords) : Fin 4 → Nat :=
  let c0_i32_162_r5 : BitVec 32 := 0#32
  let c6_i32_71 : BitVec 32 := 6#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v70 : BitVec 32 := Scalar.muli c6_i32_71 v1
  let c2_i32_72 : BitVec 32 := 2#32
  let v71 : BitVec 32 := Scalar.addi v70 c2_i32_72
  let c0_i32_163_r5 : BitVec 32 := 0#32
  let c0_i32_164_r5 : BitVec 32 := 0#32
  ![0, v71.toNat, 0, 0]
def k0_off18 (v73 : BitVec 32) : Fin 4 → Nat :=
  let c0_i32_73 : BitVec 32 := 0#32
  let c0_i32_74 : BitVec 32 := 0#32
  let c0_i32_75 : BitVec 32 := 0#32
  ![0, v73.toNat, 0, 0]

def k0_off19 (v61 : BitVec 32) : Fin 4 → Nat :=
  let c8_i32_79 : BitVec 32 := 8#32
  let c0_i32_80 : BitVec 32 := 0#32
  let c0_i32_81 : BitVec 32 := 0#32
  ![8, v61.toNat, 0, 0]

def k0_chk6 (v61 : BitVec 32) : Prop :=
  (∀ a, (k0_off15 v61) a + S8x1x48x48.size a ≤ S16x768x48x48.size a) ∧
  (∀ a, (k0_off19 v61) a + S8x1x48x48.size a ≤ S16x768x48x48.size a)
theorem k0_off15_inb : ∀ (v61 : BitVec 32) (k0_hw6 : k0_chk6 v61), ∀ a, (k0_off15 v61) a + S8x1x48x48.size a ≤ S16x768x48x48.size a := fun v61 k0_hw6 => k0_hw6.1
theorem k0_off19_inb : ∀ (v61 : BitVec 32) (k0_hw6 : k0_chk6 v61), ∀ a, (k0_off19 v61) a + S8x1x48x48.size a ≤ S16x768x48x48.size a := fun v61 k0_hw6 => k0_hw6.2

def k0_off20 (i : grid0.Coords) : Fin 4 → Nat :=
  let c8_i32_162_r6 : BitVec 32 := 8#32
  let c6_i32_85 : BitVec 32 := 6#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v82 : BitVec 32 := Scalar.muli c6_i32_85 v1
  let c2_i32_86 : BitVec 32 := 2#32
  let v83 : BitVec 32 := Scalar.addi v82 c2_i32_86
  let c0_i32_163_r6 : BitVec 32 := 0#32
  let c0_i32_164_r6 : BitVec 32 := 0#32
  ![8, v83.toNat, 0, 0]
def k0_off21 (v85 : BitVec 32) : Fin 4 → Nat :=
  let c8_i32_87 : BitVec 32 := 8#32
  let c0_i32_88 : BitVec 32 := 0#32
  let c0_i32_89 : BitVec 32 := 0#32
  ![8, v85.toNat, 0, 0]

def k0_off22 (v73 : BitVec 32) : Fin 4 → Nat :=
  let c0_i32_93 : BitVec 32 := 0#32
  let c0_i32_94 : BitVec 32 := 0#32
  let c0_i32_95 : BitVec 32 := 0#32
  ![0, v73.toNat, 0, 0]

def k0_chk7 (v73 : BitVec 32) : Prop :=
  (∀ a, (k0_off18 v73) a + S8x1x48x48.size a ≤ S16x768x48x48.size a) ∧
  (∀ a, (k0_off22 v73) a + S8x1x48x48.size a ≤ S16x768x48x48.size a)
theorem k0_off18_inb : ∀ (v73 : BitVec 32) (k0_hw7 : k0_chk7 v73), ∀ a, (k0_off18 v73) a + S8x1x48x48.size a ≤ S16x768x48x48.size a := fun v73 k0_hw7 => k0_hw7.1
theorem k0_off22_inb : ∀ (v73 : BitVec 32) (k0_hw7 : k0_chk7 v73), ∀ a, (k0_off22 v73) a + S8x1x48x48.size a ≤ S16x768x48x48.size a := fun v73 k0_hw7 => k0_hw7.2

def k0_off23 (i : grid0.Coords) : Fin 4 → Nat :=
  let c0_i32_162_r7 : BitVec 32 := 0#32
  let c6_i32_99 : BitVec 32 := 6#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v94 : BitVec 32 := Scalar.muli c6_i32_99 v1
  let c3_i32 : BitVec 32 := 3#32
  let v95 : BitVec 32 := Scalar.addi v94 c3_i32
  let c0_i32_163_r7 : BitVec 32 := 0#32
  let c0_i32_164_r7 : BitVec 32 := 0#32
  ![0, v95.toNat, 0, 0]
def k0_off24 (v97 : BitVec 32) : Fin 4 → Nat :=
  let c0_i32_100 : BitVec 32 := 0#32
  let c0_i32_101 : BitVec 32 := 0#32
  let c0_i32_102 : BitVec 32 := 0#32
  ![0, v97.toNat, 0, 0]

def k0_off25 (v85 : BitVec 32) : Fin 4 → Nat :=
  let c8_i32_106 : BitVec 32 := 8#32
  let c0_i32_107 : BitVec 32 := 0#32
  let c0_i32_108 : BitVec 32 := 0#32
  ![8, v85.toNat, 0, 0]

def k0_chk8 (v85 : BitVec 32) : Prop :=
  (∀ a, (k0_off21 v85) a + S8x1x48x48.size a ≤ S16x768x48x48.size a) ∧
  (∀ a, (k0_off25 v85) a + S8x1x48x48.size a ≤ S16x768x48x48.size a)
theorem k0_off21_inb : ∀ (v85 : BitVec 32) (k0_hw8 : k0_chk8 v85), ∀ a, (k0_off21 v85) a + S8x1x48x48.size a ≤ S16x768x48x48.size a := fun v85 k0_hw8 => k0_hw8.1
theorem k0_off25_inb : ∀ (v85 : BitVec 32) (k0_hw8 : k0_chk8 v85), ∀ a, (k0_off25 v85) a + S8x1x48x48.size a ≤ S16x768x48x48.size a := fun v85 k0_hw8 => k0_hw8.2

def k0_off26 (i : grid0.Coords) : Fin 4 → Nat :=
  let c8_i32_162_r8 : BitVec 32 := 8#32
  let c6_i32_112 : BitVec 32 := 6#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v106 : BitVec 32 := Scalar.muli c6_i32_112 v1
  let c3_i32_113 : BitVec 32 := 3#32
  let v107 : BitVec 32 := Scalar.addi v106 c3_i32_113
  let c0_i32_163_r8 : BitVec 32 := 0#32
  let c0_i32_164_r8 : BitVec 32 := 0#32
  ![8, v107.toNat, 0, 0]
def k0_off27 (v109 : BitVec 32) : Fin 4 → Nat :=
  let c8_i32_114 : BitVec 32 := 8#32
  let c0_i32_115 : BitVec 32 := 0#32
  let c0_i32_116 : BitVec 32 := 0#32
  ![8, v109.toNat, 0, 0]

def k0_off28 (v97 : BitVec 32) : Fin 4 → Nat :=
  let c0_i32_120 : BitVec 32 := 0#32
  let c0_i32_121 : BitVec 32 := 0#32
  let c0_i32_122 : BitVec 32 := 0#32
  ![0, v97.toNat, 0, 0]

def k0_chk9 (v97 : BitVec 32) : Prop :=
  (∀ a, (k0_off24 v97) a + S8x1x48x48.size a ≤ S16x768x48x48.size a) ∧
  (∀ a, (k0_off28 v97) a + S8x1x48x48.size a ≤ S16x768x48x48.size a)
theorem k0_off24_inb : ∀ (v97 : BitVec 32) (k0_hw9 : k0_chk9 v97), ∀ a, (k0_off24 v97) a + S8x1x48x48.size a ≤ S16x768x48x48.size a := fun v97 k0_hw9 => k0_hw9.1
theorem k0_off28_inb : ∀ (v97 : BitVec 32) (k0_hw9 : k0_chk9 v97), ∀ a, (k0_off28 v97) a + S8x1x48x48.size a ≤ S16x768x48x48.size a := fun v97 k0_hw9 => k0_hw9.2

def k0_off29 (i : grid0.Coords) : Fin 4 → Nat :=
  let c0_i32_162_r9 : BitVec 32 := 0#32
  let c6_i32_126 : BitVec 32 := 6#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v118 : BitVec 32 := Scalar.muli c6_i32_126 v1
  let c4_i32 : BitVec 32 := 4#32
  let v119 : BitVec 32 := Scalar.addi v118 c4_i32
  let c0_i32_163_r9 : BitVec 32 := 0#32
  let c0_i32_164_r9 : BitVec 32 := 0#32
  ![0, v119.toNat, 0, 0]
def k0_off30 (v121 : BitVec 32) : Fin 4 → Nat :=
  let c0_i32_127 : BitVec 32 := 0#32
  let c0_i32_128 : BitVec 32 := 0#32
  let c0_i32_129 : BitVec 32 := 0#32
  ![0, v121.toNat, 0, 0]

def k0_off31 (v109 : BitVec 32) : Fin 4 → Nat :=
  let c8_i32_133 : BitVec 32 := 8#32
  let c0_i32_134 : BitVec 32 := 0#32
  let c0_i32_135 : BitVec 32 := 0#32
  ![8, v109.toNat, 0, 0]

def k0_chk10 (v109 : BitVec 32) : Prop :=
  (∀ a, (k0_off27 v109) a + S8x1x48x48.size a ≤ S16x768x48x48.size a) ∧
  (∀ a, (k0_off31 v109) a + S8x1x48x48.size a ≤ S16x768x48x48.size a)
theorem k0_off27_inb : ∀ (v109 : BitVec 32) (k0_hw10 : k0_chk10 v109), ∀ a, (k0_off27 v109) a + S8x1x48x48.size a ≤ S16x768x48x48.size a := fun v109 k0_hw10 => k0_hw10.1
theorem k0_off31_inb : ∀ (v109 : BitVec 32) (k0_hw10 : k0_chk10 v109), ∀ a, (k0_off31 v109) a + S8x1x48x48.size a ≤ S16x768x48x48.size a := fun v109 k0_hw10 => k0_hw10.2

def k0_off32 (i : grid0.Coords) : Fin 4 → Nat :=
  let c8_i32_162_r10 : BitVec 32 := 8#32
  let c6_i32_139 : BitVec 32 := 6#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v130 : BitVec 32 := Scalar.muli c6_i32_139 v1
  let c4_i32_140 : BitVec 32 := 4#32
  let v131 : BitVec 32 := Scalar.addi v130 c4_i32_140
  let c0_i32_163_r10 : BitVec 32 := 0#32
  let c0_i32_164_r10 : BitVec 32 := 0#32
  ![8, v131.toNat, 0, 0]
def k0_off33 (v133 : BitVec 32) : Fin 4 → Nat :=
  let c8_i32_141 : BitVec 32 := 8#32
  let c0_i32_142 : BitVec 32 := 0#32
  let c0_i32_143 : BitVec 32 := 0#32
  ![8, v133.toNat, 0, 0]

def k0_chk12 (v133 : BitVec 32) : Prop :=
  (∀ a, (k0_off33 v133) a + S8x1x48x48.size a ≤ S16x768x48x48.size a)
theorem k0_off33_inb : ∀ (v133 : BitVec 32) (k0_hw12 : k0_chk12 v133), ∀ a, (k0_off33 v133) a + S8x1x48x48.size a ≤ S16x768x48x48.size a := fun v133 k0_hw12 => k0_hw12

def k0_off34 (v121 : BitVec 32) : Fin 4 → Nat :=
  let c0_i32_147 : BitVec 32 := 0#32
  let c0_i32_148 : BitVec 32 := 0#32
  let c0_i32_149 : BitVec 32 := 0#32
  ![0, v121.toNat, 0, 0]

def k0_chk11 (v121 : BitVec 32) : Prop :=
  (∀ a, (k0_off30 v121) a + S8x1x48x48.size a ≤ S16x768x48x48.size a) ∧
  (∀ a, (k0_off34 v121) a + S8x1x48x48.size a ≤ S16x768x48x48.size a)
theorem k0_off30_inb : ∀ (v121 : BitVec 32) (k0_hw11 : k0_chk11 v121), ∀ a, (k0_off30 v121) a + S8x1x48x48.size a ≤ S16x768x48x48.size a := fun v121 k0_hw11 => k0_hw11.1
theorem k0_off34_inb : ∀ (v121 : BitVec 32) (k0_hw11 : k0_chk11 v121), ∀ a, (k0_off34 v121) a + S8x1x48x48.size a ≤ S16x768x48x48.size a := fun v121 k0_hw11 => k0_hw11.2

def k0_off35 (i : grid0.Coords) : Fin 4 → Nat :=
  let c0_i32_162_r11 : BitVec 32 := 0#32
  let c6_i32_153 : BitVec 32 := 6#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v142 : BitVec 32 := Scalar.muli c6_i32_153 v1
  let c5_i32 : BitVec 32 := 5#32
  let v143 : BitVec 32 := Scalar.addi v142 c5_i32
  let c0_i32_163_r11 : BitVec 32 := 0#32
  let c0_i32_164_r11 : BitVec 32 := 0#32
  ![0, v143.toNat, 0, 0]
def k0_off36 (i : grid0.Coords) : Fin 4 → Nat :=
  let c8_i32_162_r12 : BitVec 32 := 8#32
  let c6_i32_160 : BitVec 32 := 6#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v148 : BitVec 32 := Scalar.muli c6_i32_160 v1
  let c5_i32_161 : BitVec 32 := 5#32
  let v149 : BitVec 32 := Scalar.addi v148 c5_i32_161
  let c0_i32_163_r12 : BitVec 32 := 0#32
  let c0_i32_164_r12 : BitVec 32 := 0#32
  ![8, v149.toNat, 0, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== GatherReferenceIdeal.lean ====
abbrev S16x768x48x48 : Shape := ⟨4, ![16, 768, 48, 48]⟩
abbrev S192 : Shape := ⟨1, ![192]⟩
abbrev S_ : Shape := ⟨0, ![]⟩
abbrev S192x1 : Shape := ⟨2, ![192, 1]⟩
abbrev S1 : Shape := ⟨1, ![1]⟩
abbrev S1x1 : Shape := ⟨2, ![1, 1]⟩
abbrev S16x192x48x48 : Shape := ⟨4, ![16, 192, 48, 48]⟩

abbrev nBuf : Space → Nat
  | .hbm => 25
  | .vmem => 0
  | .smem => 0
  | _ => 0

abbrev bufTy : (tb : Table) → Fin (tcTables nBuf tb) → BufTy
  | .hbm, ⟨0, _⟩ => ⟨S16x768x48x48, .f32⟩
  | .hbm, ⟨1, _⟩ => ⟨S192, .i32⟩
  | .hbm, ⟨2, _⟩ => ⟨S_, .i32⟩
  | .hbm, ⟨3, _⟩ => ⟨S192, .i32⟩
  | .hbm, ⟨4, _⟩ => ⟨S192, .i1⟩
  | .hbm, ⟨5, _⟩ => ⟨S_, .i32⟩
  | .hbm, ⟨6, _⟩ => ⟨S192, .i32⟩
  | .hbm, ⟨7, _⟩ => ⟨S192, .i32⟩
  | .hbm, ⟨8, _⟩ => ⟨S192, .i32⟩
  | .hbm, ⟨9, _⟩ => ⟨S192x1, .i32⟩
  | .hbm, ⟨10, _⟩ => ⟨S1, .i32⟩
  | .hbm, ⟨11, _⟩ => ⟨S_, .i32⟩
  | .hbm, ⟨12, _⟩ => ⟨S192x1, .i32⟩
  | .hbm, ⟨13, _⟩ => ⟨S192x1, .i1⟩
  | .hbm, ⟨14, _⟩ => ⟨S1x1, .i32⟩
  | .hbm, ⟨15, _⟩ => ⟨S192x1, .i32⟩
  | .hbm, ⟨16, _⟩ => ⟨S192x1, .i1⟩
  | .hbm, ⟨17, _⟩ => ⟨S192x1, .i1⟩
  | .hbm, ⟨18, _⟩ => ⟨S_, .i1⟩
  | .hbm, ⟨19, _⟩ => ⟨S192, .i1⟩
  | .hbm, ⟨20, _⟩ => ⟨S16x192x48x48, .f32⟩
  | .hbm, ⟨21, _⟩ => ⟨S16x192x48x48, .i1⟩
  | .hbm, ⟨22, _⟩ => ⟨S_, .f32⟩
  | .hbm, ⟨23, _⟩ => ⟨S16x192x48x48, .f32⟩
  | .hbm, ⟨24, _⟩ => ⟨S16x192x48x48, .f32⟩
  | _, _ => ⟨S16x768x48x48, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩

abbrev nD : Nat := 1
abbrev τ : Topo := Topo.v7x

variable {F : FTy → Type} [FloatOps F]
-- ==== Proof.GatherTile.lean ====
/-
  The gather call on the SparseCores, one task at a time. Task `(c, s)` of the grid (SparseCore `c`, subcore `s`; its
  number is `2 s + c`) copies the list of channel numbers into its own memory, reads the six entries that are its own and
  moves each of the six channels of `x` they name, in two halves of eight batches, through two buffers into the six
  slots of the result that belong to it. What the module proves of a task: given a share of `x` and of the list, and the
  twelve blocks of the result that are its own, it ends with the same shares and with each block holding the gathered
  channel.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Pointwise
public import Idealize.ShloMosaic.Lib.WritesUnit
public import Idealize.ShloMosaic.Lib.Tactic
public import proofs.«01_k».proof.Proof.Gen.GatherIdeal
public import proofs.«01_k».proof.Proof.Gen.GatherIdeal.Skeleton

@[expose] public section

noncomputable section

namespace Cert.Proof.GatherIdeal

open Cert.GatherIdeal Cert.GatherIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program's parts -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

abbrev xLoc (d : Dev nD) : Loc nD τ sig := (SparseCore.T d).loc main_arg0
abbrev iLoc (d : Dev nD) : Loc nD τ sig := (SparseCore.T d).loc main_arg1
abbrev oLoc (d : Dev nD) : Loc nD τ sig := (SparseCore.T d).loc main_v0

local notation "xV" => (Memref.whole Cert.GatherIdeal.main_arg0_scv : Memref Cert.GatherIdeal.sig Kind.scVector Space.hbm Cert.GatherIdeal.S16x768x48x48 EltTy.f32)
local notation "iV" => (Memref.whole Cert.GatherIdeal.main_arg1_scv : Memref Cert.GatherIdeal.sig Kind.scVector Space.hbm Cert.GatherIdeal.S192 EltTy.i32)
local notation "oV" => (Memref.whole Cert.GatherIdeal.main_v0_scv : Memref Cert.GatherIdeal.sig Kind.scVector Space.hbm Cert.GatherIdeal.S16x192x48x48 EltTy.f32)
local notation "nV" => (Memref.whole Cert.GatherIdeal.cc0_scratch0 : Memref Cert.GatherIdeal.sig Kind.scVector Space.vmem Cert.GatherIdeal.S208 EltTy.i32)
local notation "aV" => (Memref.whole Cert.GatherIdeal.cc0_scratch1 : Memref Cert.GatherIdeal.sig Kind.scVector Space.vmem Cert.GatherIdeal.S8x48x48 EltTy.f32)
local notation "bV" => (Memref.whole Cert.GatherIdeal.cc0_scratch2 : Memref Cert.GatherIdeal.sig Kind.scVector Space.vmem Cert.GatherIdeal.S8x48x48 EltTy.f32)

/-! ## The blocks of the result -/

/-- Where block `p` of task `w` starts: half `p % 2` of the batches, slot `6 w + p / 2`. -/
abbrev pOff (w p : ℕ) : Fin 4 → ℕ := ![8 * (p % 2), 6 * w + p / 2, 0, 0]

theorem pOff_inb (w : Fin 32) (p : Fin 12) : ∀ a, pOff w.val p.val a + S8x1x48x48.size a ≤ S16x192x48x48.size a := by
  have hw := w.isLt; have hp := p.isLt
  intro a
  match a with
  | 0 => show 8 * (p.val % 2) + 8 ≤ 16; omega
  | 1 => show 6 * w.val + p.val / 2 + 1 ≤ 192; omega
  | 2 => show 0 + 48 ≤ 48; omega
  | 3 => show 0 + 48 ≤ 48; omega

abbrev pRect (w : Fin 32) (p : Fin 12) : Rect S16x192x48x48 := Rect.unit (s := S16x192x48x48) (pOff w.val p.val) S8x1x48x48.size (pOff_inb w p)
/-- The elements of block `p` of task `w`. -/
abbrev pSet (w : Fin 32) (p : Fin 12) : Finset S16x192x48x48.Idx := (pRect w p).set

theorem mem_pSet (w : Fin 32) (p : Fin 12) (j : S16x192x48x48.Idx) :
    j ∈ pSet w p ↔ (j 0).val / 8 = p.val % 2 ∧ (j 1).val = 6 * w.val + p.val / 2 := by
  unfold pSet
  rw [Rect.mem_set_unit]
  have h0 : (j 0).val < 16 := (j 0).isLt
  have h2 : (j 2).val < 48 := (j 2).isLt
  have h3 : (j 3).val < 48 := (j 3).isLt
  constructor
  · intro h
    have a0 := h 0; have a1 := h 1
    simp only [pOff] at a0 a1
    change 8 * (p.val % 2) ≤ (j 0).val ∧ (j 0).val < 8 * (p.val % 2) + 8 at a0
    change 6 * w.val + p.val / 2 ≤ (j 1).val ∧ (j 1).val < 6 * w.val + p.val / 2 + 1 at a1
    omega
  · rintro ⟨e0, e1⟩ a
    match a with
    | 0 => show 8 * (p.val % 2) ≤ (j 0).val ∧ (j 0).val < 8 * (p.val % 2) + 8; omega
    | 1 => show 6 * w.val + p.val / 2 ≤ (j 1).val ∧ (j 1).val < 6 * w.val + p.val / 2 + 1; omega
    | 2 => show 0 ≤ (j 2).val ∧ (j 2).val < 0 + 48; omega
    | 3 => show 0 ≤ (j 3).val ∧ (j 3).val < 0 + 48; omega

/-- What the call computes: slot `k` of the result is the channel of `x` that entry `k` of the list names. -/
def gathered (x : S16x768x48x48.Idx → Elt F .f32) (v : S192.Idx → BitVec 32) : S16x192x48x48.Idx → Elt F .f32 :=
  fun j => x (ix4 (n0 := 16) (n1 := 768) (n2 := 48) (n3 := 48) (j 0)
    ⟨(v (ix1 (n0 := 192) (j 1))).toNat % 768, Nat.mod_lt _ (by decide)⟩ (j 2) (j 3))

/-! ## The task -/

section Tile

variable (d : Dev nD) (L : grid0.Coords)

abbrev cV (L : grid0.Coords) : Fin τ.nSC := (L 0).castLE hcore0
abbrev jV (L : grid0.Coords) : Fin τ.nSub := (L 1).castLE hsub0
/-- The task's number. -/
def wid (L : grid0.Coords) : Fin 32 := ⟨2 * (L 1).val + (L 0).val, by
  have h0 : (L 0).val < 2 := (L 0).isLt
  have h1 : (L 1).val < 16 := (L 1).isLt
  omega⟩

/-- A block of the result as the task addresses it, from where it starts. -/
abbrev oK (off : Fin 4 → ℕ) (h : ∀ a, off a + S8x1x48x48.size a ≤ S16x192x48x48.size a) : Memref sig .scVector .hbm S8x48x48 .f32 :=
  ((oV).slice (Rect.unit (s := S16x192x48x48) off S8x1x48x48.size h) (fun _ => rfl)).squeeze S8x48x48 squeezes_S8x1x48x48_S8x48x48

theorem set_oK (off : Fin 4 → ℕ) (h : ∀ a, off a + S8x1x48x48.size a ≤ S16x192x48x48.size a) (p : Fin 12)
    (e : off = pOff (wid L).val p.val) : (oK off h).view.set = pSet (wid L) p := by
  subst e
  show (((oV).view.slice (pRect (wid L) p)).reshape S8x48x48 squeezes_S8x1x48x48_S8x48x48.numel_eq).set = _
  rw [View.set_reshape]
  show ((View.whole (main_v0_scv : Ref sig .scVector)).slice (pRect (wid L) p)).set = _
  rw [View.set_slice]; exact Finset.map_refl

theorem pts_oK (off : Fin 4 → ℕ) (h : ∀ a, off a + S8x1x48x48.size a ≤ S16x192x48x48.size a) (p : Fin 12)
    (e : off = pOff (wid L).val p.val) (f : Buf (Elt F) (oLoc d)) :
    ((oK off h).view.loc (V d (cV L) (jV L)) ↦[(oK off h).view.set]{fullShare} f : sProp 𝕄) = oLoc d ↦[pSet (wid L) p]{fullShare} f := by
  rw [set_oK L off h p e]

theorem vec4_ext {a b a' b' : ℕ} (ha : a = a') (hb : b = b') : (![a, b, 0, 0] : Fin 4 → ℕ) = ![a', b', 0, 0] := by
  rw [ha, hb]

theorem pts_xV (q : PosShare TreeShare) (f : Buf (Elt F) (xLoc d)) :
    ((xV).view.loc (V d (cV L) (jV L)) ↦{q} f : sProp 𝕄) = xLoc d ↦{q} f := rfl
theorem pts_iV (q : PosShare TreeShare) (f : Buf (Elt F) (iLoc d)) :
    ((iV).view.loc (V d (cV L) (jV L)) ↦{q} f : sProp 𝕄) = iLoc d ↦{q} f := rfl
theorem pts_nV (f : Buf (Elt F) ((V d (cV L) (jV L)).loc cc0_scratch0)) :
    ((nV).view.loc (V d (cV L) (jV L)) ↦{fullShare} f : sProp 𝕄) = (V d (cV L) (jV L)).loc cc0_scratch0 ↦{fullShare} f := rfl
theorem pts_aV (f : Buf (Elt F) ((V d (cV L) (jV L)).loc cc0_scratch1)) :
    ((aV).view.loc (V d (cV L) (jV L)) ↦{fullShare} f : sProp 𝕄) = (V d (cV L) (jV L)).loc cc0_scratch1 ↦{fullShare} f := rfl
theorem pts_bV (f : Buf (Elt F) ((V d (cV L) (jV L)).loc cc0_scratch2)) :
    ((bV).view.loc (V d (cV L) (jV L)) ↦{fullShare} f : sProp 𝕄) = (V d (cV L) (jV L)).loc cc0_scratch2 ↦{fullShare} f := rfl

theorem pOff5 : k0_off5 L = pOff (wid L).val ((0 : Fin 12)).val := by
  rw [k0_off5_eq]; exact vec4_ext (by show 0 = 8 * (0 % 2); omega)
    (by show 12 * (L 1).val + 6 * (L 0).val = 6 * (2 * (L 1).val + (L 0).val) + 0 / 2; omega)
theorem pOff8 : k0_off8 L = pOff (wid L).val ((1 : Fin 12)).val := by
  rw [k0_off8_eq]; exact vec4_ext (by show 8 = 8 * (1 % 2); omega)
    (by show 12 * (L 1).val + 6 * (L 0).val = 6 * (2 * (L 1).val + (L 0).val) + 1 / 2; omega)
theorem pOff11 : k0_off11 L = pOff (wid L).val ((2 : Fin 12)).val := by
  rw [k0_off11_eq]; exact vec4_ext (by show 0 = 8 * (2 % 2); omega)
    (by show 12 * (L 1).val + 6 * (L 0).val + 1 = 6 * (2 * (L 1).val + (L 0).val) + 2 / 2; omega)
theorem pOff14 : k0_off14 L = pOff (wid L).val ((3 : Fin 12)).val := by
  rw [k0_off14_eq]; exact vec4_ext (by show 8 = 8 * (3 % 2); omega)
    (by show 12 * (L 1).val + 6 * (L 0).val + 1 = 6 * (2 * (L 1).val + (L 0).val) + 3 / 2; omega)
theorem pOff17 : k0_off17 L = pOff (wid L).val ((4 : Fin 12)).val := by
  rw [k0_off17_eq]; exact vec4_ext (by show 0 = 8 * (4 % 2); omega)
    (by show 12 * (L 1).val + 6 * (L 0).val + 2 = 6 * (2 * (L 1).val + (L 0).val) + 4 / 2; omega)
theorem pOff20 : k0_off20 L = pOff (wid L).val ((5 : Fin 12)).val := by
  rw [k0_off20_eq]; exact vec4_ext (by show 8 = 8 * (5 % 2); omega)
    (by show 12 * (L 1).val + 6 * (L 0).val + 2 = 6 * (2 * (L 1).val + (L 0).val) + 5 / 2; omega)
theorem pOff23 : k0_off23 L = pOff (wid L).val ((6 : Fin 12)).val := by
  rw [k0_off23_eq]; exact vec4_ext (by show 0 = 8 * (6 % 2); omega)
    (by show 12 * (L 1).val + 6 * (L 0).val + 3 = 6 * (2 * (L 1).val + (L 0).val) + 6 / 2; omega)
theorem pOff26 : k0_off26 L = pOff (wid L).val ((7 : Fin 12)).val := by
  rw [k0_off26_eq]; exact vec4_ext (by show 8 = 8 * (7 % 2); omega)
    (by show 12 * (L 1).val + 6 * (L 0).val + 3 = 6 * (2 * (L 1).val + (L 0).val) + 7 / 2; omega)
theorem pOff29 : k0_off29 L = pOff (wid L).val ((8 : Fin 12)).val := by
  rw [k0_off29_eq]; exact vec4_ext (by show 0 = 8 * (8 % 2); omega)
    (by show 12 * (L 1).val + 6 * (L 0).val + 4 = 6 * (2 * (L 1).val + (L 0).val) + 8 / 2; omega)
theorem pOff32 : k0_off32 L = pOff (wid L).val ((9 : Fin 12)).val := by
  rw [k0_off32_eq]; exact vec4_ext (by show 8 = 8 * (9 % 2); omega)
    (by show 12 * (L 1).val + 6 * (L 0).val + 4 = 6 * (2 * (L 1).val + (L 0).val) + 9 / 2; omega)
theorem pOff35 : k0_off35 L = pOff (wid L).val ((10 : Fin 12)).val := by
  rw [k0_off35_eq]; exact vec4_ext (by show 0 = 8 * (10 % 2); omega)
    (by show 12 * (L 1).val + 6 * (L 0).val + 5 = 6 * (2 * (L 1).val + (L 0).val) + 10 / 2; omega)
theorem pOff36 : k0_off36 L = pOff (wid L).val ((11 : Fin 12)).val := by
  rw [k0_off36_eq]; exact vec4_ext (by show 8 = 8 * (11 % 2); omega)
    (by show 12 * (L 1).val + 6 * (L 0).val + 5 = 6 * (2 * (L 1).val + (L 0).val) + 11 / 2; omega)

/-- Cell of a semaphore of the task. -/
abbrev cell (A : DmaSems sig S_) : GSem nD τ sig := (V d (cV L) (jV L), .dma A.sem)

/-- The semaphores of the task: one per buffer, and one per synchronous copy. -/
def sems : Fin 15 → DmaSem sig := ![cc0_scratch3.sem, cc0_scratch4.sem, cc0_scoped0.sem, cc0_scoped1.sem, cc0_scoped2.sem, cc0_scoped3.sem, cc0_scoped4.sem, cc0_scoped5.sem, cc0_scoped6.sem, cc0_scoped7.sem, cc0_scoped8.sem, cc0_scoped9.sem, cc0_scoped10.sem, cc0_scoped11.sem, cc0_scoped12.sem]

theorem sems_inj : Function.Injective sems := by decide

theorem sep15 (Φ : Fin 15 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14) := by
  rw [show (Finset.univ : Finset (Fin 15)) = {0, 1, 2, 3, 4, 5, 6, 7, 8, 9, 10, 11, 12, 13, 14} by decide]
  repeat rw [SparseCore.bigSep_insert' (by decide)]
  rw [bigSep_singleton]

theorem sep12 (Φ : Fin 12 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11) := by
  rw [show (Finset.univ : Finset (Fin 12)) = {0, 1, 2, 3, 4, 5, 6, 7, 8, 9, 10, 11} by decide]
  repeat rw [SparseCore.bigSep_insert' (by decide)]
  rw [bigSep_singleton]

/-- The task's cells, as they stand among the subcore's. -/
def cellsOf : Finset (GSem nD τ sig) := Finset.univ.image fun k : Fin 15 => ((V d (cV L) (jV L), .dma (sems k)) : GSem nD τ sig)

theorem cellsOf_sub : cellsOf d L ⊆ ownCells (V d (cV L) (jV L)) := by
  intro g hg
  obtain ⟨k, -, rfl⟩ := Finset.mem_image.mp hg
  refine mem_ownCells.mpr ⟨rfl, ?_⟩
  exact (by decide : ∀ k : Fin 15, (SemLoc.dma (sems k) : SemLoc sig).isScoped .scVector = true) k

/-- The task's semaphores are among the subcore's own: they are them, each at zero, and the rest. -/
theorem ownSems0_V :
    (ownSems0 (V d (cV L) (jV L)) : sProp 𝕄)
      = iprop((semVal (cell d L cc0_scratch3) 0 ∗ semVal (cell d L cc0_scratch4) 0 ∗ semVal (cell d L cc0_scoped0) 0 ∗ semVal (cell d L cc0_scoped1) 0 ∗ semVal (cell d L cc0_scoped2) 0 ∗ semVal (cell d L cc0_scoped3) 0 ∗ semVal (cell d L cc0_scoped4) 0 ∗ semVal (cell d L cc0_scoped5) 0 ∗ semVal (cell d L cc0_scoped6) 0 ∗ semVal (cell d L cc0_scoped7) 0 ∗ semVal (cell d L cc0_scoped8) 0 ∗ semVal (cell d L cc0_scoped9) 0 ∗ semVal (cell d L cc0_scoped10) 0 ∗ semVal (cell d L cc0_scoped11) 0 ∗ semVal (cell d L cc0_scoped12) 0)
          ∗ bigSep (ownCells (V d (cV L) (jV L)) \ cellsOf d L) fun g => semVal g 0) := by
  unfold SparseCore.Cfg.ownSems0
  rw [SparseCore.bigSep_sdiff_split' (cellsOf_sub d L)]
  refine congrArg (fun P : sProp 𝕄 => iprop(P ∗ bigSep (ownCells (V d (cV L) (jV L)) \ cellsOf d L) fun g => semVal g 0)) ?_
  unfold cellsOf
  rw [SparseCore.bigSep_image_of_injOn (fun a _ b _ h => sems_inj (by simpa using h)), sep15]
  rfl

/-- The three scratch buffers are among the subcore's own: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  unfold SparseCore.Cfg.ownBufs
  have own (b : Ref sig .scVector) (hb : ((Proc.scVector (cV L) (jV L)).devRef b : DevRef τ sig).owner.home = .scVector (cV L) (jV L)) :
      (Proc.scVector (cV L) (jV L)).devRef b ∈ ownRefs (τ := τ) (.scVector (cV L) (jV L)) := by
    unfold SparseCore.Cfg.ownRefs; exact Finset.mem_filter.mpr ⟨Finset.mem_univ _, hb⟩
  have ne (a b : Ref sig .scVector) (h : a ≠ b) : (Proc.scVector (cV L) (jV L)).devRef a ≠ ((Proc.scVector (cV L) (jV L)).devRef b : DevRef τ sig) :=
    fun e => h (Proc.devRef_injective _ e)
  refine (SparseCore.bigSep_erase' (own cc0_scratch0 rfl)).trans ?_
  rw [SparseCore.bigSep_erase' (Finset.mem_erase.mpr ⟨ne cc0_scratch1 cc0_scratch0 (by decide), own cc0_scratch1 rfl⟩),
    SparseCore.bigSep_erase' (Finset.mem_erase.mpr ⟨ne cc0_scratch2 cc0_scratch1 (by decide),
      Finset.mem_erase.mpr ⟨ne cc0_scratch2 cc0_scratch0 (by decide), own cc0_scratch2 rfl⟩⟩)]

/-- What the proof asks of the list: each entry is the number of a channel. -/
def ListOK (v : S192.Idx → BitVec 32) : Prop := ∀ j, (v j).toNat < 768

/-! ## The words the task reads -/

/-- The entry of the list for slot `t` of the task. -/
abbrev entry (t : Fin 6) : S192.Idx := ix1 (n0 := 192) ⟨6 * (wid L).val + t.val, by have := (wid L).isLt; have := t.isLt; omega⟩

/-- The sixteen words the task loads, of which it uses six. -/
abbrev lanes (v : Buf (Elt F) (iLoc d)) (fn : Buf (Elt F) ((V d (cV L) (jV L)).loc cc0_scratch0))
    (h0 : ∀ a, (![0] : Fin 1 → ℕ) a + S192.size a ≤ S208.size a) : Vec F S16 .i32 :=
  View.readAt (Elt F) (nV).view (Rect.unit (s := S208) (k0_off1 L) S16.size (k0_off1_inb L)).toLoadRect
    ((nV).view.writes (Elt F) fn [⟨Rect.unit (s := S208) ![0] S192.size h0, ReadAs.same.apply (View.read (Elt F) (iV).view v)⟩])

theorem lanes_apply (v : Buf (Elt F) (iLoc d)) (fn : Buf (Elt F) ((V d (cV L) (jV L)).loc cc0_scratch0))
    (h0 : ∀ a, (![0] : Fin 1 → ℕ) a + S192.size a ≤ S208.size a) (t : Fin 6) :
    lanes d L v fn h0 (ix1 (n0 := 16) ⟨t.val, by have := t.isLt; omega⟩) = v (entry L t) := by
  refine View.read_writes_cons_unit_of_mem (nV).view fn h0 _ [] _ (entry L t) rfl ?_
  intro a
  have ha : a = 0 := Fin.ext (by have h1 : a.val < 1 := a.isLt; show a.val = 0; omega)
  subst ha
  show (k0_off1 L) 0 + 1 * t.val = 0 + (6 * (2 * (L 1).val + (L 0).val) + t.val)
  rw [k0_off1_eq]
  show 12 * (L 1).val + 6 * (L 0).val + 1 * t.val = _
  omega

/-- The word of slot `t`, as the body takes it from the loaded lanes. -/
abbrev word (v : Buf (Elt F) (iLoc d)) (fn : Buf (Elt F) ((V d (cV L) (jV L)).loc cc0_scratch0))
    (h0 : ∀ a, (![0] : Fin 1 → ℕ) a + S192.size a ≤ S208.size a) (t : ℕ) (hs : S16.Slices (![t] : Fin 1 → ℕ) S1) : BitVec 32 :=
  extractAt ![0] (extractStridedSlice S1 ![t] (shapeCast S16 (lanes d L v fn h0) shapeCasts_S16_S16) hs) inpos_S1_p0

theorem word_eq (v : Buf (Elt F) (iLoc d)) (fn : Buf (Elt F) ((V d (cV L) (jV L)).loc cc0_scratch0))
    (h0 : ∀ a, (![0] : Fin 1 → ℕ) a + S192.size a ≤ S208.size a) (t : Fin 6) (hs : S16.Slices (![t.val] : Fin 1 → ℕ) S1) :
    word d L v fn h0 t.val hs = v (entry L t) := by
  rw [← lanes_apply d L v fn h0 t]
  unfold word
  rw [shapeCast_id]
  unfold extractAt extractStridedSlice
  refine congrArg (lanes d L v fn h0) (funext fun a => Fin.ext ?_)
  have ha : a = 0 := Fin.ext (by have h1 : a.val < 1 := a.isLt; show a.val = 0; omega)
  subst ha
  show t.val + 0 = t.val
  rfl

theorem word_lt {v : Buf (Elt F) (iLoc d)} (hv : ListOK v) (fn : Buf (Elt F) ((V d (cV L) (jV L)).loc cc0_scratch0))
    (h0 : ∀ a, (![0] : Fin 1 → ℕ) a + S192.size a ≤ S208.size a) (t : Fin 6) (hs : S16.Slices (![t.val] : Fin 1 → ℕ) S1) :
    (word d L v fn h0 t.val hs).toNat < 768 := by
  rw [word_eq]; exact hv _

theorem inb_of_lt {h n : ℕ} (hh : h + 8 ≤ 16) (hn : n < 768) : ∀ a, (![h, n, 0, 0] : Fin 4 → ℕ) a + S8x1x48x48.size a ≤ S16x768x48x48.size a := by
  intro a
  match a with
  | 0 => exact hh
  | 1 => show n + 1 ≤ 768; omega
  | 2 => show 0 + 48 ≤ 48; omega
  | 3 => show 0 + 48 ≤ 48; omega

theorem chk1 {w : BitVec 32} (h : w.toNat < 768) : k0_chk1 w := ⟨inb_of_lt (h := 0) (by omega) h, inb_of_lt (h := 0) (by omega) h⟩
theorem chk2 {w : BitVec 32} (h : w.toNat < 768) : k0_chk2 w := ⟨inb_of_lt (h := 8) (by omega) h, inb_of_lt (h := 8) (by omega) h⟩
theorem chk3 {w : BitVec 32} (h : w.toNat < 768) : k0_chk3 w := ⟨inb_of_lt (h := 0) (by omega) h, inb_of_lt (h := 0) (by omega) h⟩
theorem chk4 {w : BitVec 32} (h : w.toNat < 768) : k0_chk4 w := ⟨inb_of_lt (h := 8) (by omega) h, inb_of_lt (h := 8) (by omega) h⟩
theorem chk5 {w : BitVec 32} (h : w.toNat < 768) : k0_chk5 w := ⟨inb_of_lt (h := 0) (by omega) h, inb_of_lt (h := 0) (by omega) h⟩
theorem chk6 {w : BitVec 32} (h : w.toNat < 768) : k0_chk6 w := ⟨inb_of_lt (h := 8) (by omega) h, inb_of_lt (h := 8) (by omega) h⟩
theorem chk7 {w : BitVec 32} (h : w.toNat < 768) : k0_chk7 w := ⟨inb_of_lt (h := 0) (by omega) h, inb_of_lt (h := 0) (by omega) h⟩
theorem chk8 {w : BitVec 32} (h : w.toNat < 768) : k0_chk8 w := ⟨inb_of_lt (h := 8) (by omega) h, inb_of_lt (h := 8) (by omega) h⟩
theorem chk9 {w : BitVec 32} (h : w.toNat < 768) : k0_chk9 w := ⟨inb_of_lt (h := 0) (by omega) h, inb_of_lt (h := 0) (by omega) h⟩
theorem chk10 {w : BitVec 32} (h : w.toNat < 768) : k0_chk10 w := ⟨inb_of_lt (h := 8) (by omega) h, inb_of_lt (h := 8) (by omega) h⟩
theorem chk11 {w : BitVec 32} (h : w.toNat < 768) : k0_chk11 w := ⟨inb_of_lt (h := 0) (by omega) h, inb_of_lt (h := 0) (by omega) h⟩
theorem chk12 {w : BitVec 32} (h : w.toNat < 768) : k0_chk12 w := inb_of_lt (h := 8) (by omega) h

/-! ## What a block ends holding -/

/-- A block of `x` as the task addresses it, from where it starts. -/
abbrev xK (off : Fin 4 → ℕ) (h : ∀ a, off a + S8x1x48x48.size a ≤ S16x768x48x48.size a) : Memref sig .scVector .hbm S8x48x48 .f32 :=
  ((xV).slice (Rect.unit (s := S16x768x48x48) off S8x1x48x48.size h) (fun _ => rfl)).squeeze S8x48x48 squeezes_S8x1x48x48_S8x48x48

/-- A block of the result that was written with a block of `x` holds the gathered channel, when the block of `x` lies at
    the channel the list names and at the same half of the batches. -/
theorem block_value (p : Fin 12) (off : Fin 4 → ℕ) (h : ∀ a, off a + S8x1x48x48.size a ≤ S16x192x48x48.size a)
    (e : off = pOff (wid L).val p.val) (offS : Fin 4 → ℕ) (hS : ∀ a, offS a + S8x1x48x48.size a ≤ S16x768x48x48.size a)
    (x : Buf (Elt F) (xLoc d)) (v : Buf (Elt F) (iLoc d)) (fo : Buf (Elt F) (oLoc d)) (W : S8x48x48.Idx → Elt F .f32)
    (eS : offS = ![8 * (p.val % 2), (v (entry L ⟨p.val / 2, by have := p.isLt; omega⟩)).toNat, 0, 0])
    (hW : W = View.read (Elt F) (xK offS hS).view x) (j : S16x192x48x48.Idx) (hj : j ∈ pSet (wid L) p) :
    (oK off h).view.writes (Elt F) fo [⟨Rect.whole S8x48x48, W⟩] j = gathered x v j := by
  rw [← set_oK L off h p e] at hj
  obtain ⟨y, -, rfl⟩ := Finset.mem_map.mp hj
  have h1 := congrFun (View.read_writes_whole (oK off h).view fo W) y
  refine Eq.trans (show _ = View.read (Elt F) (oK off h).view ((oK off h).view.writes (Elt F) fo [⟨Rect.whole S8x48x48, W⟩]) y from rfl) (h1.trans ?_)
  subst hW e eS
  have hn : (v (entry L ⟨p.val / 2, by have := p.isLt; omega⟩)).toNat < 768 := by
    have := hS 1
    change (v (entry L ⟨p.val / 2, _⟩)).toNat + 1 ≤ 768 at this
    omega
  have hz1 : ((Shape.reshapeEquiv squeezes_S8x1x48x48_S8x48x48.numel_eq y) 1).val = 0 := by have : ((Shape.reshapeEquiv squeezes_S8x1x48x48_S8x48x48.numel_eq y) 1).val < 1 := ((Shape.reshapeEquiv squeezes_S8x1x48x48_S8x48x48.numel_eq y) 1).isLt; omega
  have he : (oK _ h).view.emb y 1 = (entry L ⟨p.val / 2, by have := p.isLt; omega⟩) 0 := Fin.ext (by
    show 6 * (wid L).val + p.val / 2 + 1 * ((Shape.reshapeEquiv squeezes_S8x1x48x48_S8x48x48.numel_eq y) 1).val = 6 * (wid L).val + p.val / 2
    omega)
  show x _ = gathered x v _
  unfold gathered
  refine congrArg x (funext fun a => Fin.ext ?_)
  match a with
  | 0 => rfl
  | 1 =>
    show (v (entry L ⟨p.val / 2, _⟩)).toNat + 1 * ((Shape.reshapeEquiv squeezes_S8x1x48x48_S8x48x48.numel_eq y) 1).val = (v (ix1 ((oK _ h).view.emb y 1))).toNat % 768
    rw [he]
    show _ = (v (entry L ⟨p.val / 2, _⟩)).toNat % 768
    rw [Nat.mod_eq_of_lt hn]; omega
  | 2 => rfl
  | 3 => rfl

theorem block_done (p : Fin 12) (off : Fin 4 → ℕ) (h : ∀ a, off a + S8x1x48x48.size a ≤ S16x192x48x48.size a)
    (e : off = pOff (wid L).val p.val) (offS : Fin 4 → ℕ) (hS : ∀ a, offS a + S8x1x48x48.size a ≤ S16x768x48x48.size a)
    (x : Buf (Elt F) (xLoc d)) (v : Buf (Elt F) (iLoc d)) (fo : Buf (Elt F) (oLoc d)) (W : S8x48x48.Idx → Elt F .f32)
    (eS : offS = ![8 * (p.val % 2), (v (entry L ⟨p.val / 2, by have := p.isLt; omega⟩)).toNat, 0, 0])
    (hW : W = View.read (Elt F) (xK offS hS).view x) :
    ((oK off h).view.loc (V d (cV L) (jV L)) ↦[(oK off h).view.set]{fullShare} (oK off h).view.writes (Elt F) fo [⟨Rect.whole S8x48x48, W⟩] : sProp 𝕄)
      ⊢ oLoc d ↦[pSet (wid L) p]{fullShare} gathered x v := by
  refine Entails.of_eq ((pts_oK d L off h p e _).trans ?_)
  exact pointsTo_congr fun j hj => block_value d L p off h e offS hS x v fo W eS hW j hj

end Tile

end Cert.Proof.GatherIdeal

end
-- ==== Proof.GatherRun.lean ====
/-
  One task of the gather call, run: its list is copied in, six channels are moved in twelve halves, and each block of the
  result that is the task's ends holding the gathered channel.
-/
module

public import proofs.«01_k».proof.Proof.GatherTile

@[expose] public section

noncomputable section

namespace Cert.Proof.GatherIdeal

open Cert.GatherIdeal Cert.GatherIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "xV" => (Memref.whole Cert.GatherIdeal.main_arg0_scv : Memref Cert.GatherIdeal.sig Kind.scVector Space.hbm Cert.GatherIdeal.S16x768x48x48 EltTy.f32)
local notation "iV" => (Memref.whole Cert.GatherIdeal.main_arg1_scv : Memref Cert.GatherIdeal.sig Kind.scVector Space.hbm Cert.GatherIdeal.S192 EltTy.i32)
local notation "oV" => (Memref.whole Cert.GatherIdeal.main_v0_scv : Memref Cert.GatherIdeal.sig Kind.scVector Space.hbm Cert.GatherIdeal.S16x192x48x48 EltTy.f32)
local notation "nV" => (Memref.whole Cert.GatherIdeal.cc0_scratch0 : Memref Cert.GatherIdeal.sig Kind.scVector Space.vmem Cert.GatherIdeal.S208 EltTy.i32)
local notation "aV" => (Memref.whole Cert.GatherIdeal.cc0_scratch1 : Memref Cert.GatherIdeal.sig Kind.scVector Space.vmem Cert.GatherIdeal.S8x48x48 EltTy.f32)
local notation "bV" => (Memref.whole Cert.GatherIdeal.cc0_scratch2 : Memref Cert.GatherIdeal.sig Kind.scVector Space.vmem Cert.GatherIdeal.S8x48x48 EltTy.f32)

section Tile

variable (d : Dev nD) (L : grid0.Coords)

variable [FloatOps F]
set_option maxHeartbeats 1000000 in
theorem tile_run (hF : (K (F := F)).Facts) (q r : PosShare TreeShare) (x : Buf (Elt F) (xLoc d)) (v : Buf (Elt F) (iLoc d))
    (hv : ListOK v) (fo : Buf (Elt F) (oLoc d))
    (O : CellTallies nD τ sig (HIx 1)) (W : Waits sig (HIx 1)) (hO : ∀ g, O g none = 0) :
    (iprop(levAts (K (F := F)).L (K (F := F)).lev
        ∗ ((xLoc d ↦{q} x) ∗ (iLoc d ↦{r} v) ∗ bigSep Finset.univ fun p : Fin 12 => oLoc d ↦[pSet (wid L) p]{fullShare} fo)
        ∗ scopedBufs (V d (cV L) (jV L)) ∗ scopedSems0 (V d (cV L) (jV L)) ∗ owes (V d (cV L) (jV L)) O W) : sProp 𝕄)
      ⊢ wp frame (wpE (defs₀ (F := F)) 𝒱₀ (V d (cV L) (jV L)) none) Set.univ
          (cc0__sc_gather_body L xV (Memref.isWhole_whole _) iV (Memref.isWhole_whole _) oV (Memref.isWhole_whole _)
            nV (Memref.isWhole_whole _) aV (Memref.isWhole_whole _) bV (Memref.isWhole_whole _) cc0_scratch3 cc0_scratch4 cc0_scoped0 cc0_scoped1 cc0_scoped2 cc0_scoped3 cc0_scoped4 cc0_scoped5 cc0_scoped6 cc0_scoped7 cc0_scoped8 cc0_scoped9 cc0_scoped10 cc0_scoped11 cc0_scoped12)
          fun _ => iprop(((xLoc d ↦{q} x) ∗ (iLoc d ↦{r} v) ∗ bigSep Finset.univ fun p : Fin 12 => oLoc d ↦[pSet (wid L) p]{fullShare} gathered x v)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__sc_gather_body_eq_skeleton]; unfold cc0__sc_gather_body_skel
  rw [(K (F := F)).scopedBufs_V hF d (cV L) (jV L), SparseCore.Cfg.scopedSems0_V (Val := Elt F) d (cV L) (jV L), ownSems0_V, ownBufs_V, sep12]
  iintro ⟨#Hlv, ⟨Hx, Hi, ⟨Ho0, Ho1, Ho2, Ho3, Ho4, Ho5, Ho6, Ho7, Ho8, Ho9, Ho10, Ho11⟩⟩, ⟨⟨%fn, Hn⟩, ⟨%fa, Ha⟩, ⟨%fb, Hb⟩, Hbufs⟩, ⟨⟨Hs0, Hs1, Hs2, Hs3, Hs4, Hs5, Hs6, Hs7, Hs8, Hs9, Hs10, Hs11, Hs12, Hs13, Hs14⟩, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Ho0' := (Entails.of_eq (pts_oK (F := F) d L (k0_off5 L) (k0_off5_inb L) 0 (pOff5 L) _).symm) $$ Ho0
  ihave Ho1' := (Entails.of_eq (pts_oK (F := F) d L (k0_off8 L) (k0_off8_inb L) 1 (pOff8 L) _).symm) $$ Ho1
  ihave Ho2' := (Entails.of_eq (pts_oK (F := F) d L (k0_off11 L) (k0_off11_inb L) 2 (pOff11 L) _).symm) $$ Ho2
  ihave Ho3' := (Entails.of_eq (pts_oK (F := F) d L (k0_off14 L) (k0_off14_inb L) 3 (pOff14 L) _).symm) $$ Ho3
  ihave Ho4' := (Entails.of_eq (pts_oK (F := F) d L (k0_off17 L) (k0_off17_inb L) 4 (pOff17 L) _).symm) $$ Ho4
  ihave Ho5' := (Entails.of_eq (pts_oK (F := F) d L (k0_off20 L) (k0_off20_inb L) 5 (pOff20 L) _).symm) $$ Ho5
  ihave Ho6' := (Entails.of_eq (pts_oK (F := F) d L (k0_off23 L) (k0_off23_inb L) 6 (pOff23 L) _).symm) $$ Ho6
  ihave Ho7' := (Entails.of_eq (pts_oK (F := F) d L (k0_off26 L) (k0_off26_inb L) 7 (pOff26 L) _).symm) $$ Ho7
  ihave Ho8' := (Entails.of_eq (pts_oK (F := F) d L (k0_off29 L) (k0_off29_inb L) 8 (pOff29 L) _).symm) $$ Ho8
  ihave Ho9' := (Entails.of_eq (pts_oK (F := F) d L (k0_off32 L) (k0_off32_inb L) 9 (pOff32 L) _).symm) $$ Ho9
  ihave Ho10' := (Entails.of_eq (pts_oK (F := F) d L (k0_off35 L) (k0_off35_inb L) 10 (pOff35 L) _).symm) $$ Ho10
  ihave Ho11' := (Entails.of_eq (pts_oK (F := F) d L (k0_off36 L) (k0_off36_inb L) 11 (pOff36 L) _).symm) $$ Ho11
  ihave Hx' := (Entails.of_eq (pts_xV (F := F) d L _ _).symm) $$ Hx
  ihave Hi' := (Entails.of_eq (pts_iV (F := F) d L _ _).symm) $$ Hi
  ihave Hn' := (Entails.of_eq (pts_nV (F := F) d L _).symm) $$ Hn
  ihave Ha' := (Entails.of_eq (pts_aV (F := F) d L _).symm) $$ Ha
  ihave Hb' := (Entails.of_eq (pts_bV (F := F) d L _).symm) $$ Hb
  sl_exec (disch := first | ((with_reducible refine chk1 ?_); exact word_lt d L hv fn _ 0 slices_S16_o0_S1) | ((with_reducible refine chk2 ?_); exact word_lt d L hv fn _ 0 slices_S16_o0_S1) | ((with_reducible refine chk3 ?_); exact word_lt d L hv fn _ 1 slices_S16_o1_S1) | ((with_reducible refine chk4 ?_); exact word_lt d L hv fn _ 1 slices_S16_o1_S1) | ((with_reducible refine chk5 ?_); exact word_lt d L hv fn _ 2 slices_S16_o2_S1) | ((with_reducible refine chk6 ?_); exact word_lt d L hv fn _ 2 slices_S16_o2_S1) | ((with_reducible refine chk7 ?_); exact word_lt d L hv fn _ 3 slices_S16_o3_S1) | ((with_reducible refine chk8 ?_); exact word_lt d L hv fn _ 3 slices_S16_o3_S1) | ((with_reducible refine chk9 ?_); exact word_lt d L hv fn _ 4 slices_S16_o4_S1) | ((with_reducible refine chk10 ?_); exact word_lt d L hv fn _ 4 slices_S16_o4_S1) | ((with_reducible refine chk11 ?_); exact word_lt d L hv fn _ 5 slices_S16_o5_S1) | ((with_reducible refine chk12 ?_); exact word_lt d L hv fn _ 5 slices_S16_o5_S1))
  have hw0 : tile_run.sl.v7 d L v fn = v (entry L 0) := word_eq d L v fn _ 0 slices_S16_o0_S1
  have hw1 : tile_run.sl.v25 d L v fn = v (entry L 1) := word_eq d L v fn _ 1 slices_S16_o1_S1
  have hw2 : tile_run.sl.v49 d L v fn = v (entry L 2) := word_eq d L v fn _ 2 slices_S16_o2_S1
  have hw3 : tile_run.sl.v73 d L v fn = v (entry L 3) := word_eq d L v fn _ 3 slices_S16_o3_S1
  have hw4 : tile_run.sl.v97 d L v fn = v (entry L 4) := word_eq d L v fn _ 4 slices_S16_o4_S1
  have hw5 : tile_run.sl.v121 d L v fn = v (entry L 5) := word_eq d L v fn _ 5 slices_S16_o5_S1
  have hA0 : tile_run.sl.dma1_2 d L x v hv fn fa = tile_run.sl.dma1 d L x v hv fn := by
    delta tile_run.sl.dma1_2
    exact View.read_write_univ (v := (aV).view) _ _
  have hB0 : tile_run.sl.dma1 d L x v hv fn = View.read (Elt F) (xK (k0_off2 (tile_run.sl.v7 d L v fn)) (k0_off2_inb _ (chk1 (hw0 ▸ hv _)))).view x := by
    delta tile_run.sl.dma1
    rfl
  ihave Hd0 := (block_done (F := F) d L 0 (k0_off5 L) (k0_off5_inb L) (pOff5 L) (k0_off2 (tile_run.sl.v7 d L v fn))
    (k0_off2_inb _ (chk1 (hw0 ▸ hv _))) x v fo (tile_run.sl.dma1_2 d L x v hv fn fa) (vec4_ext rfl (congrArg BitVec.toNat hw0)) (hA0.trans hB0)) $$ Ho0'
  have hA1 : tile_run.sl.dma1_4 d L x v hv fn fb = tile_run.sl.dma1_1 d L x v hv fn := by
    delta tile_run.sl.dma1_4
    exact View.read_write_univ (v := (bV).view) _ _
  have hB1 : tile_run.sl.dma1_1 d L x v hv fn = View.read (Elt F) (xK (k0_off3 (tile_run.sl.v7 d L v fn)) (k0_off3_inb _ (chk2 (hw0 ▸ hv _)))).view x := by
    delta tile_run.sl.dma1_1
    rfl
  ihave Hd1 := (block_done (F := F) d L 1 (k0_off8 L) (k0_off8_inb L) (pOff8 L) (k0_off3 (tile_run.sl.v7 d L v fn))
    (k0_off3_inb _ (chk2 (hw0 ▸ hv _))) x v fo (tile_run.sl.dma1_4 d L x v hv fn fb) (vec4_ext rfl (congrArg BitVec.toNat hw0)) (hA1.trans hB1)) $$ Ho1'
  have hA2 : tile_run.sl.dma1_6 d L x v hv fn fa = tile_run.sl.dma1_3 d L x v hv fn := by
    delta tile_run.sl.dma1_6
    exact View.read_write_univ (v := (aV).view) _ _
  have hB2 : tile_run.sl.dma1_3 d L x v hv fn = View.read (Elt F) (xK (k0_off6 (tile_run.sl.v25 d L v fn)) (k0_off6_inb _ (chk3 (hw1 ▸ hv _)))).view x := by
    delta tile_run.sl.dma1_3
    rfl
  ihave Hd2 := (block_done (F := F) d L 2 (k0_off11 L) (k0_off11_inb L) (pOff11 L) (k0_off6 (tile_run.sl.v25 d L v fn))
    (k0_off6_inb _ (chk3 (hw1 ▸ hv _))) x v fo (tile_run.sl.dma1_6 d L x v hv fn fa) (vec4_ext rfl (congrArg BitVec.toNat hw1)) (hA2.trans hB2)) $$ Ho2'
  have hA3 : tile_run.sl.dma1_8 d L x v hv fn fb = tile_run.sl.dma1_5 d L x v hv fn := by
    delta tile_run.sl.dma1_8
    exact View.read_write_univ (v := (bV).view) _ _
  have hB3 : tile_run.sl.dma1_5 d L x v hv fn = View.read (Elt F) (xK (k0_off9 (tile_run.sl.v25 d L v fn)) (k0_off9_inb _ (chk4 (hw1 ▸ hv _)))).view x := by
    delta tile_run.sl.dma1_5
    rfl
  ihave Hd3 := (block_done (F := F) d L 3 (k0_off14 L) (k0_off14_inb L) (pOff14 L) (k0_off9 (tile_run.sl.v25 d L v fn))
    (k0_off9_inb _ (chk4 (hw1 ▸ hv _))) x v fo (tile_run.sl.dma1_8 d L x v hv fn fb) (vec4_ext rfl (congrArg BitVec.toNat hw1)) (hA3.trans hB3)) $$ Ho3'
  have hA4 : tile_run.sl.dma1_10 d L x v hv fn fa = tile_run.sl.dma1_7 d L x v hv fn := by
    delta tile_run.sl.dma1_10
    exact View.read_write_univ (v := (aV).view) _ _
  have hB4 : tile_run.sl.dma1_7 d L x v hv fn = View.read (Elt F) (xK (k0_off12 (tile_run.sl.v49 d L v fn)) (k0_off12_inb _ (chk5 (hw2 ▸ hv _)))).view x := by
    delta tile_run.sl.dma1_7
    rfl
  ihave Hd4 := (block_done (F := F) d L 4 (k0_off17 L) (k0_off17_inb L) (pOff17 L) (k0_off12 (tile_run.sl.v49 d L v fn))
    (k0_off12_inb _ (chk5 (hw2 ▸ hv _))) x v fo (tile_run.sl.dma1_10 d L x v hv fn fa) (vec4_ext rfl (congrArg BitVec.toNat hw2)) (hA4.trans hB4)) $$ Ho4'
  have hA5 : tile_run.sl.dma1_12 d L x v hv fn fb = tile_run.sl.dma1_9 d L x v hv fn := by
    delta tile_run.sl.dma1_12
    exact View.read_write_univ (v := (bV).view) _ _
  have hB5 : tile_run.sl.dma1_9 d L x v hv fn = View.read (Elt F) (xK (k0_off15 (tile_run.sl.v49 d L v fn)) (k0_off15_inb _ (chk6 (hw2 ▸ hv _)))).view x := by
    delta tile_run.sl.dma1_9
    rfl
  ihave Hd5 := (block_done (F := F) d L 5 (k0_off20 L) (k0_off20_inb L) (pOff20 L) (k0_off15 (tile_run.sl.v49 d L v fn))
    (k0_off15_inb _ (chk6 (hw2 ▸ hv _))) x v fo (tile_run.sl.dma1_12 d L x v hv fn fb) (vec4_ext rfl (congrArg BitVec.toNat hw2)) (hA5.trans hB5)) $$ Ho5'
  have hA6 : tile_run.sl.dma1_14 d L x v hv fn fa = tile_run.sl.dma1_11 d L x v hv fn := by
    delta tile_run.sl.dma1_14
    exact View.read_write_univ (v := (aV).view) _ _
  have hB6 : tile_run.sl.dma1_11 d L x v hv fn = View.read (Elt F) (xK (k0_off18 (tile_run.sl.v73 d L v fn)) (k0_off18_inb _ (chk7 (hw3 ▸ hv _)))).view x := by
    delta tile_run.sl.dma1_11
    rfl
  ihave Hd6 := (block_done (F := F) d L 6 (k0_off23 L) (k0_off23_inb L) (pOff23 L) (k0_off18 (tile_run.sl.v73 d L v fn))
    (k0_off18_inb _ (chk7 (hw3 ▸ hv _))) x v fo (tile_run.sl.dma1_14 d L x v hv fn fa) (vec4_ext rfl (congrArg BitVec.toNat hw3)) (hA6.trans hB6)) $$ Ho6'
  have hA7 : tile_run.sl.dma1_16 d L x v hv fn fb = tile_run.sl.dma1_13 d L x v hv fn := by
    delta tile_run.sl.dma1_16
    exact View.read_write_univ (v := (bV).view) _ _
  have hB7 : tile_run.sl.dma1_13 d L x v hv fn = View.read (Elt F) (xK (k0_off21 (tile_run.sl.v73 d L v fn)) (k0_off21_inb _ (chk8 (hw3 ▸ hv _)))).view x := by
    delta tile_run.sl.dma1_13
    rfl
  ihave Hd7 := (block_done (F := F) d L 7 (k0_off26 L) (k0_off26_inb L) (pOff26 L) (k0_off21 (tile_run.sl.v73 d L v fn))
    (k0_off21_inb _ (chk8 (hw3 ▸ hv _))) x v fo (tile_run.sl.dma1_16 d L x v hv fn fb) (vec4_ext rfl (congrArg BitVec.toNat hw3)) (hA7.trans hB7)) $$ Ho7'
  have hA8 : tile_run.sl.dma1_18 d L x v hv fn fa = tile_run.sl.dma1_15 d L x v hv fn := by
    delta tile_run.sl.dma1_18
    exact View.read_write_univ (v := (aV).view) _ _
  have hB8 : tile_run.sl.dma1_15 d L x v hv fn = View.read (Elt F) (xK (k0_off24 (tile_run.sl.v97 d L v fn)) (k0_off24_inb _ (chk9 (hw4 ▸ hv _)))).view x := by
    delta tile_run.sl.dma1_15
    rfl
  ihave Hd8 := (block_done (F := F) d L 8 (k0_off29 L) (k0_off29_inb L) (pOff29 L) (k0_off24 (tile_run.sl.v97 d L v fn))
    (k0_off24_inb _ (chk9 (hw4 ▸ hv _))) x v fo (tile_run.sl.dma1_18 d L x v hv fn fa) (vec4_ext rfl (congrArg BitVec.toNat hw4)) (hA8.trans hB8)) $$ Ho8'
  have hA9 : tile_run.sl.dma1_20 d L x v hv fn fb = tile_run.sl.dma1_17 d L x v hv fn := by
    delta tile_run.sl.dma1_20
    exact View.read_write_univ (v := (bV).view) _ _
  have hB9 : tile_run.sl.dma1_17 d L x v hv fn = View.read (Elt F) (xK (k0_off27 (tile_run.sl.v97 d L v fn)) (k0_off27_inb _ (chk10 (hw4 ▸ hv _)))).view x := by
    delta tile_run.sl.dma1_17
    rfl
  ihave Hd9 := (block_done (F := F) d L 9 (k0_off32 L) (k0_off32_inb L) (pOff32 L) (k0_off27 (tile_run.sl.v97 d L v fn))
    (k0_off27_inb _ (chk10 (hw4 ▸ hv _))) x v fo (tile_run.sl.dma1_20 d L x v hv fn fb) (vec4_ext rfl (congrArg BitVec.toNat hw4)) (hA9.trans hB9)) $$ Ho9'
  have hA10 : tile_run.sl.dma1_22 d L x v hv fn fa = tile_run.sl.dma1_19 d L x v hv fn := by
    delta tile_run.sl.dma1_22
    exact View.read_write_univ (v := (aV).view) _ _
  have hB10 : tile_run.sl.dma1_19 d L x v hv fn = View.read (Elt F) (xK (k0_off30 (tile_run.sl.v121 d L v fn)) (k0_off30_inb _ (chk11 (hw5 ▸ hv _)))).view x := by
    delta tile_run.sl.dma1_19
    rfl
  ihave Hd10 := (block_done (F := F) d L 10 (k0_off35 L) (k0_off35_inb L) (pOff35 L) (k0_off30 (tile_run.sl.v121 d L v fn))
    (k0_off30_inb _ (chk11 (hw5 ▸ hv _))) x v fo (tile_run.sl.dma1_22 d L x v hv fn fa) (vec4_ext rfl (congrArg BitVec.toNat hw5)) (hA10.trans hB10)) $$ Ho10'
  have hA11 : tile_run.sl.dma1_23 d L x v hv fn fb = tile_run.sl.dma1_21 d L x v hv fn := by
    delta tile_run.sl.dma1_23
    exact View.read_write_univ (v := (bV).view) _ _
  have hB11 : tile_run.sl.dma1_21 d L x v hv fn = View.read (Elt F) (xK (k0_off33 (tile_run.sl.v121 d L v fn)) (k0_off33_inb _ (chk12 (hw5 ▸ hv _)))).view x := by
    delta tile_run.sl.dma1_21
    rfl
  ihave Hd11 := (block_done (F := F) d L 11 (k0_off36 L) (k0_off36_inb L) (pOff36 L) (k0_off33 (tile_run.sl.v121 d L v fn))
    (k0_off33_inb _ (chk12 (hw5 ▸ hv _))) x v fo (tile_run.sl.dma1_23 d L x v hv fn fb) (vec4_ext rfl (congrArg BitVec.toNat hw5)) (hA11.trans hB11)) $$ Ho11'
  sl_step
  isplitl [Hx' Hi' Hd0 Hd1 Hd2 Hd3 Hd4 Hd5 Hd6 Hd7 Hd8 Hd9 Hd10 Hd11]
  · isplitl [Hx']; · iexact Hx'
    isplitl [Hi']; · iexact Hi'
    rw [sep12]
    isplitl [Hd0]; · iexact Hd0
    isplitl [Hd1]; · iexact Hd1
    isplitl [Hd2]; · iexact Hd2
    isplitl [Hd3]; · iexact Hd3
    isplitl [Hd4]; · iexact Hd4
    isplitl [Hd5]; · iexact Hd5
    isplitl [Hd6]; · iexact Hd6
    isplitl [Hd7]; · iexact Hd7
    isplitl [Hd8]; · iexact Hd8
    isplitl [Hd9]; · iexact Hd9
    isplitl [Hd10]; · iexact Hd10
    iexact Hd11
  isplitl [Hn' Ha' Hb' Hbufs]
  · isplitl [Hn']; · iexists _; iexact Hn'
    isplitl [Ha']; · iexists _; iexact Ha'
    isplitl [Hb']; · iexists _; iexact Hb'
    iexact Hbufs
  isplitl [Hs0 Hs1 Hs2 Hs3 Hs4 Hs5 Hs6 Hs7 Hs8 Hs9 Hs10 Hs11 Hs12 Hs13 Hs14 Hsems]
  · isplitr [Hsems]
    · isplitl [Hs0]; · iexact Hs0
      isplitl [Hs1]; · iexact Hs1
      isplitl [Hs2]; · iexact Hs2
      isplitl [Hs3]; · iexact Hs3
      isplitl [Hs4]; · iexact Hs4
      isplitl [Hs5]; · iexact Hs5
      isplitl [Hs6]; · iexact Hs6
      isplitl [Hs7]; · iexact Hs7
      isplitl [Hs8]; · iexact Hs8
      isplitl [Hs9]; · iexact Hs9
      isplitl [Hs10]; · iexact Hs10
      isplitl [Hs11]; · iexact Hs11
      isplitl [Hs12]; · iexact Hs12
      isplitl [Hs13]; · iexact Hs13
      iexact Hs14
    iexact Hsems
  iexists _; isplitr
  swap; · iexact HO
  ipureintro; intro p hp
  repeat (rcases Finset.mem_insert.mp hp with hp | hp; · exact .inr (hp ▸ rfl))
  exact .inl hp

end Tile

end Cert.Proof.GatherIdeal

end
-- ==== Proof.GatherLaunch.lean ====
/-
  The gather call launched: how the arrays are dealt to the thirty-two tasks and come back, and the run of the whole
  program, which ends with both arguments unchanged, every semaphore at zero and the result holding the gathered channels.
-/
module

public import proofs.«01_k».proof.Proof.GatherRun

@[expose] public section

noncomputable section

namespace Cert.Proof.GatherIdeal

open Cert.GatherIdeal Cert.GatherIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

open Idealize.ShloMosaic.Transfers (shareTok shareDrop)

local notation "𝕄" => MT nD τ sig (HIx 1) (Elt F) ℕ UU ℕ
local notation "xV" => (Memref.whole Cert.GatherIdeal.main_arg0_scv : Memref Cert.GatherIdeal.sig Kind.scVector Space.hbm Cert.GatherIdeal.S16x768x48x48 EltTy.f32)
local notation "iV" => (Memref.whole Cert.GatherIdeal.main_arg1_scv : Memref Cert.GatherIdeal.sig Kind.scVector Space.hbm Cert.GatherIdeal.S192 EltTy.i32)
local notation "oV" => (Memref.whole Cert.GatherIdeal.main_v0_scv : Memref Cert.GatherIdeal.sig Kind.scVector Space.hbm Cert.GatherIdeal.S16x192x48x48 EltTy.f32)
local notation "nV" => (Memref.whole Cert.GatherIdeal.cc0_scratch0 : Memref Cert.GatherIdeal.sig Kind.scVector Space.vmem Cert.GatherIdeal.S208 EltTy.i32)
local notation "aV" => (Memref.whole Cert.GatherIdeal.cc0_scratch1 : Memref Cert.GatherIdeal.sig Kind.scVector Space.vmem Cert.GatherIdeal.S8x48x48 EltTy.f32)
local notation "bV" => (Memref.whole Cert.GatherIdeal.cc0_scratch2 : Memref Cert.GatherIdeal.sig Kind.scVector Space.vmem Cert.GatherIdeal.S8x48x48 EltTy.f32)

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

def coordsV (c : Fin (grid0.bound 0)) (s : Fin (grid0.bound 1)) : grid0.Coords :=
  fun | 0 => c | 1 => s | ⟨_ + 2, h⟩ => absurd h (Nat.not_lt.2 (Nat.le_add_left _ _))

/-! ## How the arrays are dealt -/

/-- What task `w` is handed, the blocks of the result holding `fo`: its share of `x` and of the list, its twelve blocks. -/
abbrev goW (d : Dev nD) (w : Fin 32) (x : Buf (Elt F) (xLoc d)) (v : Buf (Elt F) (iLoc d)) (fo : Buf (Elt F) (oLoc d)) : sProp 𝕄 :=
  iprop((xLoc d ↦{shareTok fullShare 32 w} x) ∗ (iLoc d ↦{shareTok fullShare 32 w} v)
    ∗ bigSep Finset.univ fun p : Fin 12 => oLoc d ↦[pSet w p]{fullShare} fo)

/-- The number of the task at SparseCore `c`, subcore `s`. -/
abbrev wOf (c : Fin 2) (s : Fin 16) : Fin 32 := wid (coordsV c s)

theorem wOf_val (c : Fin 2) (s : Fin 16) : (wOf c s).val = 2 * s.val + c.val := rfl

def taskEquiv : Fin 2 × Fin 16 ≃ Fin 32 := (Equiv.prodComm _ _).trans finProdFinEquiv

theorem taskEquiv_apply (c : Fin 2) (s : Fin 16) : taskEquiv (c, s) = wOf c s := Fin.ext (by
  show c.val + 2 * s.val = 2 * s.val + c.val
  omega)

theorem bigSep_tasks (Φ : Fin 32 → sProp 𝕄) :
    bigSep Finset.univ Φ = bigSep Finset.univ fun c : Fin 2 => bigSep Finset.univ fun s : Fin 16 => Φ (wOf c s) := by
  rw [bigSep_univ_equiv taskEquiv Φ, bigSep_univ_prod]
  refine bigSep_congr fun c _ => bigSep_congr fun s _ => ?_
  rw [taskEquiv_apply]

theorem toks {ℓ : Loc nD τ sig} (f : Buf (Elt F) ℓ) :
    (ℓ ↦{fullShare} f : sProp 𝕄) = iprop((ℓ ↦{shareDrop fullShare 32} f)
      ∗ bigSep Finset.univ fun c : Fin 2 => bigSep Finset.univ fun s : Fin 16 => ℓ ↦{shareTok fullShare 32 (wOf c s)} f) := by
  rw [BI.Entails.antisymm (Transfers.pointsTo_toks_split (ℓ := ℓ) (S := Finset.univ) (f := f) fullShare 32) (Transfers.pointsTo_toks_join fullShare 32),
    bigSep_tasks]

theorem blocks_disjoint : ∀ a ∈ (Finset.univ : Finset (Fin 32 × Fin 12)), ∀ b ∈ (Finset.univ : Finset (Fin 32 × Fin 12)), a ≠ b →
    Disjoint (pSet a.1 a.2) (pSet b.1 b.2) := by
  intro a _ b _ hab
  rw [Finset.disjoint_left]
  intro j ha hb
  rw [mem_pSet] at ha hb
  have ha2 := a.2.isLt; have hb2 := b.2.isLt
  refine hab (Prod.ext (Fin.ext ?_) (Fin.ext ?_)) <;> omega

theorem blocks_cover : (Finset.univ : Finset (Fin 32 × Fin 12)).biUnion (fun a => pSet a.1 a.2) = Finset.univ := by
  ext j
  have h0 : (j 0).val < 16 := (j 0).isLt
  have h1 : (j 1).val < 192 := (j 1).isLt
  simp only [Finset.mem_biUnion, Finset.mem_univ, true_and, iff_true]
  refine ⟨(⟨(j 1).val / 6, by omega⟩, ⟨2 * ((j 1).val % 6) + (j 0).val / 8, by omega⟩), ?_⟩
  rw [mem_pSet]
  constructor
  · show (j 0).val / 8 = (2 * ((j 1).val % 6) + (j 0).val / 8) % 2
    omega
  · show (j 1).val = 6 * ((j 1).val / 6) + (2 * ((j 1).val % 6) + (j 0).val / 8) / 2
    omega

theorem blocks (d : Dev nD) (f : Buf (Elt F) (oLoc d)) :
    (oLoc d ↦{fullShare} f : sProp 𝕄) = bigSep Finset.univ fun c : Fin 2 => bigSep Finset.univ fun s : Fin 16 =>
      bigSep Finset.univ fun p : Fin 12 => oLoc d ↦[pSet (wOf c s) p]{fullShare} f := by
  rw [← bigSep_tasks (F := F) (fun w => bigSep Finset.univ fun p : Fin 12 => oLoc d ↦[pSet w p]{fullShare} f),
    ← bigSep_univ_prod (fun a : Fin 32 × Fin 12 => (oLoc d ↦[pSet a.1 a.2]{fullShare} f : sProp 𝕄)),
    ← pointsTo_biUnion Finset.univ (ℓ := oLoc d) (fun a : Fin 32 × Fin 12 => pSet a.1 a.2) blocks_disjoint, blocks_cover]

/-- The three arrays, whole, are what is left of the shares and what the tasks are handed. -/
theorem dealt (d : Dev nD) (x : Buf (Elt F) (xLoc d)) (v : Buf (Elt F) (iLoc d)) (f : Buf (Elt F) (oLoc d)) :
    (iprop((xLoc d ↦{fullShare} x) ∗ (iLoc d ↦{fullShare} v) ∗ oLoc d ↦{fullShare} f) : sProp 𝕄)
      = iprop(((xLoc d ↦{shareDrop fullShare 32} x) ∗ iLoc d ↦{shareDrop fullShare 32} v)
          ∗ bigSep Finset.univ fun c : Fin 2 => bigSep Finset.univ fun s : Fin 16 => goW d (wOf c s) x v f) := by
  rw [toks x, toks v, blocks]
  have e : (bigSep Finset.univ fun c : Fin 2 => bigSep Finset.univ fun s : Fin 16 => goW d (wOf c s) x v f : sProp 𝕄)
      = iprop((bigSep Finset.univ fun c : Fin 2 => bigSep Finset.univ fun s : Fin 16 => xLoc d ↦{shareTok fullShare 32 (wOf c s)} x)
        ∗ (bigSep Finset.univ fun c : Fin 2 => bigSep Finset.univ fun s : Fin 16 => iLoc d ↦{shareTok fullShare 32 (wOf c s)} v)
        ∗ bigSep Finset.univ fun c : Fin 2 => bigSep Finset.univ fun s : Fin 16 => bigSep Finset.univ fun p : Fin 12 => oLoc d ↦[pSet (wOf c s) p]{fullShare} f) := by
    rw [← bigSep_sep', ← bigSep_sep']
    refine bigSep_congr fun c _ => ?_
    rw [← bigSep_sep', ← bigSep_sep']
  rw [e]
  apply BI.Entails.antisymm
  · change BIBase.Entails (PROP := sProp 𝕄) _ _
    iintro ⟨⟨A, B⟩, ⟨C, E⟩, G⟩
    isplitl [A C]
    · isplitl [A] <;> iassumption
    isplitl [B]; · iexact B
    isplitl [E] <;> iassumption
  · change BIBase.Entails (PROP := sProp 𝕄) _ _
    iintro ⟨⟨A, C⟩, B, E, G⟩
    isplitl [A B]
    · isplitl [A] <;> iassumption
    isplitr [G]
    · isplitl [C] <;> iassumption
    iexact G

/-! ## What passes between the threads -/

variable (m : (ℓ : Loc nD τ sig) → Buf (Elt F) ℓ) (ρ : Dev nD → PrngReg)

/-- What the proof asks of the launch memory: the list names channels. -/
def PreOK : Prop := ∀ d : Dev nD, ListOK (m (iLoc d))

abbrev goP (d : Dev nD) (c : Fin 2) (s : Fin 16) : sProp 𝕄 := goW d (wOf c s) (m (xLoc d)) (m (iLoc d)) (m (oLoc d))
abbrev tdP (d : Dev nD) (c : Fin 2) (s : Fin 16) : sProp 𝕄 := goW d (wOf c s) (m (xLoc d)) (m (iLoc d)) (gathered (m (xLoc d)) (m (iLoc d)))

def P : (K (F := F)).Pay (nD := nD) (Val := Elt F) (Name := ℕ) (U := UU) where
  st := fun q d c => match q with | 0 => bigSep Finset.univ fun s : Fin 16 => goP m d c s
  dn := fun q d c => match q with | 0 => bigSep Finset.univ fun s : Fin 16 => tdP m d c s
  go := fun q d c i => match q with | 0 => goP m d c i
  td := fun q d c i => match q with | 0 => tdP m d c i
  x := fun _ _ => iprop(emp)

instance P_storable : (P (F := F) m).IsStorable where
  st q d c := match q with
    | 0 => (inferInstance : BI.Storable (upEmb : UEmb _ 𝕄) (bigSep Finset.univ fun s : Fin 16 => goP m d c s))
  dn q d c := match q with
    | 0 => (inferInstance : BI.Storable (upEmb : UEmb _ 𝕄) (bigSep Finset.univ fun s : Fin 16 => tdP m d c s))
  go q d c i := match q with
    | 0 => (inferInstance : BI.Storable (upEmb : UEmb _ 𝕄) (goP m d c i))
  td q d c i := match q with
    | 0 => (inferInstance : BI.Storable (upEmb : UEmb _ 𝕄) (tdP m d c i))

/-! ## The tasks' obligation -/

section Tile
variable [FloatOps F]

theorem defs₀_vector (c : Fin τ.nSC) (s : Fin τ.nSub) :
    defs₀ (F := F) (.scVector c s) 0 ()
      = SparseCore.onTile hcore0 hsub0 (fun c s => cc0__sc_gather_body (coordsV c s) xV (Memref.isWhole_whole _) iV (Memref.isWhole_whole _) oV (Memref.isWhole_whole _)
            nV (Memref.isWhole_whole _) aV (Memref.isWhole_whole _) bV (Memref.isWhole_whole _) cc0_scratch3 cc0_scratch4 cc0_scoped0 cc0_scoped1 cc0_scoped2 cc0_scoped3 cc0_scoped4 cc0_scoped5 cc0_scoped6 cc0_scoped7 cc0_scoped8 cc0_scoped9 cc0_scoped10 cc0_scoped11 cc0_scoped12) ⟨⟩ c s := rfl

omit [FloatOps F] in
theorem obl_post {thr : Thread nD τ} {A B C : sProp 𝕄} {O : CellTallies nD τ sig (HIx 1)} {W : Waits sig (HIx 1)} {R : SemLoc sig × HIx 1 → Prop} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ R p⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  refine BI.Entails.trans (Q := iprop(levAts (K (F := F)).L (K (F := F)).lev ∗ goP m d c i
      ∗ scopedBufs (V d ((K (F := F)).core 0 c) ((K (F := F)).sub 0 i)) ∗ scopedSems0 (V d ((K (F := F)).core 0 c) ((K (F := F)).sub 0 i))
      ∗ owes (V d ((K (F := F)).core 0 c) ((K (F := F)).sub 0 i)) O W)) ?_ ?_
  · change BIBase.Entails (PROP := sProp 𝕄) _ _
    iintro ⟨Hl, -, H⟩
    isplitl [Hl]; · iexact Hl
    iexact H
  exact (tile_run d (coordsV ⟨_, hci.1⟩ ⟨_, hci.2⟩) hF _ _ (m (xLoc d)) (m (iLoc d)) (hpre d) (m (oLoc d)) O W hO).trans (wp_mono frame _ _ fun _ => obl_post)

end Tile

theorem vecSplit : (K (F := F)).VecSplit' (P m) 0 := by
  intro d c
  show (bigSep Finset.univ fun s : Fin 16 => goP m d c s) ⊢ |={Set.univ}=> iprop(
      (bigSep Finset.univ fun s : Fin 16 => goP m d c s)
      ∗ ((bigSep Finset.univ fun s : Fin 16 => tdP m d c s) -∗ (bigSep Finset.univ fun s : Fin 16 => tdP m d c s)))
  iintro H; imodintro
  isplitl [H]; · iexact H
  iintro H; iexact H

/-! ## The launch -/

def u₀ : UU := (initOf (K (F := F)).hsCells (K (F := F)).hsToks, 1)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

theorem unscopedBufs_eq (d : Dev nD) (W : (b : Ref sig .tc) → Buf (Elt F) ((d.tc : Thread nD τ).loc b)) :
    (unscopedBufs d W : sProp 𝕄) = iprop((xLoc d ↦{fullShare} W main_arg0) ∗ (iLoc d ↦{fullShare} W main_arg1) ∗ oLoc d ↦{fullShare} W main_v0) := by
  unfold unscopedBufs
  rw [show (Finset.univ.filter fun b : Ref sig .tc => ¬ b.isScoped) = {main_arg0, main_arg1, main_v0} by decide,
    SparseCore.bigSep_insert' (by decide), SparseCore.bigSep_insert' (by decide), bigSep_singleton]

theorem st0_eq (d : Dev nD) : (bigSep Finset.univ fun c : Fin ((K (F := F)).nCore 0) => (P m).st 0 d c)
    = bigSep Finset.univ fun c : Fin 2 => bigSep Finset.univ fun s : Fin 16 => goP m d c s := rfl
theorem dn0_eq (d : Dev nD) : (bigSep Finset.univ fun c : Fin ((K (F := F)).nCore 0) => (P m).dn 0 d c)
    = bigSep Finset.univ fun c : Fin 2 => bigSep Finset.univ fun s : Fin 16 => tdP m d c s := rfl

abbrev FIN (d : Dev nD) : sProp 𝕄 := iprop((xLoc d ↦{fullShare} m (xLoc d)) ∗ (iLoc d ↦{fullShare} m (iLoc d))
  ∗ oLoc d ↦{fullShare} gathered (m (xLoc d)) (m (iLoc d)))

variable [FloatOps F]

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq, dealt]
  simp only [main, wp_bind, wp_pure]
  iintro ⟨#Hctx, Hst, ⟨Hb, ⟨Hrest, Hgo⟩, Hts, -⟩, -⟩
  iapply ((K (F := F)).wp_run (D (F := F)) 𝒱 (EH := EH) (P := P m) κ d 0) $$ [Hst Hrest Hgo Hb Hts]
  isplitr; · iexact Hctx
  isplitl [Hst]; · iexact Hst
  isplitl [Hgo]
  · rw [st0_eq]; iexact Hgo
  iintro ⟨Hst, Hdn⟩
  ihave Hdn' := (Entails.of_eq (dn0_eq m d)) $$ Hdn
  imodintro
  isplitl [Hst]; · iexact Hst
  isplitr [Hb Hts]
  · iapply (Entails.of_eq (dealt d (m (xLoc d)) (m (iLoc d)) (gathered (m (xLoc d)) (m (iLoc d)))).symm)
    isplitl [Hrest] <;> iassumption
  isplitl [Hb] <;> iassumption

def fq (d : Dev nD) (s' : Phys nD τ sig (Elt F)) : Prop :=
  s'.mem.mem (xLoc d) = m (xLoc d) ∧ s'.mem.mem (iLoc d) = m (iLoc d) ∧ s'.mem.mem (oLoc d) = gathered (m (xLoc d)) (m (iLoc d))

set_option maxRecDepth 16384 in
theorem hfin (d : Dev nD) (s' : Phys nD τ sig (Elt F)) : iprop(FIN m d ∗ SI s') ⊢ (⌜fq m d s'⌝ : sProp 𝕄) := by
  iintro ⟨⟨Hx, Hi, Ho⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%h1, HSI, -⟩
  ihave H := (persistent_entails_right (SI_pointsTo_agree (st := s') (ℓ := iLoc d) (I := Finset.univ) (q := fullShare) (f := m (iLoc d)))) $$ [HSI Hi]
  · isplitl [HSI] <;> iassumption
  icases H with ⟨%h2, HSI, -⟩
  ihave H := (SI_pointsTo_agree (st := s') (ℓ := oLoc d) (I := Finset.univ) (q := fullShare) (f := gathered (m (xLoc d)) (m (iLoc d)))) $$ [HSI Ho]
  · isplitl [HSI] <;> iassumption
  icases H with %h3
  ipureintro; exact ⟨funext fun i => h1 i (Finset.mem_univ i), funext fun i => h2 i (Finset.mem_univ i), funext fun i => h3 i (Finset.mem_univ i)⟩

/-- What is claimed of a final state. -/
def QC : PUnit × MemSt nD τ sig (Elt F) → Prop := fun r =>
  (∀ c : Dev nD, r.2.mem (xLoc c) = m (xLoc c) ∧ r.2.mem (iLoc c) = m (iLoc c) ∧ r.2.mem (oLoc c) = gathered (m (xLoc c)) (m (iLoc c)))
    ∧ r.2.sem = fun _ => 0

theorem run_main [∀ e, Nonempty (Elt F e)] (hpre : PreOK m) :
    θ_run (Cert.GatherIdeal.defs (F := F)) (Cert.GatherIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.GatherIdeal

end
-- ==== Proof.Take.lean ====
/-
  `jnp.take` of channels, read at an index: the gather along axis 1 of a [16, 768, 48, 48] array by a column of 192
  indices, the masks beside it, and a reduction by "and" of one-bit words.
-/
module

public import Idealize.ShloMosaic.Lib.ValueIdx
public import Idealize.ShloMosaic.Lib.WordCmp
public import Idealize.ShloMosaic.PureOps.Reduce

@[expose] public section

noncomputable section

namespace Cert.Proof.Take

open Idealize.ShloMosaic Idealize.ShloMosaic.ValueIdx

/-! ## A reduction by "and" -/

theorem foldl_and_of_all {ι : Type} (f : ι → BitVec 1) (l : List ι) (h : ∀ i ∈ l, f i = 1#1) :
    l.foldl (fun r i => IntOp.andi r (f i)) 1#1 = 1#1 := by
  induction l with
  | nil => rfl
  | cons a l ih =>
    rw [List.foldl_cons, h a List.mem_cons_self]
    exact ih fun i hi => h i (List.mem_cons_of_mem _ hi)

theorem foldl_and_zero {ι : Type} (f : ι → BitVec 1) (l : List ι) :
    l.foldl (fun r i => IntOp.andi r (f i)) 0#1 = 0#1 := by
  induction l with
  | nil => rfl
  | cons a l ih =>
    have e : ∀ b : BitVec 1, IntOp.andi 0#1 b = 0#1 := by decide
    rw [List.foldl_cons, e]
    exact ih

theorem all_of_foldl_and {ι : Type} (f : ι → BitVec 1) (l : List ι)
    (h : l.foldl (fun r i => IntOp.andi r (f i)) 1#1 = 1#1) : ∀ i ∈ l, f i = 1#1 := by
  induction l with
  | nil => intro i hi; cases hi
  | cons a l ih =>
    rw [List.foldl_cons] at h
    have e : ∀ b : BitVec 1, IntOp.andi 1#1 b = b := by decide
    have two : ∀ b : BitVec 1, b = 0#1 ∨ b = 1#1 := by decide
    rw [e] at h
    rcases two (f a) with ha | ha
    · rw [ha, foldl_and_zero] at h
      exact absurd h (by decide)
    · rw [ha] at h
      intro i hi
      rcases List.mem_cons.1 hi with rfl | hi
      · exact ha
      · exact ih h i hi

/-- A reduction by "and" from one is one where every element is. -/
theorem reduce_and_of_all {s t u : Shape} {axes : List (Fin s.rank)} (x : s.Idx → BitVec 1) (init : u.Idx → BitVec 1)
    (h : s.ReducesTo axes t) (hu : 0 < u.numel) (hi : ∀ i, init i = 1#1) (hx : ∀ i, x i = 1#1) (j : t.Idx) :
    Host.reduce IntOp.andi x init h hu j = 1#1 := by
  rw [Host.reduce_eq_foldl, hi]
  exact foldl_and_of_all _ _ fun i _ => hx i

/-- Where a reduction by "and" from one is one at `j`, so is every element that it folds there. -/
theorem all_of_reduce_and {s t u : Shape} {axes : List (Fin s.rank)} (x : s.Idx → BitVec 1) (init : u.Idx → BitVec 1)
    (h : s.ReducesTo axes t) (hu : 0 < u.numel) (hi : ∀ i, init i = 1#1) (j : t.Idx)
    (e : Host.reduce IntOp.andi x init h hu j = 1#1) (i : s.Idx) (hd : h.drop i = j) : x i = 1#1 := by
  rw [Host.reduce_eq_foldl, hi] at e
  refine all_of_foldl_and _ _ e i (List.mem_filter.2 ⟨List.mem_map.2 ⟨s.rowMajor i, List.mem_finRange _, ?_⟩, by simpa using hd⟩)
  exact s.rowMajor.symm_apply_apply i

/-! ## The gather along axis 1 -/

section Chan

variable {α : Type}

/-- The dimension numbers of a take along axis 1 of a rank-4 array. -/
abbrev chanDims (wf : GatherDims.WF ⟨4, ![16, 768, 48, 48]⟩ ⟨2, ![192, 1]⟩ ⟨4, ![16, 192, 48, 48]⟩ [0, 2, 3] [1] [] [1] [] 1 ![16, 1, 48, 48]) :
    GatherDims ⟨4, ![16, 768, 48, 48]⟩ ⟨2, ![192, 1]⟩ ⟨4, ![16, 192, 48, 48]⟩ where
  offsetDims := [0, 2, 3]
  collapsedSliceDims := [1]
  operandBatchingDims := []
  startIndicesBatchingDims := []
  startIndexMap := [1]
  indexVectorDim := 1
  sliceSizes := ![16, 1, 48, 48]
  wf := wf

/-- Element `(b, k, i, j)` of the gather is the operand's at the channel that entry `k` of the indices names. -/
theorem gather_chan (wf : GatherDims.WF ⟨4, ![16, 768, 48, 48]⟩ ⟨2, ![192, 1]⟩ ⟨4, ![16, 192, 48, 48]⟩ [0, 2, 3] [1] [] [1] [] 1 ![16, 1, 48, 48])
    (x : (⟨4, ![16, 768, 48, 48]⟩ : Shape).Idx → α) (idx : IVec ⟨2, ![192, 1]⟩ 32) (y : (⟨4, ![16, 192, 48, 48]⟩ : Shape).Idx)
    (v : BitVec 32) (hv : ∀ j : (⟨2, ![192, 1]⟩ : Shape).Idx, (j 0).val = (y 1).val → idx j = v) (hlt : v.toNat < 768) :
    Host.gather (chanDims wf) x idx y = x (ix4 (n0 := 16) (n1 := 768) (n2 := 48) (n3 := 48) (y 0) ⟨v.toNat, hlt⟩ (y 2) (y 3)) := by
  unfold Host.gather
  congr 1
  funext a
  refine Fin.ext ?_
  show (chanDims wf).start y idx a + (chanDims wf).batchCoord y a + (chanDims wf).offCoord y a = _
  rw [GatherDims.batchCoord_eq_zero _ _ _ List.not_mem_nil]
  simp only [Nat.add_zero]
  have h4 : a = 0 ∨ a = 1 ∨ a = 2 ∨ a = 3 := by
    match a with
    | ⟨0, _⟩ => exact Or.inl rfl
    | ⟨1, _⟩ => exact Or.inr (Or.inl rfl)
    | ⟨2, _⟩ => exact Or.inr (Or.inr (Or.inl rfl))
    | ⟨3, _⟩ => exact Or.inr (Or.inr (Or.inr rfl))
  rcases h4 with rfl | rfl | rfl | rfl
  · have e1 : (chanDims wf).start y idx 0 = 0 :=
      dif_neg (show (0 : Fin 4) ∉ ([1] : List (Fin 4)) by decide)
    have e2 : (chanDims wf).offCoord y 0 = (y 0).val :=
      dif_pos (show (0 : Fin 4) ∈ (chanDims wf).sKept from (GatherDims.mem_sKept _ _).2
        ⟨show (0 : Fin 4) ∉ ([1] : List (Fin 4)) by decide, List.not_mem_nil⟩)
    rw [e1, e2, Nat.zero_add]
  · rw [GatherDims.offCoord_eq_zero _ _ _ (fun h => ((GatherDims.mem_sKept _ _).mp h).1 (List.mem_singleton.mpr rfl))]
    simp only [Nat.add_zero]
    unfold GatherDims.start
    rw [dif_pos (show (1 : Fin 4) ∈ (chanDims wf).startIndexMap from List.mem_singleton.mpr rfl)]
    rw [hv _ (by rfl)]
    have e : v.toInt = v.toNat := by rw [BitVec.toInt_eq_toNat_cond]; split <;> omega
    show min v.toInt.toNat (768 - 1) = v.toNat
    omega
  · have e1 : (chanDims wf).start y idx 2 = 0 :=
      dif_neg (show (2 : Fin 4) ∉ ([1] : List (Fin 4)) by decide)
    have e2 : (chanDims wf).offCoord y 2 = (y 2).val :=
      dif_pos (show (2 : Fin 4) ∈ (chanDims wf).sKept from (GatherDims.mem_sKept _ _).2
        ⟨show (2 : Fin 4) ∉ ([1] : List (Fin 4)) by decide, List.not_mem_nil⟩)
    rw [e1, e2, Nat.zero_add]
  · have e1 : (chanDims wf).start y idx 3 = 0 :=
      dif_neg (show (3 : Fin 4) ∉ ([1] : List (Fin 4)) by decide)
    have e2 : (chanDims wf).offCoord y 3 = (y 3).val :=
      dif_pos (show (3 : Fin 4) ∈ (chanDims wf).sKept from (GatherDims.mem_sKept _ _).2
        ⟨show (3 : Fin 4) ∉ ([1] : List (Fin 4)) by decide, List.not_mem_nil⟩)
    rw [e1, e2, Nat.zero_add]

end Chan

/-! ## Words below 768 -/

theorem slt_zero (v : BitVec 32) (h : v.toNat < 768) : IntOp.cmpi .slt v 0#32 = 0#1 := by
  have e : v.toInt = v.toNat := by rw [BitVec.toInt_eq_toNat_cond]; split <;> omega
  have n : ¬ ((v.toNat : Int) < 0) := by omega
  simp [IntOp.cmpi, BitVec.slt_eq_decide, e, n]
theorem sge_zero (v : BitVec 32) (h : v.toNat < 768) : IntOp.cmpi .sge v 0#32 = 1#1 := by
  have e : v.toInt = v.toNat := by rw [BitVec.toInt_eq_toNat_cond]; split <;> omega
  simp [IntOp.cmpi, BitVec.sle_eq_decide, e]
theorem sle_last (v : BitVec 32) (h : v.toNat < 768) : IntOp.cmpi .sle v 767#32 = 1#1 := by
  have e : v.toInt = v.toNat := by rw [BitVec.toInt_eq_toNat_cond]; split <;> omega
  have n : (v.toNat : Int) ≤ 767 := by omega
  simp [IntOp.cmpi, BitVec.sle_eq_decide, e, n]

/-- A word that is at least 0 and below 768 as a signed number is below 768 as a natural number. -/
theorem lt_of_range (v : BitVec 32) (e : IntOp.andi (IntOp.cmpi .sge v 0#32) (IntOp.cmpi .slt v 768#32) = 1#1) : v.toNat < 768 := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  simp only [IntOp.cmpi, andi_ofBool, ofBool_eq_one, Bool.and_eq_true, BitVec.sle_eq_decide, BitVec.slt_eq_decide,
    decide_eq_true_eq, BitVec.toInt_eq_toNat_cond, BitVec.toNat_ofNat, Nat.reducePow, Nat.reduceMod] at e
  omega

end Cert.Proof.Take

end
-- ==== Proof.GatherReference.lean ====
/-
  The reference of the gather call, `jnp.take(x, inv, axis=1)`: where every index is below 768 its result holds, at slot
  `k`, the channel that entry `k` names.
-/
module

public import proofs.«01_k».proof.Proof.Take
public import proofs.«01_k».proof.Proof.Gen.GatherReferenceIdeal.Run
public import proofs.«01_k».proof.Proof.Gen.Pre_in_range
public import proofs.«01_k».proof.Defs

@[expose] public section

noncomputable section

namespace Cert.Proof.GatherReference

open Cert.GatherReferenceIdeal Cert.GatherReferenceIdeal.Gen Idealize.ShloMosaic Idealize.ShloMosaic.ValueIdx Cert.Proof.Take
open Idealize.SL.Sem

variable {F : FTy → Type} [FloatOps F]

/-- What the take leaves where every index is below 768. -/
def taken (x : S16x768x48x48.Idx → F .f32) (v : S192.Idx → BitVec 32) : S16x192x48x48.Idx → F .f32 :=
  fun j => x (ix4 (n0 := 16) (n1 := 768) (n2 := 48) (n3 := 48) (j 0)
    ⟨(v (ix1 (n := 192) (j 1))).toNat % 768, Nat.mod_lt _ (by decide)⟩ (j 2) (j 3))

theorem run_taken (m : (ℓ : Loc nD τ sig) → Buf (Elt F) ℓ) (ρ : Dev nD → PrngReg)
    (hv : ∀ (c : Dev nD) (j : S192.Idx), ((m ((c.tc : Thread nD τ).loc main_arg1) : S192.Idx → BitVec 32) j).toNat < 768) :
    θ_run defs (onTc (τ := τ) (main (F := F))) ⟨m, fun _ => 0, ρ⟩ fun r => ∀ c : Dev nD,
      r.2.mem ((c.tc : Thread nD τ).loc main_v0) = taken (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ⟨(h c).1.trans ?_, (h c).2⟩) (Value.run m ρ)
  have hc := hv c
  generalize (m ((c.tc : Thread nD τ).loc main_arg1) : S192.Idx → BitVec 32) = v at hc ⊢
  generalize (m ((c.tc : Thread nD τ).loc main_arg0) : S16x768x48x48.Idx → F .f32) = x
  have sel : select (cmpi .slt v (broadcastInDim S192 ![] bcast_S_S192 (constantI S_ 32 0#32)))
      (addi v (broadcastInDim S192 ![] bcast_S_S192 (constantI S_ 32 768#32))) v = v := by
    funext j
    have e : (cmpi .slt v (broadcastInDim S192 ![] bcast_S_S192 (constantI S_ 32 0#32))) j = 0#1 := slt_zero (v j) (hc j)
    show (if _ = 1#1 then _ else _) = _
    rw [if_neg]
    rw [e]; decide
  rw [sel]
  have col : ∀ i : S192x1.Idx, (broadcastInDim S192x1 ![0] bcast_S192_S192x1_0 v) i = v (ix1 (n := 192) (i 0)) := by
    intro i
    show v _ = v _
    congr 1
    funext a
    obtain rfl : a = (0 : Fin 1) := Subsingleton.elim (α := Fin 1) _ _
    rfl
  generalize hw : (broadcastInDim S192x1 ![0] bcast_S192_S192x1_0 v : S192x1.Idx → BitVec 32) = w at col ⊢
  have hlt : ∀ i : S192x1.Idx, (w i).toNat < 768 := fun i => by rw [col]; exact hc _
  funext j
  have mask : (broadcastInDim S16x192x48x48 ![1] bcast_S192_S16x192x48x48_1
      (Host.reduce IntOp.andi (andi (cmpi .sge w (broadcastInDim S192x1 ![] bcast_S_S192x1 (constantI S_ 32 0#32)))
        (cmpi .sle w (broadcastInDim S192x1 ![0, 1] bcast_S1x1_S192x1_0_1 (broadcastInDim S1x1 ![1] bcast_S1_S1x1_1 (constantI S1 32 767#32)))))
        (constantI S_ 1 1#1) reducesTo_S192x1_S192_d1 h_S_)) j = 1#1 := by
    refine reduce_and_of_all _ _ _ _ (fun _ => rfl) (fun i => ?_) _
    show IntOp.andi (IntOp.cmpi .sge (w i) 0#32) (IntOp.cmpi .sle (w i) 767#32) = 1#1
    rw [sge_zero _ (hlt i), sle_last _ (hlt i)]
    rfl
  show (if _ = 1#1 then _ else _) = _
  rw [if_pos mask]
  refine (gather_chan gather_S16x768x48x48_S192x1_S16x192x48x48_023_1_n_n_1_1_1614848_wf x w j (v (ix1 (n := 192) (j 1))) ?_ (hc _)).trans ?_
  · intro i hi
    rw [col]
    exact congrArg (fun k => v (ix1 (n := 192) k)) (Fin.ext hi)
  · unfold taken
    exact congrArg (fun k => x (ix4 (n0 := 16) (n1 := 768) (n2 := 48) (n3 := 48) (j 0) k (j 2) (j 3))) (Fin.ext (Nat.mod_eq_of_lt (hc _)).symm)

/-- The precondition gives every index below 768. -/
theorem lt_of_pre (x : S16x768x48x48.Idx → F .f32) (v : S192.Idx → BitVec 32) (h : Cert.Pre_in_range.fn x v = fun _ => 1#1) (j : S192.Idx) :
    (v j).toNat < 768 := by
  have e := congrFun h (fun a => a.elim0)
  exact lt_of_range _ (all_of_reduce_and _ _ Cert.Pre_in_range.Gen.reducesTo_S192_S_d0 Cert.Pre_in_range.Gen.h_S_ (fun _ => rfl) _
    (show Host.reduce IntOp.andi _ (constantI Cert.Pre_in_range.S_ 1 1#1) Cert.Pre_in_range.Gen.reducesTo_S192_S_d0 Cert.Pre_in_range.Gen.h_S_ _ = 1#1 from e)
    j (funext fun a => a.elim0))

end Cert.Proof.GatherReference

end
-- ==== Proof.Rank.lean ====
/-
  Ranks in a stable descending sort: the number of entries that go before entry `j` — the greater ones, and the equal
  ones of a smaller index — is the position where the sort puts `j`.
-/
module

public import Idealize.ShloMosaic.Lib.SortFacts
public import Mathlib.Order.Interval.Finset.Fin

@[expose] public section

noncomputable section

namespace Cert.Proof.Rank

open Idealize.ShloMosaic

variable {n : ℕ} {α : Type} [LinearOrder α] (e : Fin n → α)

/-- Entry `i` goes before entry `j`. -/
def Ahead (i j : Fin n) : Prop := e j < e i ∨ (e i = e j ∧ i < j)

instance (i j : Fin n) : Decidable (Ahead e i j) := inferInstanceAs (Decidable (_ ∨ _))

theorem ahead_trans {i j k : Fin n} (h : Ahead e i j) (h' : Ahead e j k) : Ahead e i k := by
  rcases h with h | ⟨h, l⟩ <;> rcases h' with h' | ⟨h', l'⟩
  · exact Or.inl (h'.trans h)
  · exact Or.inl (h' ▸ h)
  · exact Or.inl (h.symm ▸ h')
  · exact Or.inr ⟨h.trans h', l.trans l'⟩

theorem ahead_irrefl (i : Fin n) : ¬ Ahead e i i := by
  rintro (h | ⟨_, h⟩) <;> exact lt_irrefl _ h

/-- The relation that the sort compares by. -/
abbrev greater (i j : Fin n) : Bool := decide (e j < e i)

theorem insert_ahead (a : Fin n) (l : List (Fin n)) (hl : l.Pairwise (Ahead e)) (ha : ∀ b ∈ l, a < b) :
    (insertBefore (greater e) a l).Pairwise (Ahead e) := by
  induction l with
  | nil => exact List.pairwise_singleton _ _
  | cons b l ih =>
    rw [List.pairwise_cons] at hl
    unfold insertBefore
    split
    · rename_i h
      refine List.pairwise_cons.mpr ⟨fun c hc => ?_, ih hl.2 fun c hc => ha c (List.mem_cons_of_mem _ hc)⟩
      rcases List.mem_cons.mp ((perm_insertBefore (greater e) a l).mem_iff.mp hc) with rfl | hc'
      · exact Or.inl (of_decide_eq_true h)
      · exact hl.1 c hc'
    · rename_i h
      have hb : Ahead e a b := by
        rcases lt_or_eq_of_le (not_lt.mp fun g => h (decide_eq_true g)) with g | g
        · exact Or.inl g
        · exact Or.inr ⟨g.symm, ha b List.mem_cons_self⟩
      refine List.pairwise_cons.mpr ⟨fun c hc => ?_, List.pairwise_cons.mpr hl⟩
      rcases List.mem_cons.mp hc with rfl | hc'
      · exact hb
      · exact ahead_trans e hb (hl.1 c hc')

theorem sort_ahead (l : List (Fin n)) (hl : l.Pairwise (· < ·)) : (stableSort (greater e) l).Pairwise (Ahead e) := by
  induction l with
  | nil => exact List.Pairwise.nil
  | cons a l ih =>
    rw [List.pairwise_cons] at hl
    unfold stableSort
    exact insert_ahead e a _ (ih hl.2) fun b hb => hl.1 b ((perm_stableSort _ l).mem_iff.mp hb)

theorem sorted_ahead {p q : Fin n} (h : p < q) : Ahead e (sortedFrom (greater e) p) (sortedFrom (greater e) q) := by
  have hp := List.pairwise_iff_get.mp (sort_ahead e (List.finRange n) (List.pairwise_lt_finRange n))
  unfold sortedFrom
  exact hp _ _ (show p.val < q.val from h)

/-- The number of entries that go before entry `j`. -/
def rank (j : Fin n) : ℕ := (Finset.univ.filter fun i => Ahead e i j).card

theorem ahead_sorted_iff (p q : Fin n) : Ahead e (sortedFrom (greater e) p) (sortedFrom (greater e) q) ↔ p < q := by
  refine ⟨fun h => ?_, sorted_ahead e⟩
  rcases lt_trichotomy p q with g | rfl | g
  · exact g
  · exact absurd h (ahead_irrefl e _)
  · exact absurd (ahead_trans e h (sorted_ahead e g)) (ahead_irrefl e _)

theorem rank_sorted (p : Fin n) : rank e (sortedFrom (greater e) p) = p.val := by
  have hs : Function.Bijective (sortedFrom (greater e)) := ⟨sortedFrom_injective _, sortedFrom_surjective _⟩
  have h : (Finset.univ.filter fun i => Ahead e i (sortedFrom (greater e) p))
      = (Finset.univ.filter fun q : Fin n => q < p).map ⟨sortedFrom (greater e), hs.1⟩ := by
    ext i
    obtain ⟨q, rfl⟩ := hs.2 i
    simp only [Finset.mem_filter, Finset.mem_univ, true_and, Finset.mem_map, Function.Embedding.coeFn_mk, ahead_sorted_iff]
    exact ⟨fun h => ⟨q, h, rfl⟩, fun ⟨q', h, e'⟩ => hs.1 e' ▸ h⟩
  unfold rank
  rw [h, Finset.card_map]
  rw [show (Finset.univ.filter fun q : Fin n => q < p) = Finset.Iio p from by ext; simp, Fin.card_Iio]

/-- Entry `j` has rank `k` exactly where the sort puts it at `k`. -/
theorem rank_eq_iff (j k : Fin n) : rank e j = k.val ↔ j = sortedFrom (greater e) k := by
  refine ⟨fun h => ?_, fun h => h ▸ rank_sorted e k⟩
  obtain ⟨q, rfl⟩ := sortedFrom_surjective (greater e) j
  rw [rank_sorted] at h
  rw [Fin.ext h]

end Cert.Proof.Rank

end
-- ==== Proof.EnergySum.lean ====
/-
  The energy call on the SparseCores: what one lane of a task adds up, and the sixteen loops that add up one channel of one
  batch each, eight rows a trip. A row of a channel is 48 numbers, that is three times sixteen lanes; each third has its own
  running sum.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Pointwise
public import Idealize.ShloMosaic.Lib.WritesUnit
public import Idealize.ShloMosaic.Lib.Tactic
public import proofs.«01_k».proof.Proof.Gen.KernelIdeal
public import proofs.«01_k».proof.Proof.Gen.KernelIdeal.Skeleton

@[expose] public section

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program's parts -/

abbrev ΛP : Labels := Pipeline.Sig Λ₀ (Fin 2) fun p => (pcfgs (F := F) p).Adm
abbrev K : SparseCore.Cfg τ sig (ΛP (F := F)) 2 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

abbrev UH : Type := URounds (GSem nD τ sig) ℕ
abbrev UP : Type := URounds (GSem nD τ sig) Unit
abbrev UU : Type := UH × (UP × Counters)

local notation "𝕄" => MT nD τ sig (HIx 2) (Elt F) ℕ UU ℕ
local notation "xV" => (Memref.whole Cert.KernelIdeal.main_arg0_scv : Memref Cert.KernelIdeal.sig Kind.scVector Space.hbm Cert.KernelIdeal.S16x768x48x48 EltTy.f32)
local notation "eV" => (Memref.whole Cert.KernelIdeal.main_v0_scv : Memref Cert.KernelIdeal.sig Kind.scVector Space.hbm Cert.KernelIdeal.S512x16 EltTy.f32)
local notation "aV" => (Memref.whole Cert.KernelIdeal.cc0_scratch0 : Memref Cert.KernelIdeal.sig Kind.scVector Space.vmem Cert.KernelIdeal.S8x48x48 EltTy.f32)
local notation "bV" => (Memref.whole Cert.KernelIdeal.cc0_scratch1 : Memref Cert.KernelIdeal.sig Kind.scVector Space.vmem Cert.KernelIdeal.S8x48x48 EltTy.f32)
local notation "rV" => (Memref.whole Cert.KernelIdeal.cc0_scratch2 : Memref Cert.KernelIdeal.sig Kind.scVector Space.vmem Cert.KernelIdeal.S16x16 EltTy.f32)

abbrev EH : Emb UH (MT nD τ sig (HIx 2) (Elt F) ℕ UU ℕ) := embL
def EP : Emb UP (MT nD τ sig (HIx 2) (Elt F) ℕ UU ℕ) := (Emb.inl : Emb UP (UP × Counters)).trans embR
instance EP_landsIn : (EP : Emb UP (MT nD τ sig (HIx 2) (Elt F) ℕ UU ℕ)).LandsIn (upEmb : UEmb _ (MT nD τ sig (HIx 2) (Elt F) ℕ UU ℕ)) := by
  unfold EP embR; infer_instance

/-! ## What one loop adds up -/

section Sums
variable [FloatOps F]

/-- Sixteen numbers of a channel: row `h`, the `q`-th third of it. -/
def row (b : S8x48x48.Idx → Elt F .f32) (p : Fin 8) (q : Fin 3) (h : ℕ) : FVec F S16 .f32 := fun l =>
  b (ix3 (n0 := 8) (n1 := 48) (n2 := 48) p ⟨h % 48, Nat.mod_lt _ (by decide)⟩ ⟨16 * q.val + (l 0).val, by
    have := q.isLt; have h0 : (l 0).val < 16 := (l 0).isLt; omega⟩)

/-- The running sums of the squares after `n` rows. -/
def acc (b : S8x48x48.Idx → Elt F .f32) (p : Fin 8) (q : Fin 3) : ℕ → FVec F S16 .f32
  | 0 => k0_pay221 (F := F)
  | n + 1 => addf (acc b p q n) (mulf (row b p q n) (row b p q n))

abbrev acc3 (b : S8x48x48.Idx → Elt F .f32) (p : Fin 8) (n : ℕ) : FVec F S16 .f32 × FVec F S16 .f32 × FVec F S16 .f32 :=
  (acc b p 0 n, acc b p 1 n, acc b p 2 n)

/-- The rectangle of one third of a row, from where it starts. -/
abbrev rowRect (off : Fin 3 → ℕ) (h : ∀ a, off a + S1x1x16.size a ≤ S8x48x48.size a) : Rect S8x48x48 :=
  Rect.unit (s := S8x48x48) off S1x1x16.size h

/-- One step of a running sum: the square of a loaded third of a row is added. -/
def addSq (A : FVec F S16 .f32) (v : Vec F S1x1x16 .f32) : FVec F S16 .f32 :=
  addf A (mulf (shapeCast S16 v shapeCasts_S1x1x16_S16) (shapeCast S16 v shapeCasts_S1x1x16_S16))

theorem shapeCast_row (b : S8x48x48.Idx → Elt F .f32) (p : Fin 8) (q : Fin 3) (n : ℕ) (hn : n < 48) (off : Fin 3 → ℕ)
    (h : ∀ a, off a + S1x1x16.size a ≤ S8x48x48.size a) (e : off = ![p.val, n, 16 * q.val]) :
    shapeCast S16 (fun j => b ((rowRect off h).idx j)) shapeCasts_S1x1x16_S16 = row b p q n := by
  subst e
  funext l
  have h0 : (l 0).val < 16 := (l 0).isLt
  refine (shapeCast_apply _ _ l (ix3 (n0 := 1) (n1 := 1) (n2 := 16) 0 0 (l 0)) ?_).trans ?_
  · rw [Shape.rowMajor_val_three, Shape.rowMajor_val_one]
    show (0 * 1 + 0) * 16 + (l 0).val = (l 0).val
    omega
  · refine congrArg b (funext fun a => Fin.ext ?_)
    match a with
    | 0 => show p.val + 1 * 0 = p.val; omega
    | 1 => show n + 1 * 0 = n % 48; omega
    | 2 => show 16 * q.val + 1 * (l 0).val = 16 * q.val + (l 0).val; omega

theorem addSq_row (b : S8x48x48.Idx → Elt F .f32) (p : Fin 8) (q : Fin 3) (n : ℕ) (hn : n < 48) (A : FVec F S16 .f32)
    (hA : A = acc b p q n) (off : Fin 3 → ℕ) (h : ∀ a, off a + S1x1x16.size a ≤ S8x48x48.size a) (e : off = ![p.val, n, 16 * q.val]) :
    addSq A (fun j => b ((rowRect off h).idx j)) = acc b p q (n + 1) := by
  subst hA
  unfold addSq
  exact congrArg (fun v : FVec F S16 .f32 => addf (acc b p q n) (mulf v v)) (shapeCast_row b p q n hn off h e)

/-- Eight steps of a running sum. -/
theorem addSq_rows (b : S8x48x48.Idx → Elt F .f32) (p : Fin 8) (q : Fin 3) (k : ℕ) (hk : k < 6) (off : Fin 8 → Fin 3 → ℕ)
    (h : ∀ r a, off r a + S1x1x16.size a ≤ S8x48x48.size a) (e : ∀ r, off r = ![p.val, 8 * k + r.val, 16 * q.val]) :
    addSq (addSq (addSq (addSq (addSq (addSq (addSq (addSq (acc b p q (8 * k))
      (fun j => b ((rowRect (off 0) (h 0)).idx j))) (fun j => b ((rowRect (off 1) (h 1)).idx j)))
      (fun j => b ((rowRect (off 2) (h 2)).idx j))) (fun j => b ((rowRect (off 3) (h 3)).idx j)))
      (fun j => b ((rowRect (off 4) (h 4)).idx j))) (fun j => b ((rowRect (off 5) (h 5)).idx j)))
      (fun j => b ((rowRect (off 6) (h 6)).idx j))) (fun j => b ((rowRect (off 7) (h 7)).idx j)) = acc b p q (8 * (k + 1)) := by
  have g (r : Fin 8) (A : FVec F S16 .f32) (hA : A = acc b p q (8 * k + r.val)) :
      addSq A (fun j => b ((rowRect (off r) (h r)).idx j)) = acc b p q (8 * k + r.val + 1) :=
    addSq_row b p q (8 * k + r.val) (by have := r.isLt; omega) A hA (off r) (h r) (e r)
  exact g 7 _ (g 6 _ (g 5 _ (g 4 _ (g 3 _ (g 2 _ (g 1 _ (g 0 _ rfl)))))))

end Sums

/-! ## The sixteen loops -/

section Tile
variable (d : Dev nD) (L : grid0.Coords) [FloatOps F]

abbrev cV (L : grid0.Coords) : Fin τ.nSC := (L 0).castLE hcore0
abbrev jV (L : grid0.Coords) : Fin τ.nSub := (L 1).castLE hsub0

set_option warn.classDefReducibility false in
/-- The loop of channel 0 of the first chunk. -/
@[sl_loop] def loop3 (f : Buf (Elt F) ((aV).view.loc (V d (cV L) (jV L)))) (v14 : FVec F S16 .f32) (c0_i32_15 : BitVec 32) (c1_i32_17 : BitVec 32) (k0_t2 : Fin k0_t2_loop.trips) :
    LoopInv (M := 𝕄) frame (wpE (defs₀ (F := F)) 𝒱₀ (V d (cV L) (jV L)) none) Set.univ k0_t3_loop.lb k0_t3_loop.ub k0_t3_loop.st k0_t3_ok
      (k0_pay221 (F := F), k0_pay221 (F := F), k0_pay221 (F := F))
      (k0_t3_body L xV (Memref.isWhole_whole _) eV (Memref.isWhole_whole _) aV (Memref.isWhole_whole _) bV (Memref.isWhole_whole _)
        rV (Memref.isWhole_whole _) cc0_scratch3 cc0_scratch4 cc0_scoped0 v14 c0_i32_15 c1_i32_17 k0_t2) where
  inv k a := iprop(((aV).view.loc (V d (cV L) (jV L)) ↦{fullShare} f) ∗ ⌜a = acc3 f 0 (8 * k)⌝)
  step k a := by
    iintro ⟨Hb, %ha⟩
    subst ha
    unfold k0_t3_body
    sl_exec_parts
    sl_step
    isplitl [Hb]; · iexact Hb
    ipureintro
    have hk : k.val < 6 := k.isLt
    exact Prod.ext (addSq_rows f 0 0 k.val hk (fun r : Fin 8 => k0_off3 k (BitVec.ofNat 32 r.val)) (fun r => k0_off3_inb k r) (fun r => k0_off3_eq k r))
      (Prod.ext (addSq_rows f 0 1 k.val hk (fun r : Fin 8 => k0_off4 k (BitVec.ofNat 32 r.val)) (fun r => k0_off4_inb k r) (fun r => k0_off4_eq k r))
        (addSq_rows f 0 2 k.val hk (fun r : Fin 8 => k0_off5 k (BitVec.ofNat 32 r.val)) (fun r => k0_off5_inb k r) (fun r => k0_off5_eq k r)))

set_option warn.classDefReducibility false in
/-- The loop of channel 1 of the first chunk. -/
@[sl_loop] def loop4 (f : Buf (Elt F) ((aV).view.loc (V d (cV L) (jV L)))) (v14 : FVec F S16 .f32) (k0_t2 : Fin k0_t2_loop.trips) (v38 : BitVec 32) (v46 : BitVec 32) (v49 : FVec F S16 .f32) (v51 : FVec F S16 .f32) :
    LoopInv (M := 𝕄) frame (wpE (defs₀ (F := F)) 𝒱₀ (V d (cV L) (jV L)) none) Set.univ k0_t4_loop.lb k0_t4_loop.ub k0_t4_loop.st k0_t4_ok
      (k0_pay221 (F := F), k0_pay221 (F := F), k0_pay221 (F := F))
      (k0_t4_body L xV (Memref.isWhole_whole _) eV (Memref.isWhole_whole _) aV (Memref.isWhole_whole _) bV (Memref.isWhole_whole _)
        rV (Memref.isWhole_whole _) cc0_scratch3 cc0_scratch4 cc0_scoped0 v14 k0_t2 v38 v46 v49 v51) where
  inv k a := iprop(((aV).view.loc (V d (cV L) (jV L)) ↦{fullShare} f) ∗ ⌜a = acc3 f 1 (8 * k)⌝)
  step k a := by
    iintro ⟨Hb, %ha⟩
    subst ha
    unfold k0_t4_body
    sl_exec_parts
    sl_step
    isplitl [Hb]; · iexact Hb
    ipureintro
    have hk : k.val < 6 := k.isLt
    exact Prod.ext (addSq_rows f 1 0 k.val hk (fun r : Fin 8 => k0_off7 k (BitVec.ofNat 32 r.val)) (fun r => k0_off7_inb k r) (fun r => k0_off7_eq k r))
      (Prod.ext (addSq_rows f 1 1 k.val hk (fun r : Fin 8 => k0_off8 k (BitVec.ofNat 32 r.val)) (fun r => k0_off8_inb k r) (fun r => k0_off8_eq k r))
        (addSq_rows f 1 2 k.val hk (fun r : Fin 8 => k0_off9 k (BitVec.ofNat 32 r.val)) (fun r => k0_off9_inb k r) (fun r => k0_off9_eq k r)))

set_option warn.classDefReducibility false in
/-- The loop of channel 2 of the first chunk. -/
@[sl_loop] def loop5 (f : Buf (Elt F) ((aV).view.loc (V d (cV L) (jV L)))) (v14 : FVec F S16 .f32) (k0_t2 : Fin k0_t2_loop.trips) (v38 : BitVec 32) (v46 : BitVec 32) (v49 : FVec F S16 .f32) (v51 : FVec F S16 .f32) :
    LoopInv (M := 𝕄) frame (wpE (defs₀ (F := F)) 𝒱₀ (V d (cV L) (jV L)) none) Set.univ k0_t5_loop.lb k0_t5_loop.ub k0_t5_loop.st k0_t5_ok
      (k0_pay221 (F := F), k0_pay221 (F := F), k0_pay221 (F := F))
      (k0_t5_body L xV (Memref.isWhole_whole _) eV (Memref.isWhole_whole _) aV (Memref.isWhole_whole _) bV (Memref.isWhole_whole _)
        rV (Memref.isWhole_whole _) cc0_scratch3 cc0_scratch4 cc0_scoped0 v14 k0_t2 v38 v46 v49 v51) where
  inv k a := iprop(((aV).view.loc (V d (cV L) (jV L)) ↦{fullShare} f) ∗ ⌜a = acc3 f 2 (8 * k)⌝)
  step k a := by
    iintro ⟨Hb, %ha⟩
    subst ha
    unfold k0_t5_body
    sl_exec_parts
    sl_step
    isplitl [Hb]; · iexact Hb
    ipureintro
    have hk : k.val < 6 := k.isLt
    exact Prod.ext (addSq_rows f 2 0 k.val hk (fun r : Fin 8 => k0_off10 k (BitVec.ofNat 32 r.val)) (fun r => k0_off10_inb k r) (fun r => k0_off10_eq k r))
      (Prod.ext (addSq_rows f 2 1 k.val hk (fun r : Fin 8 => k0_off11 k (BitVec.ofNat 32 r.val)) (fun r => k0_off11_inb k r) (fun r => k0_off11_eq k r))
        (addSq_rows f 2 2 k.val hk (fun r : Fin 8 => k0_off12 k (BitVec.ofNat 32 r.val)) (fun r => k0_off12_inb k r) (fun r => k0_off12_eq k r)))

set_option warn.classDefReducibility false in
/-- The loop of channel 3 of the first chunk. -/
@[sl_loop] def loop6 (f : Buf (Elt F) ((aV).view.loc (V d (cV L) (jV L)))) (v14 : FVec F S16 .f32) (k0_t2 : Fin k0_t2_loop.trips) (v38 : BitVec 32) (v46 : BitVec 32) (v49 : FVec F S16 .f32) (v51 : FVec F S16 .f32) :
    LoopInv (M := 𝕄) frame (wpE (defs₀ (F := F)) 𝒱₀ (V d (cV L) (jV L)) none) Set.univ k0_t6_loop.lb k0_t6_loop.ub k0_t6_loop.st k0_t6_ok
      (k0_pay221 (F := F), k0_pay221 (F := F), k0_pay221 (F := F))
      (k0_t6_body L xV (Memref.isWhole_whole _) eV (Memref.isWhole_whole _) aV (Memref.isWhole_whole _) bV (Memref.isWhole_whole _)
        rV (Memref.isWhole_whole _) cc0_scratch3 cc0_scratch4 cc0_scoped0 v14 k0_t2 v38 v46 v49 v51) where
  inv k a := iprop(((aV).view.loc (V d (cV L) (jV L)) ↦{fullShare} f) ∗ ⌜a = acc3 f 3 (8 * k)⌝)
  step k a := by
    iintro ⟨Hb, %ha⟩
    subst ha
    unfold k0_t6_body
    sl_exec_parts
    sl_step
    isplitl [Hb]; · iexact Hb
    ipureintro
    have hk : k.val < 6 := k.isLt
    exact Prod.ext (addSq_rows f 3 0 k.val hk (fun r : Fin 8 => k0_off13 k (BitVec.ofNat 32 r.val)) (fun r => k0_off13_inb k r) (fun r => k0_off13_eq k r))
      (Prod.ext (addSq_rows f 3 1 k.val hk (fun r : Fin 8 => k0_off14 k (BitVec.ofNat 32 r.val)) (fun r => k0_off14_inb k r) (fun r => k0_off14_eq k r))
        (addSq_rows f 3 2 k.val hk (fun r : Fin 8 => k0_off15 k (BitVec.ofNat 32 r.val)) (fun r => k0_off15_inb k r) (fun r => k0_off15_eq k r)))

set_option warn.classDefReducibility false in
/-- The loop of channel 4 of the first chunk. -/
@[sl_loop] def loop7 (f : Buf (Elt F) ((aV).view.loc (V d (cV L) (jV L)))) (v14 : FVec F S16 .f32) (k0_t2 : Fin k0_t2_loop.trips) (v38 : BitVec 32) (v86_0 : FVec F S16 .f32) (v86_1 : FVec F S16 .f32) (v86_2 : FVec F S16 .f32) (c8_i32_63 : BitVec 32) :
    LoopInv (M := 𝕄) frame (wpE (defs₀ (F := F)) 𝒱₀ (V d (cV L) (jV L)) none) Set.univ k0_t7_loop.lb k0_t7_loop.ub k0_t7_loop.st k0_t7_ok
      (k0_pay221 (F := F), k0_pay221 (F := F), k0_pay221 (F := F))
      (k0_t7_body L xV (Memref.isWhole_whole _) eV (Memref.isWhole_whole _) aV (Memref.isWhole_whole _) bV (Memref.isWhole_whole _)
        rV (Memref.isWhole_whole _) cc0_scratch3 cc0_scratch4 cc0_scoped0 v14 k0_t2 v38 v86_0 v86_1 v86_2 c8_i32_63) where
  inv k a := iprop(((aV).view.loc (V d (cV L) (jV L)) ↦{fullShare} f) ∗ ⌜a = acc3 f 4 (8 * k)⌝)
  step k a := by
    iintro ⟨Hb, %ha⟩
    subst ha
    unfold k0_t7_body
    sl_exec_parts
    sl_step
    isplitl [Hb]; · iexact Hb
    ipureintro
    have hk : k.val < 6 := k.isLt
    exact Prod.ext (addSq_rows f 4 0 k.val hk (fun r : Fin 8 => k0_off16 k (BitVec.ofNat 32 r.val)) (fun r => k0_off16_inb k r) (fun r => k0_off16_eq k r))
      (Prod.ext (addSq_rows f 4 1 k.val hk (fun r : Fin 8 => k0_off17 k (BitVec.ofNat 32 r.val)) (fun r => k0_off17_inb k r) (fun r => k0_off17_eq k r))
        (addSq_rows f 4 2 k.val hk (fun r : Fin 8 => k0_off18 k (BitVec.ofNat 32 r.val)) (fun r => k0_off18_inb k r) (fun r => k0_off18_eq k r)))

set_option warn.classDefReducibility false in
/-- The loop of channel 5 of the first chunk. -/
@[sl_loop] def loop8 (f : Buf (Elt F) ((aV).view.loc (V d (cV L) (jV L)))) (v14 : FVec F S16 .f32) (k0_t2 : Fin k0_t2_loop.trips) (v38 : BitVec 32) (v86_0 : FVec F S16 .f32) (v86_1 : FVec F S16 .f32) (v86_2 : FVec F S16 .f32) (c8_i32_63 : BitVec 32) :
    LoopInv (M := 𝕄) frame (wpE (defs₀ (F := F)) 𝒱₀ (V d (cV L) (jV L)) none) Set.univ k0_t8_loop.lb k0_t8_loop.ub k0_t8_loop.st k0_t8_ok
      (k0_pay221 (F := F), k0_pay221 (F := F), k0_pay221 (F := F))
      (k0_t8_body L xV (Memref.isWhole_whole _) eV (Memref.isWhole_whole _) aV (Memref.isWhole_whole _) bV (Memref.isWhole_whole _)
        rV (Memref.isWhole_whole _) cc0_scratch3 cc0_scratch4 cc0_scoped0 v14 k0_t2 v38 v86_0 v86_1 v86_2 c8_i32_63) where
  inv k a := iprop(((aV).view.loc (V d (cV L) (jV L)) ↦{fullShare} f) ∗ ⌜a = acc3 f 5 (8 * k)⌝)
  step k a := by
    iintro ⟨Hb, %ha⟩
    subst ha
    unfold k0_t8_body
    sl_exec_parts
    sl_step
    isplitl [Hb]; · iexact Hb
    ipureintro
    have hk : k.val < 6 := k.isLt
    exact Prod.ext (addSq_rows f 5 0 k.val hk (fun r : Fin 8 => k0_off19 k (BitVec.ofNat 32 r.val)) (fun r => k0_off19_inb k r) (fun r => k0_off19_eq k r))
      (Prod.ext (addSq_rows f 5 1 k.val hk (fun r : Fin 8 => k0_off20 k (BitVec.ofNat 32 r.val)) (fun r => k0_off20_inb k r) (fun r => k0_off20_eq k r))
        (addSq_rows f 5 2 k.val hk (fun r : Fin 8 => k0_off21 k (BitVec.ofNat 32 r.val)) (fun r => k0_off21_inb k r) (fun r => k0_off21_eq k r)))

set_option warn.classDefReducibility false in
/-- The loop of channel 6 of the first chunk. -/
@[sl_loop] def loop9 (f : Buf (Elt F) ((aV).view.loc (V d (cV L) (jV L)))) (v3 : BitVec 32) (v14 : FVec F S16 .f32) (k0_t2 : Fin k0_t2_loop.trips) (arg9 : BitVec 32) (v19 : BitVec 32) (v38 : BitVec 32) (v122 : FVec F S16 .f32) :
    LoopInv (M := 𝕄) frame (wpE (defs₀ (F := F)) 𝒱₀ (V d (cV L) (jV L)) none) Set.univ k0_t9_loop.lb k0_t9_loop.ub k0_t9_loop.st k0_t9_ok
      (k0_pay221 (F := F), k0_pay221 (F := F), k0_pay221 (F := F))
      (k0_t9_body L xV (Memref.isWhole_whole _) eV (Memref.isWhole_whole _) aV (Memref.isWhole_whole _) bV (Memref.isWhole_whole _)
        rV (Memref.isWhole_whole _) cc0_scratch3 cc0_scratch4 cc0_scoped0 v3 v14 k0_t2 arg9 v19 v38 v122) where
  inv k a := iprop(((aV).view.loc (V d (cV L) (jV L)) ↦{fullShare} f) ∗ ⌜a = acc3 f 6 (8 * k)⌝)
  step k a := by
    iintro ⟨Hb, %ha⟩
    subst ha
    unfold k0_t9_body
    sl_exec_parts
    sl_step
    isplitl [Hb]; · iexact Hb
    ipureintro
    have hk : k.val < 6 := k.isLt
    exact Prod.ext (addSq_rows f 6 0 k.val hk (fun r : Fin 8 => k0_off22 k (BitVec.ofNat 32 r.val)) (fun r => k0_off22_inb k r) (fun r => k0_off22_eq k r))
      (Prod.ext (addSq_rows f 6 1 k.val hk (fun r : Fin 8 => k0_off23 k (BitVec.ofNat 32 r.val)) (fun r => k0_off23_inb k r) (fun r => k0_off23_eq k r))
        (addSq_rows f 6 2 k.val hk (fun r : Fin 8 => k0_off24 k (BitVec.ofNat 32 r.val)) (fun r => k0_off24_inb k r) (fun r => k0_off24_eq k r)))

set_option warn.classDefReducibility false in
/-- The loop of channel 7 of the first chunk. -/
@[sl_loop] def loop10 (f : Buf (Elt F) ((aV).view.loc (V d (cV L) (jV L)))) (v3 : BitVec 32) (v14 : FVec F S16 .f32) (k0_t2 : Fin k0_t2_loop.trips) (arg9 : BitVec 32) (v19 : BitVec 32) (v38 : BitVec 32) (v122 : FVec F S16 .f32) :
    LoopInv (M := 𝕄) frame (wpE (defs₀ (F := F)) 𝒱₀ (V d (cV L) (jV L)) none) Set.univ k0_t10_loop.lb k0_t10_loop.ub k0_t10_loop.st k0_t10_ok
      (k0_pay221 (F := F), k0_pay221 (F := F), k0_pay221 (F := F))
      (k0_t10_body L xV (Memref.isWhole_whole _) eV (Memref.isWhole_whole _) aV (Memref.isWhole_whole _) bV (Memref.isWhole_whole _)
        rV (Memref.isWhole_whole _) cc0_scratch3 cc0_scratch4 cc0_scoped0 v3 v14 k0_t2 arg9 v19 v38 v122) where
  inv k a := iprop(((aV).view.loc (V d (cV L) (jV L)) ↦{fullShare} f) ∗ ⌜a = acc3 f 7 (8 * k)⌝)
  step k a := by
    iintro ⟨Hb, %ha⟩
    subst ha
    unfold k0_t10_body
    sl_exec_parts
    sl_step
    isplitl [Hb]; · iexact Hb
    ipureintro
    have hk : k.val < 6 := k.isLt
    exact Prod.ext (addSq_rows f 7 0 k.val hk (fun r : Fin 8 => k0_off25 k (BitVec.ofNat 32 r.val)) (fun r => k0_off25_inb k r) (fun r => k0_off25_eq k r))
      (Prod.ext (addSq_rows f 7 1 k.val hk (fun r : Fin 8 => k0_off26 k (BitVec.ofNat 32 r.val)) (fun r => k0_off26_inb k r) (fun r => k0_off26_eq k r))
        (addSq_rows f 7 2 k.val hk (fun r : Fin 8 => k0_off27 k (BitVec.ofNat 32 r.val)) (fun r => k0_off27_inb k r) (fun r => k0_off27_eq k r)))

set_option warn.classDefReducibility false in
/-- The loop of channel 0 of the second chunk. -/
@[sl_loop] def loop11 (f : Buf (Elt F) ((bV).view.loc (V d (cV L) (jV L)))) (v14 : FVec F S16 .f32) (k0_t2 : Fin k0_t2_loop.trips) (v160 : BitVec 32) :
    LoopInv (M := 𝕄) frame (wpE (defs₀ (F := F)) 𝒱₀ (V d (cV L) (jV L)) none) Set.univ k0_t11_loop.lb k0_t11_loop.ub k0_t11_loop.st k0_t11_ok
      (k0_pay221 (F := F), k0_pay221 (F := F), k0_pay221 (F := F))
      (k0_t11_body L xV (Memref.isWhole_whole _) eV (Memref.isWhole_whole _) aV (Memref.isWhole_whole _) bV (Memref.isWhole_whole _)
        rV (Memref.isWhole_whole _) cc0_scratch3 cc0_scratch4 cc0_scoped0 v14 k0_t2 v160) where
  inv k a := iprop(((bV).view.loc (V d (cV L) (jV L)) ↦{fullShare} f) ∗ ⌜a = acc3 f 0 (8 * k)⌝)
  step k a := by
    iintro ⟨Hb, %ha⟩
    subst ha
    unfold k0_t11_body
    sl_exec_parts
    sl_step
    isplitl [Hb]; · iexact Hb
    ipureintro
    have hk : k.val < 6 := k.isLt
    exact Prod.ext (addSq_rows f 0 0 k.val hk (fun r : Fin 8 => k0_off29 k (BitVec.ofNat 32 r.val)) (fun r => k0_off29_inb k r) (fun r => k0_off29_eq k r))
      (Prod.ext (addSq_rows f 0 1 k.val hk (fun r : Fin 8 => k0_off30 k (BitVec.ofNat 32 r.val)) (fun r => k0_off30_inb k r) (fun r => k0_off30_eq k r))
        (addSq_rows f 0 2 k.val hk (fun r : Fin 8 => k0_off31 k (BitVec.ofNat 32 r.val)) (fun r => k0_off31_inb k r) (fun r => k0_off31_eq k r)))

set_option warn.classDefReducibility false in
/-- The loop of channel 1 of the second chunk. -/
@[sl_loop] def loop12 (f : Buf (Elt F) ((bV).view.loc (V d (cV L) (jV L)))) (v14 : FVec F S16 .f32) (k0_t2 : Fin k0_t2_loop.trips) (v179 : BitVec 32) (v193 : FVec F S16 .f32) :
    LoopInv (M := 𝕄) frame (wpE (defs₀ (F := F)) 𝒱₀ (V d (cV L) (jV L)) none) Set.univ k0_t12_loop.lb k0_t12_loop.ub k0_t12_loop.st k0_t12_ok
      (k0_pay221 (F := F), k0_pay221 (F := F), k0_pay221 (F := F))
      (k0_t12_body L xV (Memref.isWhole_whole _) eV (Memref.isWhole_whole _) aV (Memref.isWhole_whole _) bV (Memref.isWhole_whole _)
        rV (Memref.isWhole_whole _) cc0_scratch3 cc0_scratch4 cc0_scoped0 v14 k0_t2 v179 v193) where
  inv k a := iprop(((bV).view.loc (V d (cV L) (jV L)) ↦{fullShare} f) ∗ ⌜a = acc3 f 1 (8 * k)⌝)
  step k a := by
    iintro ⟨Hb, %ha⟩
    subst ha
    unfold k0_t12_body
    sl_exec_parts
    sl_step
    isplitl [Hb]; · iexact Hb
    ipureintro
    have hk : k.val < 6 := k.isLt
    exact Prod.ext (addSq_rows f 1 0 k.val hk (fun r : Fin 8 => k0_off32 k (BitVec.ofNat 32 r.val)) (fun r => k0_off32_inb k r) (fun r => k0_off32_eq k r))
      (Prod.ext (addSq_rows f 1 1 k.val hk (fun r : Fin 8 => k0_off33 k (BitVec.ofNat 32 r.val)) (fun r => k0_off33_inb k r) (fun r => k0_off33_eq k r))
        (addSq_rows f 1 2 k.val hk (fun r : Fin 8 => k0_off34 k (BitVec.ofNat 32 r.val)) (fun r => k0_off34_inb k r) (fun r => k0_off34_eq k r)))

set_option warn.classDefReducibility false in
/-- The loop of channel 2 of the second chunk. -/
@[sl_loop] def loop13 (f : Buf (Elt F) ((bV).view.loc (V d (cV L) (jV L)))) (v14 : FVec F S16 .f32) (k0_t2 : Fin k0_t2_loop.trips) (v179 : BitVec 32) (v193 : FVec F S16 .f32) :
    LoopInv (M := 𝕄) frame (wpE (defs₀ (F := F)) 𝒱₀ (V d (cV L) (jV L)) none) Set.univ k0_t13_loop.lb k0_t13_loop.ub k0_t13_loop.st k0_t13_ok
      (k0_pay221 (F := F), k0_pay221 (F := F), k0_pay221 (F := F))
      (k0_t13_body L xV (Memref.isWhole_whole _) eV (Memref.isWhole_whole _) aV (Memref.isWhole_whole _) bV (Memref.isWhole_whole _)
        rV (Memref.isWhole_whole _) cc0_scratch3 cc0_scratch4 cc0_scoped0 v14 k0_t2 v179 v193) where
  inv k a := iprop(((bV).view.loc (V d (cV L) (jV L)) ↦{fullShare} f) ∗ ⌜a = acc3 f 2 (8 * k)⌝)
  step k a := by
    iintro ⟨Hb, %ha⟩
    subst ha
    unfold k0_t13_body
    sl_exec_parts
    sl_step
    isplitl [Hb]; · iexact Hb
    ipureintro
    have hk : k.val < 6 := k.isLt
    exact Prod.ext (addSq_rows f 2 0 k.val hk (fun r : Fin 8 => k0_off35 k (BitVec.ofNat 32 r.val)) (fun r => k0_off35_inb k r) (fun r => k0_off35_eq k r))
      (Prod.ext (addSq_rows f 2 1 k.val hk (fun r : Fin 8 => k0_off36 k (BitVec.ofNat 32 r.val)) (fun r => k0_off36_inb k r) (fun r => k0_off36_eq k r))
        (addSq_rows f 2 2 k.val hk (fun r : Fin 8 => k0_off37 k (BitVec.ofNat 32 r.val)) (fun r => k0_off37_inb k r) (fun r => k0_off37_eq k r)))

set_option warn.classDefReducibility false in
/-- The loop of channel 3 of the second chunk. -/
@[sl_loop] def loop14 (f : Buf (Elt F) ((bV).view.loc (V d (cV L) (jV L)))) (v14 : FVec F S16 .f32) (k0_t2 : Fin k0_t2_loop.trips) (v179 : BitVec 32) (v193 : FVec F S16 .f32) :
    LoopInv (M := 𝕄) frame (wpE (defs₀ (F := F)) 𝒱₀ (V d (cV L) (jV L)) none) Set.univ k0_t14_loop.lb k0_t14_loop.ub k0_t14_loop.st k0_t14_ok
      (k0_pay221 (F := F), k0_pay221 (F := F), k0_pay221 (F := F))
      (k0_t14_body L xV (Memref.isWhole_whole _) eV (Memref.isWhole_whole _) aV (Memref.isWhole_whole _) bV (Memref.isWhole_whole _)
        rV (Memref.isWhole_whole _) cc0_scratch3 cc0_scratch4 cc0_scoped0 v14 k0_t2 v179 v193) where
  inv k a := iprop(((bV).view.loc (V d (cV L) (jV L)) ↦{fullShare} f) ∗ ⌜a = acc3 f 3 (8 * k)⌝)
  step k a := by
    iintro ⟨Hb, %ha⟩
    subst ha
    unfold k0_t14_body
    sl_exec_parts
    sl_step
    isplitl [Hb]; · iexact Hb
    ipureintro
    have hk : k.val < 6 := k.isLt
    exact Prod.ext (addSq_rows f 3 0 k.val hk (fun r : Fin 8 => k0_off38 k (BitVec.ofNat 32 r.val)) (fun r => k0_off38_inb k r) (fun r => k0_off38_eq k r))
      (Prod.ext (addSq_rows f 3 1 k.val hk (fun r : Fin 8 => k0_off39 k (BitVec.ofNat 32 r.val)) (fun r => k0_off39_inb k r) (fun r => k0_off39_eq k r))
        (addSq_rows f 3 2 k.val hk (fun r : Fin 8 => k0_off40 k (BitVec.ofNat 32 r.val)) (fun r => k0_off40_inb k r) (fun r => k0_off40_eq k r)))

set_option warn.classDefReducibility false in
/-- The loop of channel 4 of the second chunk. -/
@[sl_loop] def loop15 (f : Buf (Elt F) ((bV).view.loc (V d (cV L) (jV L)))) (v14 : FVec F S16 .f32) (k0_t2 : Fin k0_t2_loop.trips) (v179 : BitVec 32) (v227_0 : FVec F S16 .f32) (v227_1 : FVec F S16 .f32) (v227_2 : FVec F S16 .f32) (v229 : BitVec 32) :
    LoopInv (M := 𝕄) frame (wpE (defs₀ (F := F)) 𝒱₀ (V d (cV L) (jV L)) none) Set.univ k0_t15_loop.lb k0_t15_loop.ub k0_t15_loop.st k0_t15_ok
      (k0_pay221 (F := F), k0_pay221 (F := F), k0_pay221 (F := F))
      (k0_t15_body L xV (Memref.isWhole_whole _) eV (Memref.isWhole_whole _) aV (Memref.isWhole_whole _) bV (Memref.isWhole_whole _)
        rV (Memref.isWhole_whole _) cc0_scratch3 cc0_scratch4 cc0_scoped0 v14 k0_t2 v179 v227_0 v227_1 v227_2 v229) where
  inv k a := iprop(((bV).view.loc (V d (cV L) (jV L)) ↦{fullShare} f) ∗ ⌜a = acc3 f 4 (8 * k)⌝)
  step k a := by
    iintro ⟨Hb, %ha⟩
    subst ha
    unfold k0_t15_body
    sl_exec_parts
    sl_step
    isplitl [Hb]; · iexact Hb
    ipureintro
    have hk : k.val < 6 := k.isLt
    exact Prod.ext (addSq_rows f 4 0 k.val hk (fun r : Fin 8 => k0_off41 k (BitVec.ofNat 32 r.val)) (fun r => k0_off41_inb k r) (fun r => k0_off41_eq k r))
      (Prod.ext (addSq_rows f 4 1 k.val hk (fun r : Fin 8 => k0_off42 k (BitVec.ofNat 32 r.val)) (fun r => k0_off42_inb k r) (fun r => k0_off42_eq k r))
        (addSq_rows f 4 2 k.val hk (fun r : Fin 8 => k0_off43 k (BitVec.ofNat 32 r.val)) (fun r => k0_off43_inb k r) (fun r => k0_off43_eq k r)))

set_option warn.classDefReducibility false in
/-- The loop of channel 5 of the second chunk. -/
@[sl_loop] def loop16 (f : Buf (Elt F) ((bV).view.loc (V d (cV L) (jV L)))) (v14 : FVec F S16 .f32) (k0_t2 : Fin k0_t2_loop.trips) (v179 : BitVec 32) (v227_0 : FVec F S16 .f32) (v227_1 : FVec F S16 .f32) (v227_2 : FVec F S16 .f32) (v229 : BitVec 32) :
    LoopInv (M := 𝕄) frame (wpE (defs₀ (F := F)) 𝒱₀ (V d (cV L) (jV L)) none) Set.univ k0_t16_loop.lb k0_t16_loop.ub k0_t16_loop.st k0_t16_ok
      (k0_pay221 (F := F), k0_pay221 (F := F), k0_pay221 (F := F))
      (k0_t16_body L xV (Memref.isWhole_whole _) eV (Memref.isWhole_whole _) aV (Memref.isWhole_whole _) bV (Memref.isWhole_whole _)
        rV (Memref.isWhole_whole _) cc0_scratch3 cc0_scratch4 cc0_scoped0 v14 k0_t2 v179 v227_0 v227_1 v227_2 v229) where
  inv k a := iprop(((bV).view.loc (V d (cV L) (jV L)) ↦{fullShare} f) ∗ ⌜a = acc3 f 5 (8 * k)⌝)
  step k a := by
    iintro ⟨Hb, %ha⟩
    subst ha
    unfold k0_t16_body
    sl_exec_parts
    sl_step
    isplitl [Hb]; · iexact Hb
    ipureintro
    have hk : k.val < 6 := k.isLt
    exact Prod.ext (addSq_rows f 5 0 k.val hk (fun r : Fin 8 => k0_off44 k (BitVec.ofNat 32 r.val)) (fun r => k0_off44_inb k r) (fun r => k0_off44_eq k r))
      (Prod.ext (addSq_rows f 5 1 k.val hk (fun r : Fin 8 => k0_off45 k (BitVec.ofNat 32 r.val)) (fun r => k0_off45_inb k r) (fun r => k0_off45_eq k r))
        (addSq_rows f 5 2 k.val hk (fun r : Fin 8 => k0_off46 k (BitVec.ofNat 32 r.val)) (fun r => k0_off46_inb k r) (fun r => k0_off46_eq k r)))

set_option warn.classDefReducibility false in
/-- The loop of channel 6 of the second chunk. -/
@[sl_loop] def loop17 (f : Buf (Elt F) ((bV).view.loc (V d (cV L) (jV L)))) (c0_i32_162 : BitVec 32) :
    LoopInv (M := 𝕄) frame (wpE (defs₀ (F := F)) 𝒱₀ (V d (cV L) (jV L)) none) Set.univ k0_t17_loop.lb k0_t17_loop.ub k0_t17_loop.st k0_t17_ok
      (k0_pay221 (F := F), k0_pay221 (F := F), k0_pay221 (F := F))
      (k0_t17_body L xV (Memref.isWhole_whole _) eV (Memref.isWhole_whole _) aV (Memref.isWhole_whole _) bV (Memref.isWhole_whole _)
        rV (Memref.isWhole_whole _) cc0_scratch3 cc0_scratch4 cc0_scoped0 c0_i32_162) where
  inv k a := iprop(((bV).view.loc (V d (cV L) (jV L)) ↦{fullShare} f) ∗ ⌜a = acc3 f 6 (8 * k)⌝)
  step k a := by
    iintro ⟨Hb, %ha⟩
    subst ha
    unfold k0_t17_body
    sl_exec_parts
    sl_step
    isplitl [Hb]; · iexact Hb
    ipureintro
    have hk : k.val < 6 := k.isLt
    exact Prod.ext (addSq_rows f 6 0 k.val hk (fun r : Fin 8 => k0_off47 k (BitVec.ofNat 32 r.val)) (fun r => k0_off47_inb k r) (fun r => k0_off47_eq k r))
      (Prod.ext (addSq_rows f 6 1 k.val hk (fun r : Fin 8 => k0_off48 k (BitVec.ofNat 32 r.val)) (fun r => k0_off48_inb k r) (fun r => k0_off48_eq k r))
        (addSq_rows f 6 2 k.val hk (fun r : Fin 8 => k0_off49 k (BitVec.ofNat 32 r.val)) (fun r => k0_off49_inb k r) (fun r => k0_off49_eq k r)))

set_option warn.classDefReducibility false in
/-- The loop of channel 7 of the second chunk. -/
@[sl_loop] def loop18 (f : Buf (Elt F) ((bV).view.loc (V d (cV L) (jV L))))  :
    LoopInv (M := 𝕄) frame (wpE (defs₀ (F := F)) 𝒱₀ (V d (cV L) (jV L)) none) Set.univ k0_t18_loop.lb k0_t18_loop.ub k0_t18_loop.st k0_t18_ok
      (k0_pay221 (F := F), k0_pay221 (F := F), k0_pay221 (F := F))
      (k0_t18_body L xV (Memref.isWhole_whole _) eV (Memref.isWhole_whole _) aV (Memref.isWhole_whole _) bV (Memref.isWhole_whole _)
        rV (Memref.isWhole_whole _) cc0_scratch3 cc0_scratch4 cc0_scoped0 ) where
  inv k a := iprop(((bV).view.loc (V d (cV L) (jV L)) ↦{fullShare} f) ∗ ⌜a = acc3 f 7 (8 * k)⌝)
  step k a := by
    iintro ⟨Hb, %ha⟩
    subst ha
    unfold k0_t18_body
    sl_exec_parts
    sl_step
    isplitl [Hb]; · iexact Hb
    ipureintro
    have hk : k.val < 6 := k.isLt
    exact Prod.ext (addSq_rows f 7 0 k.val hk (fun r : Fin 8 => k0_off50 k (BitVec.ofNat 32 r.val)) (fun r => k0_off50_inb k r) (fun r => k0_off50_eq k r))
      (Prod.ext (addSq_rows f 7 1 k.val hk (fun r : Fin 8 => k0_off51 k (BitVec.ofNat 32 r.val)) (fun r => k0_off51_inb k r) (fun r => k0_off51_eq k r))
        (addSq_rows f 7 2 k.val hk (fun r : Fin 8 => k0_off52 k (BitVec.ofNat 32 r.val)) (fun r => k0_off52_inb k r) (fun r => k0_off52_eq k r)))

end Tile

end Cert.Proof.KernelIdeal

end
-- ==== Proof.EnergyTile.lean ====
/-
  The energy call on the SparseCores: what a task is handed and what its result is, row by row.
-/
module

public import proofs.«01_k».proof.Proof.EnergySum
public import Idealize.ShloMosaic.Lib.SparseCore.Scatter

@[expose] public section

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ
local notation "xV" => (Memref.whole Cert.KernelIdeal.main_arg0_scv : Memref Cert.KernelIdeal.sig Kind.scVector Space.hbm Cert.KernelIdeal.S16x768x48x48 EltTy.f32)
local notation "eV" => (Memref.whole Cert.KernelIdeal.main_v0_scv : Memref Cert.KernelIdeal.sig Kind.scVector Space.hbm Cert.KernelIdeal.S512x16 EltTy.f32)
local notation "aV" => (Memref.whole Cert.KernelIdeal.cc0_scratch0 : Memref Cert.KernelIdeal.sig Kind.scVector Space.vmem Cert.KernelIdeal.S8x48x48 EltTy.f32)
local notation "bV" => (Memref.whole Cert.KernelIdeal.cc0_scratch1 : Memref Cert.KernelIdeal.sig Kind.scVector Space.vmem Cert.KernelIdeal.S8x48x48 EltTy.f32)
local notation "rV" => (Memref.whole Cert.KernelIdeal.cc0_scratch2 : Memref Cert.KernelIdeal.sig Kind.scVector Space.vmem Cert.KernelIdeal.S16x16 EltTy.f32)

section Tile

variable (d : Dev nD) (L : grid0.Coords)

abbrev xLoc (d : Dev nD) : Loc nD τ sig := (SparseCore.T d).loc main_arg0
abbrev eLoc (d : Dev nD) : Loc nD τ sig := (SparseCore.T d).loc main_v0

/-- The task's number. -/
def wid (L : grid0.Coords) : Fin 32 := ⟨2 * (L 1).val + (L 0).val, by
  have h0 : (L 0).val < 2 := (L 0).isLt
  have h1 : (L 1).val < 16 := (L 1).isLt
  omega⟩

/-! ## The task's scratch -/

/-- Cell of a semaphore of the task. -/
abbrev cell (A : DmaSems sig S_) : GSem nD τ sig := (V d (cV L) (jV L), .dma A.sem)

/-- The semaphores of the task: one per buffer, and one of the last copy. -/
def sems : Fin 3 → DmaSem sig := ![cc0_scratch3.sem, cc0_scratch4.sem, cc0_scoped0.sem]

theorem sems_inj : Function.Injective sems := by decide

theorem sep3 (Φ : Fin 3 → sProp 𝕄) : bigSep Finset.univ Φ = iprop(Φ 0 ∗ Φ 1 ∗ Φ 2) := by
  rw [show (Finset.univ : Finset (Fin 3)) = {0, 1, 2} by decide]
  repeat rw [SparseCore.bigSep_insert' (by decide)]
  rw [bigSep_singleton]

/-- The task's cells, as they stand among the subcore's. -/
def cellsOf : Finset (GSem nD τ sig) := Finset.univ.image fun k : Fin 3 => ((V d (cV L) (jV L), .dma (sems k)) : GSem nD τ sig)

theorem cellsOf_sub : cellsOf d L ⊆ ownCells (V d (cV L) (jV L)) := by
  intro g hg
  obtain ⟨k, -, rfl⟩ := Finset.mem_image.mp hg
  refine mem_ownCells.mpr ⟨rfl, ?_⟩
  exact (by decide : ∀ k : Fin 3, (SemLoc.dma (sems k) : SemLoc sig).isScoped .scVector = true) k

/-- The task's semaphores are among the subcore's own: they are them, each at zero, and the rest. -/
theorem ownSems0_V :
    (ownSems0 (V d (cV L) (jV L)) : sProp 𝕄)
      = iprop((semVal (cell d L cc0_scratch3) 0 ∗ semVal (cell d L cc0_scratch4) 0 ∗ semVal (cell d L cc0_scoped0) 0)
          ∗ bigSep (ownCells (V d (cV L) (jV L)) \ cellsOf d L) fun g => semVal g 0) := by
  unfold SparseCore.Cfg.ownSems0
  rw [SparseCore.bigSep_sdiff_split' (cellsOf_sub d L)]
  refine congrArg (fun P : sProp 𝕄 => iprop(P ∗ bigSep (ownCells (V d (cV L) (jV L)) \ cellsOf d L) fun g => semVal g 0)) ?_
  unfold cellsOf
  rw [SparseCore.bigSep_image_of_injOn (fun a _ b _ h => sems_inj (by simpa using h)), sep3]
  rfl

/-- The three scratch buffers are among the subcore's own: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  unfold SparseCore.Cfg.ownBufs
  have own (b : Ref sig .scVector) (hb : ((Proc.scVector (cV L) (jV L)).devRef b : DevRef τ sig).owner.home = .scVector (cV L) (jV L)) :
      (Proc.scVector (cV L) (jV L)).devRef b ∈ ownRefs (τ := τ) (.scVector (cV L) (jV L)) := by
    unfold SparseCore.Cfg.ownRefs; exact Finset.mem_filter.mpr ⟨Finset.mem_univ _, hb⟩
  have ne (a b : Ref sig .scVector) (h : a ≠ b) : (Proc.scVector (cV L) (jV L)).devRef a ≠ ((Proc.scVector (cV L) (jV L)).devRef b : DevRef τ sig) :=
    fun e => h (Proc.devRef_injective _ e)
  refine (SparseCore.bigSep_erase' (own cc0_scratch0 rfl)).trans ?_
  rw [SparseCore.bigSep_erase' (Finset.mem_erase.mpr ⟨ne cc0_scratch1 cc0_scratch0 (by decide), own cc0_scratch1 rfl⟩),
    SparseCore.bigSep_erase' (Finset.mem_erase.mpr ⟨ne cc0_scratch2 cc0_scratch1 (by decide),
      Finset.mem_erase.mpr ⟨ne cc0_scratch2 cc0_scratch0 (by decide), own cc0_scratch2 rfl⟩⟩)]

theorem pts_xV (q : PosShare TreeShare) (f : Buf (Elt F) (xLoc d)) :
    ((xV).view.loc (V d (cV L) (jV L)) ↦{q} f : sProp 𝕄) = xLoc d ↦{q} f := rfl
theorem pts_aV (f : Buf (Elt F) ((V d (cV L) (jV L)).loc cc0_scratch0)) :
    ((aV).view.loc (V d (cV L) (jV L)) ↦{fullShare} f : sProp 𝕄) = (V d (cV L) (jV L)).loc cc0_scratch0 ↦{fullShare} f := rfl
theorem pts_bV (f : Buf (Elt F) ((V d (cV L) (jV L)).loc cc0_scratch1)) :
    ((bV).view.loc (V d (cV L) (jV L)) ↦{fullShare} f : sProp 𝕄) = (V d (cV L) (jV L)).loc cc0_scratch1 ↦{fullShare} f := rfl
theorem pts_rV (f : Buf (Elt F) ((V d (cV L) (jV L)).loc cc0_scratch2)) :
    ((rV).view.loc (V d (cV L) (jV L)) ↦{fullShare} f : sProp 𝕄) = (V d (cV L) (jV L)).loc cc0_scratch2 ↦{fullShare} f := rfl

/-! ## The rows of the result -/

abbrev eOff (w : ℕ) : Fin 2 → ℕ := ![16 * w, 0]
theorem eOff_inb (w : Fin 32) : ∀ a, eOff w.val a + S16x16.size a ≤ S512x16.size a := by
  have hw := w.isLt
  intro a
  match a with
  | 0 => show 16 * w.val + 16 ≤ 512; omega
  | 1 => show 0 + 16 ≤ 16; omega
abbrev eRect (w : Fin 32) : Rect S512x16 := Rect.unit (s := S512x16) (eOff w.val) S16x16.size (eOff_inb w)
/-- The elements of the result that are task `w`'s. -/
abbrev eSet (w : Fin 32) : Finset S512x16.Idx := (eRect w).set

theorem mem_eSet (w : Fin 32) (j : S512x16.Idx) : j ∈ eSet w ↔ (j 0).val / 16 = w.val := by
  unfold eSet
  rw [Rect.mem_set_unit]
  have h0 : (j 0).val < 512 := (j 0).isLt
  have h1 : (j 1).val < 16 := (j 1).isLt
  constructor
  · intro h
    have a0 := h 0
    change 16 * w.val ≤ (j 0).val ∧ (j 0).val < 16 * w.val + 16 at a0
    omega
  · rintro e0 a
    match a with
    | 0 => show 16 * w.val ≤ (j 0).val ∧ (j 0).val < 16 * w.val + 16; omega
    | 1 => show 0 ≤ (j 1).val ∧ (j 1).val < 0 + 16; omega

/-- The task's rows of the result as it addresses them. -/
abbrev eK (off : Fin 2 → ℕ) (h : ∀ a, off a + S16x16.size a ≤ S512x16.size a) : Memref sig .scVector .hbm S16x16 .f32 :=
  (eV).slice (Rect.unit (s := S512x16) off S16x16.size h) (fun _ => rfl)

theorem eOff54 : k0_off54 L = eOff (wid L).val := by
  rw [k0_off54_eq]
  have e : 32 * (L 1).val + 16 * (L 0).val = 16 * (wid L).val := by
    show _ = 16 * (2 * (L 1).val + (L 0).val); omega
  rw [e]

theorem set_eK (off : Fin 2 → ℕ) (h : ∀ a, off a + S16x16.size a ≤ S512x16.size a)
    (e : off = eOff (wid L).val) : (eK off h).view.set = eSet (wid L) := by
  subst e
  show ((View.whole (main_v0_scv : Ref sig .scVector)).slice (eRect (wid L))).set = _
  rw [View.set_slice]; exact Finset.map_refl

theorem pts_eK (off : Fin 2 → ℕ) (h : ∀ a, off a + S16x16.size a ≤ S512x16.size a)
    (e : off = eOff (wid L).val) (f : Buf (Elt F) (eLoc d)) :
    ((eK off h).view.loc (V d (cV L) (jV L)) ↦[(eK off h).view.set]{fullShare} f : sProp 𝕄) = eLoc d ↦[eSet (wid L)]{fullShare} f := by
  rw [set_eK L off h e]

variable [FloatOps F]

/-- A chunk of `x` as the task addresses it, from where it starts: eight channels of one batch. -/
abbrev xK (off : Fin 4 → ℕ) (h : ∀ a, off a + S1x8x48x48.size a ≤ S16x768x48x48.size a) : Memref sig .scVector .hbm S8x48x48 .f32 :=
  ((xV).slice (Rect.unit (s := S16x768x48x48) off S1x8x48x48.size h) (fun _ => rfl)).squeeze S8x48x48 squeezes_S1x8x48x48_S8x48x48

/-- Where chunk `g` of batch `t` starts. -/
abbrev cOff (L : grid0.Coords) (t g : ℕ) : Fin 4 → ℕ := ![t, 32 * (L 1).val + 16 * (L 0).val + 8 * g + 256, 0, 0]

theorem cOff_inb (t : Fin 16) (g : Fin 2) : ∀ a, cOff L t.val g.val a + S1x8x48x48.size a ≤ S16x768x48x48.size a := by
  have ht := t.isLt; have hg := g.isLt
  have h0 : (L 0).val < 2 := (L 0).isLt
  have h1 : (L 1).val < 16 := (L 1).isLt
  intro a
  match a with
  | 0 => show t.val + 1 ≤ 16; omega
  | 1 => show 32 * (L 1).val + 16 * (L 0).val + 8 * g.val + 256 + 8 ≤ 768; omega
  | 2 => show 0 + 48 ≤ 48; omega
  | 3 => show 0 + 48 ≤ 48; omega

/-- Chunk `g` of batch `t`, as the task addresses it. -/
abbrev cK (t : Fin 16) (g : Fin 2) : Memref sig .scVector .hbm S8x48x48 .f32 := xK (cOff L t.val g.val) (cOff_inb L t g)

/-- The numbers of chunk `g` of batch `t`. -/
def chunk (x : Buf (Elt F) (xLoc d)) (t : Fin 16) (g : Fin 2) : S8x48x48.Idx → Elt F .f32 := View.read (Elt F) (cK L t g).view x

theorem k0_off6_eq' : ∀ (t : Fin k0_t2_loop.trips) (g : Fin 2) (p : Fin 8),
    k0_off6 t (BitVec.ofNat 32 g.val) (BitVec.ofNat 32 p.val) = ![8 * g.val + p.val, 0] := by decide +kernel

instance closedOff6_0_0 (t : Fin k0_t2_loop.trips) : ClosedOff (k0_off6 t 0#32 0#32) := ⟨![0, 0], k0_off6_eq' t 0 0⟩
instance closedOff6_0_1 (t : Fin k0_t2_loop.trips) : ClosedOff (k0_off6 t 0#32 1#32) := ⟨![1, 0], k0_off6_eq' t 0 1⟩
instance closedOff6_0_2 (t : Fin k0_t2_loop.trips) : ClosedOff (k0_off6 t 0#32 2#32) := ⟨![2, 0], k0_off6_eq' t 0 2⟩
instance closedOff6_0_3 (t : Fin k0_t2_loop.trips) : ClosedOff (k0_off6 t 0#32 3#32) := ⟨![3, 0], k0_off6_eq' t 0 3⟩
instance closedOff6_0_4 (t : Fin k0_t2_loop.trips) : ClosedOff (k0_off6 t 0#32 4#32) := ⟨![4, 0], k0_off6_eq' t 0 4⟩
instance closedOff6_0_5 (t : Fin k0_t2_loop.trips) : ClosedOff (k0_off6 t 0#32 5#32) := ⟨![5, 0], k0_off6_eq' t 0 5⟩
instance closedOff6_0_6 (t : Fin k0_t2_loop.trips) : ClosedOff (k0_off6 t 0#32 6#32) := ⟨![6, 0], k0_off6_eq' t 0 6⟩
instance closedOff6_0_7 (t : Fin k0_t2_loop.trips) : ClosedOff (k0_off6 t 0#32 7#32) := ⟨![7, 0], k0_off6_eq' t 0 7⟩
instance closedOff6_1_0 (t : Fin k0_t2_loop.trips) : ClosedOff (k0_off6 t 1#32 0#32) := ⟨![8, 0], k0_off6_eq' t 1 0⟩
instance closedOff6_1_1 (t : Fin k0_t2_loop.trips) : ClosedOff (k0_off6 t 1#32 1#32) := ⟨![9, 0], k0_off6_eq' t 1 1⟩
instance closedOff6_1_2 (t : Fin k0_t2_loop.trips) : ClosedOff (k0_off6 t 1#32 2#32) := ⟨![10, 0], k0_off6_eq' t 1 2⟩
instance closedOff6_1_3 (t : Fin k0_t2_loop.trips) : ClosedOff (k0_off6 t 1#32 3#32) := ⟨![11, 0], k0_off6_eq' t 1 3⟩
instance closedOff6_1_4 (t : Fin k0_t2_loop.trips) : ClosedOff (k0_off6 t 1#32 4#32) := ⟨![12, 0], k0_off6_eq' t 1 4⟩
instance closedOff6_1_5 (t : Fin k0_t2_loop.trips) : ClosedOff (k0_off6 t 1#32 5#32) := ⟨![13, 0], k0_off6_eq' t 1 5⟩
instance closedOff6_1_6 (t : Fin k0_t2_loop.trips) : ClosedOff (k0_off6 t 1#32 6#32) := ⟨![14, 0], k0_off6_eq' t 1 6⟩
instance closedOff6_1_7 (t : Fin k0_t2_loop.trips) : ClosedOff (k0_off6 t 1#32 7#32) := ⟨![15, 0], k0_off6_eq' t 1 7⟩

theorem cond1_iff : ∀ t : Fin k0_t2_loop.trips, k0_cond1 t = 1#1 ↔ t.val + 1 < 16 := by decide +kernel
theorem cond2_iff : ∀ t : Fin k0_t2_loop.trips, k0_cond2 t = 1#1 ↔ t.val + 1 < 16 := by decide +kernel

/-- The copy of chunk `g` of batch `t` into the first buffer, under way. -/
def flA (q : PosShare TreeShare) (x : Buf (Elt F) (xLoc d)) (t : Fin 16) : sProp 𝕄 :=
  Transfers.Flight countersEmb (V d (cV L) (jV L)) (SemLoc.dma cc0_scratch3.sem) (default : HIx 2) 589824
    iprop(((aV).view.loc (V d (cV L) (jV L)) ↦{fullShare} chunk d L x t 0)
      ∗ (xV).view.loc (V d (cV L) (jV L)) ↦{q} x)
/-- The same into the second buffer. -/
def flB (q : PosShare TreeShare) (x : Buf (Elt F) (xLoc d)) (t : Fin 16) : sProp 𝕄 :=
  Transfers.Flight countersEmb (V d (cV L) (jV L)) (SemLoc.dma cc0_scratch4.sem) (default : HIx 2) 589824
    iprop(((bV).view.loc (V d (cV L) (jV L)) ↦{fullShare} chunk d L x t 1)
      ∗ (xV).view.loc (V d (cV L) (jV L)) ↦{q} x)

/-! ## The sixteen running energies -/

/-- The running energies with the first `c` rows taken from `g`. -/
def mix (f g : S16x16.Idx → Elt F .f32) (c : ℕ) : S16x16.Idx → Elt F .f32 := fun j => if (j 0).val < c then g j else f j

theorem mix_zero (f g : S16x16.Idx → Elt F .f32) : mix f g 0 = f := funext fun j => if_neg (Nat.not_lt_zero _)
theorem mix_last (f g : S16x16.Idx → Elt F .f32) : mix f g 16 = g := funext fun j => if_pos (show (j 0).val < 16 from (j 0).isLt)

theorem mix_step (f g : S16x16.Idx → Elt F .f32) (P : List (View.Piece (Elt F) S16x16 .f32)) (c : ℕ) (hP : (rV).view.writes (Elt F) f P = mix f g c)
    (off : Fin 2 → ℕ) (h : ∀ a, off a + S1x16.size a ≤ S16x16.size a) (e : off = ![c, 0]) (v : FVec F S1x16 .f32)
    (hv : ∀ j : S16x16.Idx, (j 0).val = c → v (ix2 (n0 := 1) (n1 := 16) 0 (j 1)) = g j) :
    (rV).view.writes (Elt F) f (⟨Rect.unit (s := S16x16) off S1x16.size h, v⟩ :: P) = mix f g (c + 1) := by
  funext j
  by_cases hj : (j 0).val = c
  · refine (View.read_writes_cons_rows_of_mem (rV).view f (o := c) h v P j (ix2 (n0 := 1) (n1 := 16) 0 (j 1)) e ?_ rfl).trans ?_
    · rw [hj]; rfl
    · rw [hv j hj]; exact (if_pos (by omega)).symm
  · refine (View.read_writes_cons_rows_of_not_mem (rV).view f (o := c) (W := 1) h v P j e rfl (by omega)).trans ?_
    refine (congrFun hP j).trans ?_
    unfold mix
    by_cases hc : (j 0).val < c
    · rw [if_pos hc, if_pos (by omega)]
    · rw [if_neg hc, if_neg (by omega)]

/-- What a trip stores in a row: what stood there, and what the channel adds. -/
def bump (f : S16x16.Idx → Elt F .f32) (off : Fin 2 → ℕ) (h : ∀ a, off a + S1x16.size a ≤ S16x16.size a) (T : FVec F S16 .f32) : FVec F S1x16 .f32 :=
  shapeCast S1x16 (addf (shapeCast S16 (fun i : S1x16.Idx => f ((Rect.unit (s := S16x16) off S1x16.size h).idx i) : Vec F S1x16 .f32) shapeCasts_S1x16_S16) T) shapeCasts_S16_S1x16

/-- What a channel of a batch adds to its running energies. -/
def tot (b : S8x48x48.Idx → Elt F .f32) (p : Fin 8) : FVec F S16 .f32 := addf (addf (acc b p 0 48) (acc b p 1 48)) (acc b p 2 48)

/-- The running energies after a batch: rows 0–7 add what the first chunk's channels add, rows 8–15 the second's. -/
def stepR (b0 b1 : S8x48x48.Idx → Elt F .f32) (f : S16x16.Idx → Elt F .f32) : S16x16.Idx → Elt F .f32 := fun j =>
  FloatOps.addf (f j) (tot (if (j 0).val < 8 then b0 else b1) ⟨(j 0).val % 8, Nat.mod_lt _ (by decide)⟩ (ix1 (n0 := 16) (j 1)))

theorem bump_val (f : S16x16.Idx → Elt F .f32) (c : ℕ) (off : Fin 2 → ℕ) (h : ∀ a, off a + S1x16.size a ≤ S16x16.size a) (e : off = ![c, 0])
    (T : FVec F S16 .f32) (j : S16x16.Idx) (hj : (j 0).val = c) :
    bump f off h T (ix2 (n0 := 1) (n1 := 16) 0 (j 1)) = FloatOps.addf (f j) (T (ix1 (n0 := 16) (j 1))) := by
  subst e
  unfold bump
  refine (shapeCast_apply _ _ (ix2 (n0 := 1) (n1 := 16) 0 (j 1)) (ix1 (n0 := 16) (j 1)) ?_).trans ?_
  · rw [Shape.rowMajor_val_two, Shape.rowMajor_val_one]
    show (j 1).val = 0 * 16 + (j 1).val
    omega
  · refine congrArg (fun t => FloatOps.addf t (T (ix1 (n0 := 16) (j 1)))) ?_
    refine (shapeCast_apply _ _ (ix1 (n0 := 16) (j 1)) (ix2 (n0 := 1) (n1 := 16) 0 (j 1)) ?_).trans ?_
    · rw [Shape.rowMajor_val_two, Shape.rowMajor_val_one]
      show 0 * 16 + (j 1).val = (j 1).val
      omega
    · refine congrArg f (funext fun a => Fin.ext ?_)
      match a with
      | 0 => show c + 1 * 0 = (j 0).val; omega
      | 1 => show 0 + 1 * (j 1).val = (j 1).val; omega

theorem bump_step (b0 b1 : S8x48x48.Idx → Elt F .f32) (f : S16x16.Idx → Elt F .f32) (P : List (View.Piece (Elt F) S16x16 .f32)) (c : ℕ)
    (hP : (rV).view.writes (Elt F) f P = mix f (stepR b0 b1 f) c)
    (off : Fin 2 → ℕ) (h : ∀ a, off a + S1x16.size a ≤ S16x16.size a) (e : off = ![c, 0]) (b : S8x48x48.Idx → Elt F .f32) (p : Fin 8)
    (hb : (if c < 8 then b0 else b1) = b) (hp : c % 8 = p.val) :
    (rV).view.writes (Elt F) f (⟨Rect.unit (s := S16x16) off S1x16.size h, bump f off h (tot b p)⟩ :: P) = mix f (stepR b0 b1 f) (c + 1) :=
  mix_step f (stepR b0 b1 f) P c hP off h e _ fun j hj => by
    rw [bump_val f c off h e _ j hj]
    unfold stepR
    subst hj hb
    rw [show (⟨(j 0).val % 8, Nat.mod_lt _ (by decide)⟩ : Fin 8) = p from Fin.ext hp]

/-- The sixteen stores of a trip, oldest last. -/
theorem bump_rows (k : Fin k0_t2_loop.trips) (b0 b1 : S8x48x48.Idx → Elt F .f32) (f : S16x16.Idx → Elt F .f32) :
    (rV).view.writes (Elt F) f [⟨Rect.unit (s := S16x16) (k0_off6 k 1#32 7#32) S1x16.size (k0_off6_inb k 1 7), bump f (k0_off6 k 1#32 7#32) (k0_off6_inb k 1 7) (tot b1 7)⟩,
      ⟨Rect.unit (s := S16x16) (k0_off6 k 1#32 6#32) S1x16.size (k0_off6_inb k 1 6), bump f (k0_off6 k 1#32 6#32) (k0_off6_inb k 1 6) (tot b1 6)⟩,
      ⟨Rect.unit (s := S16x16) (k0_off6 k 1#32 5#32) S1x16.size (k0_off6_inb k 1 5), bump f (k0_off6 k 1#32 5#32) (k0_off6_inb k 1 5) (tot b1 5)⟩,
      ⟨Rect.unit (s := S16x16) (k0_off6 k 1#32 4#32) S1x16.size (k0_off6_inb k 1 4), bump f (k0_off6 k 1#32 4#32) (k0_off6_inb k 1 4) (tot b1 4)⟩,
      ⟨Rect.unit (s := S16x16) (k0_off6 k 1#32 3#32) S1x16.size (k0_off6_inb k 1 3), bump f (k0_off6 k 1#32 3#32) (k0_off6_inb k 1 3) (tot b1 3)⟩,
      ⟨Rect.unit (s := S16x16) (k0_off6 k 1#32 2#32) S1x16.size (k0_off6_inb k 1 2), bump f (k0_off6 k 1#32 2#32) (k0_off6_inb k 1 2) (tot b1 2)⟩,
      ⟨Rect.unit (s := S16x16) (k0_off6 k 1#32 1#32) S1x16.size (k0_off6_inb k 1 1), bump f (k0_off6 k 1#32 1#32) (k0_off6_inb k 1 1) (tot b1 1)⟩,
      ⟨Rect.unit (s := S16x16) (k0_off6 k 1#32 0#32) S1x16.size (k0_off6_inb k 1 0), bump f (k0_off6 k 1#32 0#32) (k0_off6_inb k 1 0) (tot b1 0)⟩,
      ⟨Rect.unit (s := S16x16) (k0_off6 k 0#32 7#32) S1x16.size (k0_off6_inb k 0 7), bump f (k0_off6 k 0#32 7#32) (k0_off6_inb k 0 7) (tot b0 7)⟩,
      ⟨Rect.unit (s := S16x16) (k0_off6 k 0#32 6#32) S1x16.size (k0_off6_inb k 0 6), bump f (k0_off6 k 0#32 6#32) (k0_off6_inb k 0 6) (tot b0 6)⟩,
      ⟨Rect.unit (s := S16x16) (k0_off6 k 0#32 5#32) S1x16.size (k0_off6_inb k 0 5), bump f (k0_off6 k 0#32 5#32) (k0_off6_inb k 0 5) (tot b0 5)⟩,
      ⟨Rect.unit (s := S16x16) (k0_off6 k 0#32 4#32) S1x16.size (k0_off6_inb k 0 4), bump f (k0_off6 k 0#32 4#32) (k0_off6_inb k 0 4) (tot b0 4)⟩,
      ⟨Rect.unit (s := S16x16) (k0_off6 k 0#32 3#32) S1x16.size (k0_off6_inb k 0 3), bump f (k0_off6 k 0#32 3#32) (k0_off6_inb k 0 3) (tot b0 3)⟩,
      ⟨Rect.unit (s := S16x16) (k0_off6 k 0#32 2#32) S1x16.size (k0_off6_inb k 0 2), bump f (k0_off6 k 0#32 2#32) (k0_off6_inb k 0 2) (tot b0 2)⟩,
      ⟨Rect.unit (s := S16x16) (k0_off6 k 0#32 1#32) S1x16.size (k0_off6_inb k 0 1), bump f (k0_off6 k 0#32 1#32) (k0_off6_inb k 0 1) (tot b0 1)⟩,
      ⟨Rect.unit (s := S16x16) (k0_off6 k 0#32 0#32) S1x16.size (k0_off6_inb k 0 0), bump f (k0_off6 k 0#32 0#32) (k0_off6_inb k 0 0) (tot b0 0)⟩] = stepR b0 b1 f := by
  rw [← mix_last f (stepR b0 b1 f)]
  refine bump_step b0 b1 f _ 15 ?_ _ _ (k0_off6_eq' k 1 7) b1 7 rfl rfl
  refine bump_step b0 b1 f _ 14 ?_ _ _ (k0_off6_eq' k 1 6) b1 6 rfl rfl
  refine bump_step b0 b1 f _ 13 ?_ _ _ (k0_off6_eq' k 1 5) b1 5 rfl rfl
  refine bump_step b0 b1 f _ 12 ?_ _ _ (k0_off6_eq' k 1 4) b1 4 rfl rfl
  refine bump_step b0 b1 f _ 11 ?_ _ _ (k0_off6_eq' k 1 3) b1 3 rfl rfl
  refine bump_step b0 b1 f _ 10 ?_ _ _ (k0_off6_eq' k 1 2) b1 2 rfl rfl
  refine bump_step b0 b1 f _ 9 ?_ _ _ (k0_off6_eq' k 1 1) b1 1 rfl rfl
  refine bump_step b0 b1 f _ 8 ?_ _ _ (k0_off6_eq' k 1 0) b1 0 rfl rfl
  refine bump_step b0 b1 f _ 7 ?_ _ _ (k0_off6_eq' k 0 7) b0 7 rfl rfl
  refine bump_step b0 b1 f _ 6 ?_ _ _ (k0_off6_eq' k 0 6) b0 6 rfl rfl
  refine bump_step b0 b1 f _ 5 ?_ _ _ (k0_off6_eq' k 0 5) b0 5 rfl rfl
  refine bump_step b0 b1 f _ 4 ?_ _ _ (k0_off6_eq' k 0 4) b0 4 rfl rfl
  refine bump_step b0 b1 f _ 3 ?_ _ _ (k0_off6_eq' k 0 3) b0 3 rfl rfl
  refine bump_step b0 b1 f _ 2 ?_ _ _ (k0_off6_eq' k 0 2) b0 2 rfl rfl
  refine bump_step b0 b1 f _ 1 ?_ _ _ (k0_off6_eq' k 0 1) b0 1 rfl rfl
  refine bump_step b0 b1 f _ 0 ?_ _ _ (k0_off6_eq' k 0 0) b0 0 rfl rfl
  exact (mix_zero f _).symm

/-- No energy yet. -/
def R0 : S16x16.Idx → Elt F .f32 := fun _ => Scalar.ofBits .f32 0x00000000#32

theorem clear_val (j : S16x16.Idx) : k0_pay222 (F := F) (ix2 (n0 := 1) (n1 := 16) 0 (j 1)) = R0 (F := F) j := by
  unfold k0_pay222
  refine (shapeCast_apply _ _ (ix2 (n0 := 1) (n1 := 16) 0 (j 1)) (ix1 (n0 := 16) (j 1)) ?_).trans rfl
  rw [Shape.rowMajor_val_two, Shape.rowMajor_val_one]
  show (j 1).val = 0 * 16 + (j 1).val
  omega

/-- The running energies after `k` batches. -/
def RR (x : Buf (Elt F) (xLoc d)) : ℕ → S16x16.Idx → Elt F .f32
  | 0 => R0
  | k + 1 => if h : k < 16 then stepR (chunk d L x ⟨k, h⟩ 0) (chunk d L x ⟨k, h⟩ 1) (RR x k) else RR x k

theorem RR_succ (x : Buf (Elt F) (xLoc d)) (k : ℕ) (h : k < 16) :
    RR d L x (k + 1) = stepR (chunk d L x ⟨k, h⟩ 0) (chunk d L x ⟨k, h⟩ 1) (RR d L x k) := dif_pos h

/-- A copy just started, with what it does not read of `x`, is the copy of a chunk under way. -/
theorem flA_intro (q : PosShare TreeShare) (x : Buf (Elt F) (xLoc d)) (t : Fin 16) (off : Fin 4 → ℕ)
    (h : ∀ a, off a + S1x8x48x48.size a ≤ S16x768x48x48.size a) (e : off = cOff L t.val (0 : Fin 2).val)
    (fa : Buf (Elt F) ((aV).view.loc (V d (cV L) (jV L)))) (W : S8x48x48.Idx → Elt F .f32) (hW : W = View.read (Elt F) (xK off h).view x)
    (A : Finset S16x768x48x48.Idx) (hA : A = (xK off h).view.set) :
    (iprop(Transfers.Flight countersEmb (V d (cV L) (jV L)) (SemLoc.dma cc0_scratch3.sem) (default : HIx 2) 589824
        iprop(((aV).view.loc (V d (cV L) (jV L)) ↦{fullShare} View.write (Elt F) (aV).view fa W Finset.univ)
          ∗ (xV).view.loc (V d (cV L) (jV L)) ↦[A]{q} x)
      ∗ (xV).view.loc (V d (cV L) (jV L)) ↦[(Finset.univ : Finset S16x768x48x48.Idx) \ A]{q} x) : sProp 𝕄)
      ⊢ flA d L q x t := by
  subst e hW
  have hw : View.write (Elt F) (aV).view fa (View.read (Elt F) (xK (cOff L t.val (0 : Fin 2).val) h).view x) Finset.univ = chunk d L x t 0 :=
    View.write_whole_univ cc0_scratch0 _ _
  rw [hw]
  unfold flA
  refine BI.Entails.trans ?_ ((Transfers.Flight_frame countersEmb (V d (cV L) (jV L)) (R := ((xV).view.loc (V d (cV L) (jV L)) ↦[(Finset.univ : Finset S16x768x48x48.Idx) \ A]{q} x : sProp 𝕄))
    (D := iprop(((aV).view.loc (V d (cV L) (jV L)) ↦{fullShare} chunk d L x t 0) ∗ (xV).view.loc (V d (cV L) (jV L)) ↦[A]{q} x))).trans
    (Transfers.Flight_mono countersEmb (V d (cV L) (jV L)) ?_))
  · change BIBase.Entails (PROP := sProp 𝕄) _ _
    iintro ⟨HF, HR⟩
    isplitl [HR] <;> iassumption
  · iintro ⟨HR, Ha, HA⟩
    isplitl [Ha]; · iexact Ha
    iapply (pointsTo_split_subset (Finset.subset_univ A)).2
    isplitl [HA] <;> iassumption

/-- A copy just started, with what it does not read of `x`, is the copy of a chunk under way. -/
theorem flB_intro (q : PosShare TreeShare) (x : Buf (Elt F) (xLoc d)) (t : Fin 16) (off : Fin 4 → ℕ)
    (h : ∀ a, off a + S1x8x48x48.size a ≤ S16x768x48x48.size a) (e : off = cOff L t.val (1 : Fin 2).val)
    (fa : Buf (Elt F) ((bV).view.loc (V d (cV L) (jV L)))) (W : S8x48x48.Idx → Elt F .f32) (hW : W = View.read (Elt F) (xK off h).view x)
    (A : Finset S16x768x48x48.Idx) (hA : A = (xK off h).view.set) :
    (iprop(Transfers.Flight countersEmb (V d (cV L) (jV L)) (SemLoc.dma cc0_scratch4.sem) (default : HIx 2) 589824
        iprop(((bV).view.loc (V d (cV L) (jV L)) ↦{fullShare} View.write (Elt F) (bV).view fa W Finset.univ)
          ∗ (xV).view.loc (V d (cV L) (jV L)) ↦[A]{q} x)
      ∗ (xV).view.loc (V d (cV L) (jV L)) ↦[(Finset.univ : Finset S16x768x48x48.Idx) \ A]{q} x) : sProp 𝕄)
      ⊢ flB d L q x t := by
  subst e hW
  have hw : View.write (Elt F) (bV).view fa (View.read (Elt F) (xK (cOff L t.val (1 : Fin 2).val) h).view x) Finset.univ = chunk d L x t 1 :=
    View.write_whole_univ cc0_scratch1 _ _
  rw [hw]
  unfold flB
  refine BI.Entails.trans ?_ ((Transfers.Flight_frame countersEmb (V d (cV L) (jV L)) (R := ((xV).view.loc (V d (cV L) (jV L)) ↦[(Finset.univ : Finset S16x768x48x48.Idx) \ A]{q} x : sProp 𝕄))
    (D := iprop(((bV).view.loc (V d (cV L) (jV L)) ↦{fullShare} chunk d L x t 1) ∗ (xV).view.loc (V d (cV L) (jV L)) ↦[A]{q} x))).trans
    (Transfers.Flight_mono countersEmb (V d (cV L) (jV L)) ?_))
  · change BIBase.Entails (PROP := sProp 𝕄) _ _
    iintro ⟨HF, HR⟩
    isplitl [HR] <;> iassumption
  · iintro ⟨HR, Ha, HA⟩
    isplitl [Ha]; · iexact Ha
    iapply (pointsTo_split_subset (Finset.subset_univ A)).2
    isplitl [HA] <;> iassumption

end Tile

end Cert.Proof.KernelIdeal

end
-- ==== Proof.EnergyTrip.lean ====
/-
  The energy call on the SparseCores: one task run, batch by batch.
-/
module

public import proofs.«01_k».proof.Proof.EnergyTile

@[expose] public section

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ
local notation "xV" => (Memref.whole Cert.KernelIdeal.main_arg0_scv : Memref Cert.KernelIdeal.sig Kind.scVector Space.hbm Cert.KernelIdeal.S16x768x48x48 EltTy.f32)
local notation "eV" => (Memref.whole Cert.KernelIdeal.main_v0_scv : Memref Cert.KernelIdeal.sig Kind.scVector Space.hbm Cert.KernelIdeal.S512x16 EltTy.f32)
local notation "aV" => (Memref.whole Cert.KernelIdeal.cc0_scratch0 : Memref Cert.KernelIdeal.sig Kind.scVector Space.vmem Cert.KernelIdeal.S8x48x48 EltTy.f32)
local notation "bV" => (Memref.whole Cert.KernelIdeal.cc0_scratch1 : Memref Cert.KernelIdeal.sig Kind.scVector Space.vmem Cert.KernelIdeal.S8x48x48 EltTy.f32)
local notation "rV" => (Memref.whole Cert.KernelIdeal.cc0_scratch2 : Memref Cert.KernelIdeal.sig Kind.scVector Space.vmem Cert.KernelIdeal.S16x16 EltTy.f32)

section Tile

variable (d : Dev nD) (L : grid0.Coords) [FloatOps F]

set_option maxHeartbeats 8000000 in
/-- A trip that is not the last: both chunks are summed, and the copies of the next batch's start. -/
theorem trip_lt (qa qb : PosShare TreeShare) (x : Buf (Elt F) (xLoc d)) (k : Fin k0_t2_loop.trips) (hk : k.val + 1 < 16)
    (f : Buf (Elt F) ((rV).view.loc (V d (cV L) (jV L)))) (v3 : BitVec 32)
    (O : CellTallies nD τ sig (HIx 2)) (W : Waits sig (HIx 2)) :
    (iprop(Transfers.MayWaits (V d (cV L) (jV L)) (default : HIx 2) O
        ∗ owes (V d (cV L) (jV L)) O W
        ∗ ((rV).view.loc (V d (cV L) (jV L)) ↦{fullShare} f)
        ∗ flA d L qa x ⟨k.val, k.isLt⟩ ∗ flB d L qb x ⟨k.val, k.isLt⟩) : sProp 𝕄)
      ⊢ wp frame (wpE (defs₀ (F := F)) 𝒱₀ (V d (cV L) (jV L)) none) Set.univ
          (k0_t2_body L xV (Memref.isWhole_whole _) eV (Memref.isWhole_whole _) aV (Memref.isWhole_whole _)
            bV (Memref.isWhole_whole _) rV (Memref.isWhole_whole _) cc0_scratch3 cc0_scratch4 cc0_scoped0 v3 k ⟨⟩)
          fun _ => iprop((∃ W', ⌜∀ p ∈ W', p ∈ W ∨ p.2 = none⌝ ∗ owes (V d (cV L) (jV L)) O W')
            ∗ ((rV).view.loc (V d (cV L) (jV L)) ↦{fullShare} stepR (chunk d L x ⟨k.val, k.isLt⟩ 0) (chunk d L x ⟨k.val, k.isLt⟩ 1) f)
            ∗ flA d L qa x ⟨k.val + 1, hk⟩ ∗ flB d L qb x ⟨k.val + 1, hk⟩) := by
  have h1 : k0_cond1 k = 1#1 := (cond1_iff k).mpr hk
  have h2 : k0_cond2 k = 1#1 := (cond2_iff k).mpr hk
  unfold flA flB k0_t2_body
  iintro ⟨#Hmw, HO, Hr, Hs0, Hs1⟩
  sl_exec_parts
  sl_step
  isplitl [HO]
  · iexists _; isplitr
    swap; · iexact HO
    ipureintro; intro p hp
    repeat (rcases Finset.mem_insert.mp hp with hp | hp; · exact .inr (hp ▸ rfl))
    exact .inl hp
  isplitl [Hr]
  · rw [← bump_rows k (chunk d L x ⟨k.val, k.isLt⟩ 0) (chunk d L x ⟨k.val, k.isLt⟩ 1) f]
    iexact Hr
  isplitl [Hs0 Hs0_src]
  · iapply ((flA_intro d L qa x ⟨k.val + 1, hk⟩ (k0_off28 L k) (k0_off28_inb L k h1) (by rw [k0_off28_eq]; rfl) _ _ rfl _ rfl).trans (Entails.of_eq (by rw [flA])))
    isplitl [Hs0]; · iexact Hs0
    iexact Hs0_src
  · iapply ((flB_intro d L qb x ⟨k.val + 1, hk⟩ (k0_off53 L k) (k0_off53_inb L k h2) (by rw [k0_off53_eq]; rfl) _ _ rfl _ rfl).trans (Entails.of_eq (by rw [flB])))
    isplitl [Hs1]; · iexact Hs1
    iexact Hs1_src

set_option maxHeartbeats 8000000 in
/-- The last trip: both chunks are summed, nothing more is copied. -/
theorem trip_last (qa qb : PosShare TreeShare) (x : Buf (Elt F) (xLoc d)) (k : Fin k0_t2_loop.trips) (hk : ¬ k.val + 1 < 16)
    (f : Buf (Elt F) ((rV).view.loc (V d (cV L) (jV L)))) (v3 : BitVec 32)
    (O : CellTallies nD τ sig (HIx 2)) (W : Waits sig (HIx 2)) :
    (iprop(Transfers.MayWaits (V d (cV L) (jV L)) (default : HIx 2) O
        ∗ owes (V d (cV L) (jV L)) O W
        ∗ ((rV).view.loc (V d (cV L) (jV L)) ↦{fullShare} f)
        ∗ flA d L qa x ⟨k.val, k.isLt⟩ ∗ flB d L qb x ⟨k.val, k.isLt⟩) : sProp 𝕄)
      ⊢ wp frame (wpE (defs₀ (F := F)) 𝒱₀ (V d (cV L) (jV L)) none) Set.univ
          (k0_t2_body L xV (Memref.isWhole_whole _) eV (Memref.isWhole_whole _) aV (Memref.isWhole_whole _)
            bV (Memref.isWhole_whole _) rV (Memref.isWhole_whole _) cc0_scratch3 cc0_scratch4 cc0_scoped0 v3 k ⟨⟩)
          fun _ => iprop((∃ W', ⌜∀ p ∈ W', p ∈ W ∨ p.2 = none⌝ ∗ owes (V d (cV L) (jV L)) O W')
            ∗ ((rV).view.loc (V d (cV L) (jV L)) ↦{fullShare} stepR (chunk d L x ⟨k.val, k.isLt⟩ 0) (chunk d L x ⟨k.val, k.isLt⟩ 1) f)
            ∗ (∃ g, (aV).view.loc (V d (cV L) (jV L)) ↦{fullShare} g) ∗ (∃ g, (bV).view.loc (V d (cV L) (jV L)) ↦{fullShare} g)
            ∗ semVal (cell d L cc0_scratch3) 0 ∗ semVal (cell d L cc0_scratch4) 0
            ∗ ((xV).view.loc (V d (cV L) (jV L)) ↦{qa} x) ∗ ((xV).view.loc (V d (cV L) (jV L)) ↦{qb} x)) := by
  have h1 : ¬ k0_cond1 k = 1#1 := fun h => hk ((cond1_iff k).mp h)
  have h2 : ¬ k0_cond2 k = 1#1 := fun h => hk ((cond2_iff k).mp h)
  unfold flA flB k0_t2_body
  iintro ⟨#Hmw, HO, Hr, Hs0, Hs1⟩
  sl_exec_parts
  sl_step
  isplitl [HO]
  · iexists _; isplitr
    swap; · iexact HO
    ipureintro; intro p hp
    repeat (rcases Finset.mem_insert.mp hp with hp | hp; · exact .inr (hp ▸ rfl))
    exact .inl hp
  isplitl [Hr]
  · rw [← bump_rows k (chunk d L x ⟨k.val, k.isLt⟩ 0) (chunk d L x ⟨k.val, k.isLt⟩ 1) f]
    iexact Hr
  isplitl [Hs0_dst]; · iexists _; iexact Hs0_dst
  isplitl [Hs1_dst]; · iexists _; iexact Hs1_dst
  isplitl [Hs0]; · iexact Hs0
  isplitl [Hs1]; · iexact Hs1
  isplitl [Hs0_src]; · iexact Hs0_src
  iexact Hs1_src

end Tile

end Cert.Proof.KernelIdeal

end
-- ==== Proof.EnergyRun.lean ====
/-
  The energy call on the SparseCores: one task run whole.
-/
module

public import proofs.«01_k».proof.Proof.EnergyTrip

@[expose] public section

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ
local notation "xV" => (Memref.whole Cert.KernelIdeal.main_arg0_scv : Memref Cert.KernelIdeal.sig Kind.scVector Space.hbm Cert.KernelIdeal.S16x768x48x48 EltTy.f32)
local notation "eV" => (Memref.whole Cert.KernelIdeal.main_v0_scv : Memref Cert.KernelIdeal.sig Kind.scVector Space.hbm Cert.KernelIdeal.S512x16 EltTy.f32)
local notation "aV" => (Memref.whole Cert.KernelIdeal.cc0_scratch0 : Memref Cert.KernelIdeal.sig Kind.scVector Space.vmem Cert.KernelIdeal.S8x48x48 EltTy.f32)
local notation "bV" => (Memref.whole Cert.KernelIdeal.cc0_scratch1 : Memref Cert.KernelIdeal.sig Kind.scVector Space.vmem Cert.KernelIdeal.S8x48x48 EltTy.f32)
local notation "rV" => (Memref.whole Cert.KernelIdeal.cc0_scratch2 : Memref Cert.KernelIdeal.sig Kind.scVector Space.vmem Cert.KernelIdeal.S16x16 EltTy.f32)

section Tile

variable (d : Dev nD) (L : grid0.Coords) [FloatOps F]

/-- The task of number `w`, by its place. -/
def place (w : Fin 32) : grid0.Coords :=
  fun | 0 => ⟨w.val % 2, Nat.mod_lt _ (by decide)⟩ | 1 => ⟨w.val / 2, by have := w.isLt; show w.val / 2 < 16; omega⟩ | ⟨_ + 2, h⟩ => absurd h (Nat.not_lt.2 (Nat.le_add_left _ _))

theorem place_wid : place (wid L) = L := by
  have h0 : (L 0).val < 2 := (L 0).isLt
  funext a
  match a with
  | 0 => exact Fin.ext (show (2 * (L 1).val + (L 0).val) % 2 = (L 0).val by omega)
  | 1 => exact Fin.ext (show (2 * (L 1).val + (L 0).val) / 2 = (L 1).val by omega)

/-- The call's result: row `r` is row `r % 16` of what task `r / 16` adds up. -/
def lanesOf (x : Buf (Elt F) (xLoc d)) : S512x16.Idx → Elt F .f32 := fun j =>
  RR d (place ⟨(j 0).val / 16, by have h : (j 0).val < 512 := (j 0).isLt; omega⟩) x 16
    (ix2 (n0 := 16) (n1 := 16) ⟨(j 0).val % 16, Nat.mod_lt _ (by decide)⟩ (j 1))

theorem rows_value (off : Fin 2 → ℕ) (h : ∀ a, off a + S16x16.size a ≤ S512x16.size a) (e : off = eOff (wid L).val)
    (x : Buf (Elt F) (xLoc d)) (fo : Buf (Elt F) (eLoc d)) (W : S16x16.Idx → Elt F .f32) (hW : W = RR d L x 16)
    (j : S512x16.Idx) (hj : j ∈ eSet (wid L)) :
    (eK off h).view.writes (Elt F) fo [⟨Rect.whole S16x16, W⟩] j = lanesOf d x j := by
  have hjw := (mem_eSet _ _).mp hj
  rw [← set_eK L off h e] at hj
  obtain ⟨y, -, rfl⟩ := Finset.mem_map.mp hj
  have h1 := congrFun (View.read_writes_whole (eK off h).view fo W) y
  refine Eq.trans (show _ = View.read (Elt F) (eK off h).view ((eK off h).view.writes (Elt F) fo [⟨Rect.whole S16x16, W⟩]) y from rfl) (h1.trans ?_)
  subst hW e
  unfold lanesOf
  have hp : (⟨((eK _ h).view.emb y 0).val / 16, by have h : ((eK _ h).view.emb y 0).val < 512 := ((eK _ h).view.emb y 0).isLt; omega⟩ : Fin 32) = wid L := Fin.ext hjw
  rw [hp, place_wid]
  refine congrArg (RR d L x 16) (funext fun a => Fin.ext ?_)
  have hy : (y 0).val < 16 := (y 0).isLt
  match a with
  | 0 =>
    show (y 0).val = (16 * (wid L).val + 1 * (y 0).val) % 16
    omega
  | 1 =>
    show (y 1).val = 0 + 1 * (y 1).val
    omega

theorem rows_done (off : Fin 2 → ℕ) (h : ∀ a, off a + S16x16.size a ≤ S512x16.size a) (e : off = eOff (wid L).val)
    (x : Buf (Elt F) (xLoc d)) (fo : Buf (Elt F) (eLoc d)) (W : S16x16.Idx → Elt F .f32) (hW : W = RR d L x 16) :
    ((eK off h).view.loc (V d (cV L) (jV L)) ↦[(eK off h).view.set]{fullShare} (eK off h).view.writes (Elt F) fo [⟨Rect.whole S16x16, W⟩] : sProp 𝕄)
      ⊢ eLoc d ↦[eSet (wid L)]{fullShare} lanesOf d x := by
  refine Entails.of_eq ((pts_eK d L off h e _).trans ?_)
  exact pointsTo_congr fun j hj => rows_value d L off h e x fo W hW j hj

/-- The state of the two buffers before trip `k`: the batch's copies under way, or after the last trip everything back. -/
def under (qa qb : PosShare TreeShare) (x : Buf (Elt F) (xLoc d)) (k : ℕ) : sProp 𝕄 :=
  if h : k < 16 then iprop(flA d L qa x ⟨k, h⟩ ∗ flB d L qb x ⟨k, h⟩)
  else iprop((∃ g, (aV).view.loc (V d (cV L) (jV L)) ↦{fullShare} g) ∗ (∃ g, (bV).view.loc (V d (cV L) (jV L)) ↦{fullShare} g)
            ∗ semVal (cell d L cc0_scratch3) 0 ∗ semVal (cell d L cc0_scratch4) 0
            ∗ ((xV).view.loc (V d (cV L) (jV L)) ↦{qa} x) ∗ ((xV).view.loc (V d (cV L) (jV L)) ↦{qb} x))

/-- What holds before trip `k` of the batches' loop. -/
def inv2 (qa qb : PosShare TreeShare) (x : Buf (Elt F) (xLoc d)) (O : CellTallies nD τ sig (HIx 2)) (W : Waits sig (HIx 2)) (k : ℕ) (_ : PUnit) : sProp 𝕄 :=
  iprop(Transfers.MayWaits (V d (cV L) (jV L)) (default : HIx 2) O
    ∗ (∃ W', ⌜∀ p ∈ W', p ∈ W ∨ p.2 = none⌝ ∗ owes (V d (cV L) (jV L)) O W')
    ∗ ((rV).view.loc (V d (cV L) (jV L)) ↦{fullShare} RR d L x k)
    ∗ under d L qa qb x k)

/-- What holds before trip `k` of the clearing loop. -/
def inv1 (fr : S16x16.Idx → Elt F .f32) (k : ℕ) (_ : PUnit) : sProp 𝕄 :=
  iprop((rV).view.loc (V d (cV L) (jV L)) ↦{fullShare} mix fr (R0 (F := F)) k)

/-- Clearing row `k` when the rows before it are clear. -/
theorem clear_step (fr : S16x16.Idx → Elt F .f32) (k : ℕ) (off : Fin 2 → ℕ) (h : ∀ a, off a + S1x16.size a ≤ S16x16.size a) (e : off = ![k, 0]) :
    (rV).view.writes (Elt F) (mix fr (R0 (F := F)) k) [⟨Rect.unit (s := S16x16) off S1x16.size h, k0_pay222 (F := F)⟩] = mix fr (R0 (F := F)) (k + 1) := by
  refine (mix_step (mix fr R0 k) R0 [] k (funext fun j => ?_) off h e _ fun j _ => clear_val j).trans (funext fun j => ?_)
  · refine (congrFun (View.writes_nil _ _) j).trans ?_
    unfold mix; split <;> rfl
  · unfold mix; split <;> rename_i h1
    · rfl
    · rw [if_neg (by omega)]

theorem inv1_end (fr : S16x16.Idx → Elt F .f32) (x : Buf (Elt F) (xLoc d)) (n : ℕ) (h : n = 16) (a : PUnit) :
    inv1 d L fr n a = ((rV).view.loc (V d (cV L) (jV L)) ↦{fullShare} RR d L x 0 : sProp 𝕄) := by
  subst h; unfold inv1; rw [mix_last]; rfl

theorem under_zero (qa qb : PosShare TreeShare) (x : Buf (Elt F) (xLoc d)) :
    iprop(flA d L qa x ⟨0, by decide⟩ ∗ flB d L qb x ⟨0, by decide⟩) = under d L qa qb x 0 := by
  unfold under; rw [dif_pos (show 0 < 16 by decide)]

theorem inv2_end (qa qb : PosShare TreeShare) (x : Buf (Elt F) (xLoc d)) (O : CellTallies nD τ sig (HIx 2)) (W : Waits sig (HIx 2))
    (n : ℕ) (h : n = 16) (a : PUnit) :
    inv2 d L qa qb x O W n a = iprop(Transfers.MayWaits (V d (cV L) (jV L)) (default : HIx 2) O
      ∗ (∃ W', ⌜∀ p ∈ W', p ∈ W ∨ p.2 = none⌝ ∗ owes (V d (cV L) (jV L)) O W')
      ∗ ((rV).view.loc (V d (cV L) (jV L)) ↦{fullShare} RR d L x 16)
      ∗ ((∃ g, (aV).view.loc (V d (cV L) (jV L)) ↦{fullShare} g) ∗ (∃ g, (bV).view.loc (V d (cV L) (jV L)) ↦{fullShare} g)
            ∗ semVal (cell d L cc0_scratch3) 0 ∗ semVal (cell d L cc0_scratch4) 0
            ∗ ((xV).view.loc (V d (cV L) (jV L)) ↦{qa} x) ∗ ((xV).view.loc (V d (cV L) (jV L)) ↦{qb} x))) := by
  subst h; unfold inv2 under; rw [dif_neg (show ¬ 16 < 16 by decide)]

theorem step2 (qa qb : PosShare TreeShare) (x : Buf (Elt F) (xLoc d)) (v3 : BitVec 32) (O : CellTallies nD τ sig (HIx 2)) (W : Waits sig (HIx 2))
    (k : Fin k0_t2_loop.trips) (a : PUnit) :
    inv2 d L qa qb x O W k.val a
      ⊢ wp frame (wpE (defs₀ (F := F)) 𝒱₀ (V d (cV L) (jV L)) none) Set.univ
          (k0_t2_body L xV (Memref.isWhole_whole _) eV (Memref.isWhole_whole _) aV (Memref.isWhole_whole _)
            bV (Memref.isWhole_whole _) rV (Memref.isWhole_whole _) cc0_scratch3 cc0_scratch4 cc0_scoped0 v3 k a) (inv2 d L qa qb x O W (k.val + 1)) := by
  have hk : k.val < 16 := k.isLt
  have tr {W W' : Waits sig (HIx 2)} (h : ∀ p ∈ W', p ∈ W ∨ p.2 = none) {W'' : Waits sig (HIx 2)} (h' : ∀ p ∈ W'', p ∈ W' ∨ p.2 = none) :
      ∀ p ∈ W'', p ∈ W ∨ p.2 = none := fun p hp => (h' p hp).elim (h p) Or.inr
  unfold inv2
  rw [RR_succ d L x k.val hk]
  by_cases hl : k.val + 1 < 16
  · rw [show under d L qa qb x k.val = iprop(flA d L qa x ⟨k.val, hk⟩ ∗ flB d L qb x ⟨k.val, hk⟩) from dif_pos hk,
      show under d L qa qb x (k.val + 1) = iprop(flA d L qa x ⟨k.val + 1, hl⟩ ∗ flB d L qb x ⟨k.val + 1, hl⟩) from dif_pos hl]
    iintro ⟨#Hmw, ⟨%W', %hW', HO⟩, Hr, HA, HB⟩
    iapply (wp_wand_r frame _ _)
    isplitl [HO Hr HA HB]
    · iapply (trip_lt d L qa qb x k hl (RR d L x k.val) v3 O W')
      isplitr; · iexact Hmw
      isplitl [HO]; · iexact HO
      isplitl [Hr]; · iexact Hr
      isplitl [HA]; · iexact HA
      iexact HB
    · iintro %_ ⟨⟨%W'', %hW'', HO⟩, Hr, HA, HB⟩
      isplitr; · iexact Hmw
      isplitl [HO]
      · iexists W''; isplitr
        · ipureintro; exact tr hW' hW''
        · iexact HO
      isplitl [Hr]; · iexact Hr
      isplitl [HA]; · iexact HA
      iexact HB
  · rw [show under d L qa qb x k.val = iprop(flA d L qa x ⟨k.val, hk⟩ ∗ flB d L qb x ⟨k.val, hk⟩) from dif_pos hk,
      show under d L qa qb x (k.val + 1) = _ from dif_neg hl]
    iintro ⟨#Hmw, ⟨%W', %hW', HO⟩, Hr, HA, HB⟩
    iapply (wp_wand_r frame _ _)
    isplitl [HO Hr HA HB]
    · iapply (trip_last d L qa qb x k hl (RR d L x k.val) v3 O W')
      isplitr; · iexact Hmw
      isplitl [HO]; · iexact HO
      isplitl [Hr]; · iexact Hr
      isplitl [HA]; · iexact HA
      iexact HB
    · iintro %_ ⟨⟨%W'', %hW'', HO⟩, Hr, HR⟩
      isplitr; · iexact Hmw
      isplitl [HO]
      · iexists W''; isplitr
        · ipureintro; exact tr hW' hW''
        · iexact HO
      isplitl [Hr]; · iexact Hr
      iexact HR

set_option maxHeartbeats 8000000 in
theorem tile_run (hF : (K (F := F)).Facts) (q : PosShare TreeShare) (x : Buf (Elt F) (xLoc d)) (fo : Buf (Elt F) (eLoc d))
    (O : CellTallies nD τ sig (HIx 2)) (W : Waits sig (HIx 2)) (hO : ∀ g, O g none = 0) :
    (iprop(levAts (K (F := F)).L (K (F := F)).lev
        ∗ ((xLoc d ↦{q} x) ∗ eLoc d ↦[eSet (wid L)]{fullShare} fo)
        ∗ scopedBufs (V d (cV L) (jV L)) ∗ scopedSems0 (V d (cV L) (jV L)) ∗ owes (V d (cV L) (jV L)) O W) : sProp 𝕄)
      ⊢ wp frame (wpE (defs₀ (F := F)) 𝒱₀ (V d (cV L) (jV L)) none) Set.univ
          (cc0__sc_energy_body L xV (Memref.isWhole_whole _) eV (Memref.isWhole_whole _) aV (Memref.isWhole_whole _)
            bV (Memref.isWhole_whole _) rV (Memref.isWhole_whole _) cc0_scratch3 cc0_scratch4 cc0_scoped0)
          fun _ => iprop(((xLoc d ↦{q} x) ∗ eLoc d ↦[eSet (wid L)]{fullShare} lanesOf d x)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__sc_energy_body_eq_skeleton]; unfold cc0__sc_energy_body_skel
  simp only [k0_part56_eq_skeleton]; unfold k0_part56_skel
  rw [(K (F := F)).scopedBufs_V hF d (cV L) (jV L), SparseCore.Cfg.scopedSems0_V (Val := Elt F) d (cV L) (jV L), ownSems0_V, ownBufs_V]
  iintro ⟨#Hlv, ⟨Hx, He⟩, ⟨⟨%fa, Ha⟩, ⟨%fb, Hb⟩, ⟨%fr, Hr⟩, Hbufs⟩, ⟨⟨Hs0, Hs1, Hs2⟩, Hsems⟩, HO⟩
  ihave Hmw := (show levAts (K (F := F)).L (K (F := F)).lev ⊢ Transfers.MayWaits (V d (cV L) (jV L)) (default : HIx 2) O from
    (K (F := F)).mayWaits_none (thr := V d (cV L) (jV L)) hO) $$ Hlv
  ihave Hx' := (Entails.of_eq (pts_xV (F := F) d L _ _).symm) $$ Hx
  ihave Hx2 := (pointsTo_share (PosShare.mem_left_op_right q)).1 $$ Hx'
  icases Hx2 with ⟨Hxa, Hxb⟩
  ihave Ha' := (Entails.of_eq (pts_aV (F := F) d L _).symm) $$ Ha
  ihave Hb' := (Entails.of_eq (pts_bV (F := F) d L _).symm) $$ Hb
  ihave Hr' := (Entails.of_eq (pts_rV (F := F) d L _).symm) $$ Hr
  sl_exec
  ihave HA := (flA_intro d L q.left x ⟨0, by decide⟩ (k0_off1 L 0#32) (k0_off1_inb L 0) ((k0_off1_eq L 0).trans rfl) fa _ rfl _ rfl) $$ [Hs0 Hxa]
  · isplitl [Hs0]; · iexact Hs0
    iexact Hxa
  ihave HB := (flB_intro d L q.right x ⟨0, by decide⟩ (k0_off1 L 8#32) (k0_off1_inb L 1) ((k0_off1_eq L 1).trans rfl) fb _ rfl _ rfl) $$ [Hs1 Hxb]
  · isplitl [Hs1]; · iexact Hs1
    iexact Hxb
  simp only [Prog.bind_assoc, Prog.pure_eq_ret, Prog.bind_ret]
  sl_for (inv1 d L fr) $$ [Hr']
  case region =>
    intro k a; unfold inv1; iintro Hr
    sl_exec
    sl_step
    rw [← clear_step fr k.val (k0_off2 k) (k0_off2_inb k) (k0_off2_eq k)]
    iexact Hr
  · unfold inv1; rw [mix_zero]; iexact Hr'
  iintro %a1 Hr
  sl_for (inv2 d L q.left q.right x O W) $$ [Hmw Hr HA HB HO]
  case region =>
    intro k a; exact step2 d L q.left q.right x _ O W k a
  · unfold inv2
    isplitl [Hmw]; · iexact Hmw
    isplitl [HO]
    · iexists W; isplitr
      · ipureintro; exact fun p hp => .inl hp
      · iexact HO
    isplitl [Hr]
    · iapply (Entails.of_eq (inv1_end d L fr x _ (show Scf.trips k0_t1_loop.lb k0_t1_loop.ub k0_t1_loop.st = 16 by decide) a1))
      iexact Hr
    · iapply (Entails.of_eq (under_zero d L q.left q.right x))
      isplitl [HA]; · iexact HA
      iexact HB
  iintro %a2 HI
  ihave HI' := (Entails.of_eq (inv2_end d L q.left q.right x O W _ (show Scf.trips k0_t2_loop.lb k0_t2_loop.ub k0_t2_loop.st = 16 by decide) a2)) $$ HI
  icases HI' with ⟨#Hmw, ⟨%W', %hW', HO⟩, Hr, ⟨%ga, Ha⟩, ⟨%gb, Hb⟩, Hs0, Hs1, Hxa, Hxb⟩
  ihave He' := (Entails.of_eq (pts_eK (F := F) d L (k0_off54 L) (k0_off54_inb L) (eOff54 L) _).symm) $$ He
  sl_exec
  ihave Hx := (pointsTo_share (PosShare.mem_left_op_right q)).2 $$ [Hxa Hxb]
  · isplitl [Hxa]; · iexact Hxa
    iexact Hxb
  sl_step
  isplitl [Hx He']
  · isplitl [Hx]
    · iapply (Entails.of_eq (pts_xV (F := F) d L _ _)); iexact Hx
    · iapply (rows_done d L (k0_off54 L) (k0_off54_inb L) (eOff54 L) x fo _ rfl); iexact He'
  isplitl [Ha Hb Hr Hbufs]
  · isplitl [Ha]; · iexists ga; iapply (Entails.of_eq (pts_aV (F := F) d L _)); iexact Ha
    isplitl [Hb]; · iexists gb; iapply (Entails.of_eq (pts_bV (F := F) d L _)); iexact Hb
    isplitl [Hr]; · iexists _; iapply (Entails.of_eq (pts_rV (F := F) d L _)); iexact Hr
    iexact Hbufs
  isplitl [Hs0 Hs1 Hs2 Hsems]
  · isplitr [Hsems]
    · isplitl [Hs0]; · iexact Hs0
      isplitl [Hs1]; · iexact Hs1
      iexact Hs2
    · iexact Hsems
  · iexists _; isplitr
    swap; · iexact HO
    ipureintro; intro p hp
    rcases Finset.mem_insert.mp hp with hp | hp
    · exact .inr (hp ▸ rfl)
    · exact hW' p hp

end Tile

end Cert.Proof.KernelIdeal

end
-- ==== Proof.SelectRegion.lean ====
/-
  The selection call on the TensorCore: its one point run, and its region over the TensorCore's state between the two
  SparseCore calls, entered from any contents of the arrays.
-/
module

public import proofs.«01_k».proof.Proof.EnergySum
public import proofs.«01_k».proof.Proof.Gen.KernelIdeal.Launch
public import proofs.«01_k».proof.Proof.Gen.KernelIdeal.Points
public import Idealize.ShloMosaic.Lib.Pipeline.RegionsLoop
public import Idealize.ShloMosaic.Lib.Pipeline.FrameBody
public import Idealize.ShloMosaic.Lib.VecWindow
public import Idealize.ShloMosaic.Lib.Tactic

@[expose] public section

noncomputable section

namespace Cert.Proof.KernelSelect

open Cert.KernelIdeal Cert.KernelIdeal.Gen
open Cert.Proof.KernelIdeal (ΛP K D 𝒱₀ 𝒱 v₀ UH UP UU EH EP)

open Idealize.ShloMosaic
open Idealize.ShloMosaic.TcCoe Idealize.ShloMosaic.Tactic
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 2) (Elt F) ℕ UU ℕ

/-- A memref's buffer on core `c`: the type of its contents, and it held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-! ## The body -/

/-- The selected channels, from the lane sums of the SparseCores' channels and the energies of the TensorCore's. -/
def chosen (v0 : Vec F S512x16 .f32) (v14 : Vec F S1x256 .f32) : IVec S1x192 32 :=
  k2_pay6 (iota .tc S768x768 32 [0] iota_S768x768_d0_w32) (iota .tc S768x768 32 [1] iota_S768x768_d1_w32) (k2_pay1 (F := F))
    (k2_pay3 v0 v14) (k2_pay4 v0 v14) (k2_pay5 v0 v14)

theorem body_run (c : Dev nD) (f0 : Vec F S1x256 .f32) (f1 : Vec F S512x16 .f32) (f2 : Vec F S1x192 .i32) (E : Set ℕ) (Q : PUnit → sProp 𝕄) :
    iprop(pt c (stage2_0 0) f0 ∗ pt c (stage2_1 0) f1 ∗ pt c (stage2_2 0) f2
        ∗ (iprop(pt c (stage2_0 0) f0 ∗ pt c (stage2_1 0) f1 ∗ pt c (stage2_2 0) (chosen f1 f0)) -∗ Q ⟨⟩))
      ⊢ wp frame (wpE (defs₀ (F := F)) Variants.none c none) E
          (cc2__select_body (stage2_0 0) (hstage2_0 0) (stage2_1 0) (hstage2_1 0) (stage2_2 0) (hstage2_2 0)) Q := by
  iintro ⟨H0, H1, H2, Hk⟩
  sl_exec!
  sl_step
  iapply Hk
  isplitl [H0]; · iexact H0
  isplitl [H1]; · iexact H1
  have e : (stage2_2 0).view.writes (Elt F) (stage2_2 0).view.junk (body_run.sl.H2_1 f0 f1) = chosen f1 f0 := by
    unfold body_run.sl.H2_1 chosen
    have hread : ∀ g : Bf (F := F) c (stage2_2 0), View.read (Elt F) (stage2_2 0).view g = g := fun _ => rfl
    refine (hread _).symm.trans ?_
    rw [View.read_writes_full]
    have h0 : ∀ g : Bf (F := F) c (stage2_0 0), View.readAt (Elt F) (stage2_0 0).view (Rect.unit (s := S1x256) ![0, 0] S1x256.size inb_S1x256_S1x256_0_0).toLoadRect g = g :=
      fun g => by rw [View.readAt_full]; rfl
    have h1 : ∀ g : Bf (F := F) c (stage2_1 0), View.readAt (Elt F) (stage2_1 0).view (Rect.unit (s := S512x16) ![0, 0] S512x16.size inb_S512x16_S512x16_0_0).toLoadRect g = g :=
      fun g => by rw [View.readAt_full]; rfl
    unfold body_run.sl.r_3 body_run.sl.r body_run.sl.r_1 body_run.sl.r_2 body_run.sl.v4 body_run.sl.v5
    rw [h0, h1]
  rw [e]
  iexact H2

/-! ## The proof data, from any contents of the arrays -/

variable (V : (c : Dev nD) → (b : Ref sig .tc) → Buf (Elt F) ((c : Thread nD τ).loc b))

/-- The inputs' blocks as the fetches stage them. -/
abbrev stg0 (c : Dev nD) : Vec F S1x256 .f32 := ((cfg2.win 0).blk t2_0).view.read (Elt F) (V c main_v1)
abbrev stg1 (c : Dev nD) : Vec F S512x16 .f32 := ((cfg2.win 1).blk t2_0).view.read (Elt F) (V c main_v0)

abbrev Φc (c : Dev nD) : sProp 𝕄 := Pipeline.scopedRest (Ix := HIx 2) (Name := ℕ) (U := UU) (Lvl := ℕ) (Val := Elt F) spec2 c

/-- The pairs a core between the two calls may have recorded. -/
abbrev old (c : Dev nD) : Set (SemLoc sig × HIx 2) := {p | (K (F := F)).lev (T c, p.1) p.2 ≤ 8 * 1}

def dat (c : Dev nD) : Dat τ (Elt F) (HIx 2) ℕ UU ℕ cfg2 c where
  A w := V c (Pipeline.arrRef spec2 w)
  after w _ := match w with
    | ⟨0, _⟩ => stg0 V c
    | ⟨1, _⟩ => stg1 V c
    | ⟨2, _⟩ => chosen (stg1 V c) (stg0 V c)
  Φ _ := Φc c
  q _ := fullShare
  owed _ := (K (F := F)).Otc c 1
  recorded _ := old (F := F) c

/-- Proof data for the pipeline this region does not run: anything. -/
def otherDat {cfg : Cfg sig Λ₀} (c : Dev nD) : Dat τ (Elt F) (HIx 2) ℕ UU ℕ cfg c where
  A _ := fun _ => Classical.arbitrary _
  after _ _ := fun _ => Classical.arbitrary _
  Φ _ := BI.emp
  q _ := fullShare
  owed _ := 0

variable (adm : (p : Fin 2) → (pcfgs (F := F) p).Adm)

def pdats : (p : Fin 2) → (c : Dev nD) → Dat τ (Elt F) (HIx 2) ℕ UU ℕ (Pipeline.pin (pcfgs (F := F)) adm p) c
  | ⟨0, _⟩ => fun c => otherDat c
  | ⟨1, _⟩ => fun c => dat V c

theorem before_0 (c : Dev nD) (d : (cfg2.win 0).block.Idx → Elt F (cfg2.win 0).elt) : (dat V c).before 0 t2_0 d = stg0 V c := by
  unfold Dat.before; rw [if_pos (fetch2_0 _)]; rfl
theorem before_1 (c : Dev nD) (d : (cfg2.win 1).block.Idx → Elt F (cfg2.win 1).elt) : (dat V c).before 1 t2_0 d = stg1 V c := by
  unfold Dat.before; rw [if_pos (fetch2_1 _)]; rfl

theorem body_obligation (c : Dev nD) : BodyObligation (dat V c) (defs₀ (F := F)) 𝒱₀ (none : HIx 2) Set.univ := fun t => by
  obtain rfl := fin_N2 t
  rw [bigSep_W2, bigSep_W2]
  simp only [owns_whole_eq]
  rw [show (dat V c).Φ t2_0.castSucc = Φc c from rfl, show (dat V c).Φ t2_0.succ = Φc c from rfl,
    show (dat V c).owesAt none t2_0.succ = (dat V c).owesAt none t2_0.castSucc from rfl]
  iintro ⟨HΦ, Howes, ⟨%d0, %f0, %hf0, H0⟩, ⟨%d1, %f1, %hf1, H1⟩, ⟨%d2, %f2, -, H2⟩⟩
  rw [before_0] at hf0
  rw [before_1] at hf1
  subst hf0 hf1
  iapply (body_run c _ _ f2 Set.univ _)
  isplitl [H0]; · iexact H0
  isplitl [H1]; · iexact H1
  isplitl [H2]; · iexact H2
  iintro ⟨H0, H1, H2⟩
  isplitl [HΦ]; · iexact HΦ
  isplitl [Howes]; · iexact Howes
  isplitl [H0]; · iexists _; isplitr; swap; (· iexact H0); ipureintro; dsimp only [dat]
  isplitl [H1]; · iexists _; isplitr; swap; (· iexact H1); ipureintro; dsimp only [dat]
  iexists _; isplitr; swap; (· iexact H2); ipureintro; dsimp only [dat]

/-! ## The region -/

/-- The selection's array after the region. -/
def left (c : Dev nD) : Buf (Elt F) ((c : Thread nD τ).loc main_v2) := (dat V c).arrAt 2 cfg2.N

variable (Vp : (c : Dev nD) → (b : Ref sig .tc) → Buf (Elt F) ((c : Thread nD τ).loc b))

/-- What a core owes between the two SparseCore calls. -/
abbrev debt (c : Dev nD) : sProp 𝕄 :=
  iprop(∃ W, ⌜(K (F := F)).WBelow (T c) W (8 * 1)⌝ ∗ owes (T c) ((K (F := F)).Otc c 1) W)

set_option backward.isDefEq.respectTransparency.types false in
def reg (hVp_out : ∀ c, Vp c main_v2 = left V c)
    (hVp_ne : ∀ c (b : Ref sig .tc), b ≠ main_v2 → Vp c b = V c b) :
    Pipeline.RegionSeg (pcfgs (F := F)) adm (pdats V adm) (none : HIx 2) defs₀ 𝒱₀ (K (F := F)).L (K (F := F)).lev 1 where
  win := launch2.win.to₀
  block_pos := launch2.block_pos
  stage_whole := launch2.stage_whole
  K := PEmpty
  osem k := k.elim
  ho := Pipeline.OwnSemFacts.none _
  hbody c := (body_obligation V c).loose
  hwaits c := Pipeline.cellsWaits_of_cut _ _ _ 1 c 0 ((K (F := F)).Otc c 1) (fun _ => rfl) (fun _ _ => Finset.mem_univ _) (fun _ _ => le_rfl)
    (fun g i h => ⟨Finset.mem_univ _, lt_of_lt_of_le (Nat.succ_pos _) (SparseCore.Cfg.lev_of_Otc_pos h)⟩)
  pre c := iprop(unscopedBufs c (V c) ∗ debt (F := F) c)
  post c := iprop(unscopedBufs c (Vp c) ∗ debt (F := F) c)
  X _ := BI.emp
  Y _ := BI.emp
  Z c := Pipeline.unscopedRest (Ix := HIx 2) (Name := ℕ) (U := UU) (Lvl := ℕ) spec2 c (V c)
  hentry c := by
    rw [Pipeline.ownSems0_none]
    have hsplit := Pipeline.arrays_of_unscopedBufs (p := 1) (pcfgs (F := F)) adm (pdats V adm) launch2.win launch2.arr_whole c
      ((pdats V adm 1 c).share_full fun _ => rfl) (V c) fun _ => rfl
    iintro ⟨⟨Hub, ⟨%W, %hW, HO⟩⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      iexists W; isplitr; · ipureintro; exact fun p hp => Or.inl (hW p hp)
      iexact HO
    isplitr; · iempintro
    iexact Hrest
  hin c := by
    rw [show (pdats V adm 1 c).Φ 0 = Φc c from rfl]
    iintro ⟨-, -, Hr⟩; iexact Hr
  hout c := by
    rw [Pipeline.ownSems0_none, show (pdats V adm 1 c).Φ (Fin.last _) = Φc c from rfl]
    iintro Hr
    isplitr; · iempintro
    isplitr; · iempintro
    iexact Hr
  hexit c := by
    have hjoin := Pipeline.unscopedBufs_of_arrays (p := 1) (pcfgs (F := F)) adm (Ix := HIx 2) (Name := ℕ) (U := UU) (Lvl := ℕ) launch2.win launch2.arr_whole c
      (pdats V adm) ((pdats V adm 1 c).share_full fun _ => rfl) (V c) (Vp c) ((pdats V adm 1 c).arrAt · cfg2.N)
      (fun w => by
        fin_cases w
        · exact ((pdats V adm 1 c).arrAt_in 0 rfl _).trans (hVp_ne c main_v1 (by decide)).symm
        · exact ((pdats V adm 1 c).arrAt_in 1 rfl _).trans (hVp_ne c main_v0 (by decide)).symm
        · exact (hVp_out c).symm)
      (fun b hb => hVp_ne c b fun h => hb (h ▸ Finset.mem_image.mpr ⟨2, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W
    isplitr
    · ipureintro
      intro p hp
      rcases hW hp with h | ⟨w, s, h⟩
      · exact h
      · rw [h]; exact Nat.zero_le _
    iexact HO

theorem rect0 (i : S1x256.Idx) : ((cfg2.win 0).blk t2_0).view.emb i = i := by
  funext a; apply Fin.ext
  show ((win2_0.rect t2_0).emb i a : Nat) = _
  rw [Pipeline.Window.rect_emb_val_off]
  fin_cases a <;> exact Nat.zero_add _
theorem rect1 (i : S512x16.Idx) : ((cfg2.win 1).blk t2_0).view.emb i = i := by
  funext a; apply Fin.ext
  show ((win2_1.rect t2_0).emb i a : Nat) = _
  rw [Pipeline.Window.rect_emb_val_off]
  fin_cases a <;> exact Nat.zero_add _
theorem rect2 (i : S1x192.Idx) : ((cfg2.win 2).blk t2_0).view.emb i = i := by
  funext a; apply Fin.ext
  show ((win2_2.rect t2_0).emb i a : Nat) = _
  rw [Pipeline.Window.rect_emb_val_off]
  fin_cases a <;> exact Nat.zero_add _

/-- The selection's array holds the chosen channels. -/
theorem left_eq (c : Dev nD) : left V c = chosen (V c main_v0) (V c main_v1) := by
  have h0 : stg0 V c = V c main_v1 := by
    funext i; unfold stg0; rw [View.read_apply, rect0]; rfl
  have h1 : stg1 V c = V c main_v0 := by
    funext i; unfold stg1; rw [View.read_apply, rect1]; rfl
  rw [← h0, ← h1]
  unfold left; funext i
  have h := Dat.arrAt_emb_eq_flushed (dat V c) 2 (fun t t' _ _ h => absurd ((fin_N2 t).trans (fin_N2 t').symm) h) t2_0 (flush2_2 _) i
  rw [rect2] at h
  exact h

end Cert.Proof.KernelSelect

end
-- ==== Proof.TensorEnergy.lean ====
/-
  The TensorCore's energy call: one point of its grid run, the scratch carrying the sums over the batches seen so far, and
  the call's region over the TensorCore's state between the two SparseCore calls, entered from any contents of the arrays.
-/
module

public import proofs.«01_k».proof.Proof.SelectRegion
public import proofs.«01_k».proof.Proof.Gen.KernelIdeal.Launch
public import proofs.«01_k».proof.Proof.Gen.KernelIdeal.Points
public import Idealize.ShloMosaic.Lib.Pipeline.RegionsLoop
public import Idealize.ShloMosaic.Lib.Pipeline.FrameBody
public import Idealize.ShloMosaic.Lib.VecWindow
public import Idealize.ShloMosaic.Lib.Tactic

@[expose] public section

noncomputable section

namespace Cert.Proof.KernelEnergy

open Cert.KernelIdeal Cert.KernelIdeal.Gen
open Cert.Proof.KernelSelect (Bf pt old otherDat debt)
open Cert.Proof.KernelIdeal (ΛP K D 𝒱₀ 𝒱 v₀ UH UP UU EH EP)

open Idealize.ShloMosaic
open Idealize.ShloMosaic.TcCoe Idealize.ShloMosaic.Tactic
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 2) (Elt F) ℕ UU ℕ

/-! ## The body -/

abbrev atFirst (i : grid1.Coords) : BitVec 1 := Scalar.cmpi .ne (Scalar.extui (Scalar.cmpi .eq (BitVec.ofNat 32 (i 0).val) 0#32) : BitVec 32) 0#32
abbrev pastFirst (i : grid1.Coords) : BitVec 1 := Scalar.cmpi .ne (Scalar.extui (Scalar.cmpi .sgt (BitVec.ofNat 32 (i 0).val) 0#32) : BitVec 32) 0#32

/-- A batch's energies; the sums with a further batch's energies added. -/
def start (X : Vec F S1x256x48x48 .f32) : Vec F S1x256 .f32 := k1_pay2 (F := F) X
def more (X : Vec F S1x256x48x48 .f32) (s : Vec F S1x256 .f32) : Vec F S1x256 .f32 := k1_pay3 (F := F) X s

abbrev sV : Memref sig .tc .vmem S1x256 .f32 := Memref.whole cc1_scratch0

abbrev blockIn (c : Dev nD) (M0 : Memref sig .tc .vmem S1x256x48x48 .f32) (f0 : Bf (F := F) c M0) : Vec F S1x256x48x48 .f32 := View.read (Elt F) M0.view f0

theorem readAt_0 (c : Dev nD) (M0 : Memref sig .tc .vmem S1x256x48x48 .f32) (f0 : Bf (F := F) c M0) : View.readAt (Elt F) M0.view (Rect.unit (s := S1x256x48x48) ![0, 0, 0, 0] S1x256x48x48.size inb_S1x256x48x48_S1x256x48x48_0_0_0_0).toLoadRect f0 = View.read (Elt F) M0.view f0 :=
  View.readAt_full _ _ _
theorem readAt_s (c : Dev nD) (f2 : Bf (F := F) c sV) : View.readAt (Elt F) sV.view (Rect.unit (s := S1x256) ![0, 0] S1x256.size inb_S1x256_S1x256_0_0).toLoadRect f2 = f2 := by
  rw [View.readAt_full]; rfl
theorem stored (c : Dev nD) (f : Bf (F := F) c sV) (w : FVec F S1x256 .f32) :
    sV.view.writes (Elt F) f [⟨Rect.unit (s := S1x256) ![0, 0] S1x256.size inb_S1x256_S1x256_0_0, w⟩] = w := by
  have hread : ∀ g : Bf (F := F) c sV, View.read (Elt F) sV.view g = g := fun _ => rfl
  refine (hread _).symm.trans ?_
  rw [View.read_writes_full]

theorem body_first (c : Dev nD) (i : grid1.Coords) (M0 : Memref sig .tc .vmem S1x256x48x48 .f32) (h0 : M0.IsWhole) (M1 : Memref sig .tc .vmem S1x256 .f32) (h1 : M1.IsWhole)
    (f0 : Bf (F := F) c M0) (f1 : Bf (F := F) c M1) (f2 : Vec F S1x256 .f32) (E : Set ℕ) (Q : PUnit → sProp 𝕄)
    (e1 : atFirst i = 1#1) (e2 : pastFirst i ≠ 1#1) (e3 : k1_cond3 i ≠ 1#1) :
    iprop(pt c M0 f0 ∗ pt c M1 f1 ∗ pt c sV f2
        ∗ (iprop(pt c M0 f0 ∗ pt c M1 f1 ∗ pt c sV (start (blockIn c M0 f0))) -∗ Q ⟨⟩))
      ⊢ wp frame (wpE (defs₀ (F := F)) Variants.none c none) E
          (cc1__tc_energy_body i M0 h0 M1 h1 sV (Memref.isWhole_whole _)) Q := by
  iintro ⟨H0, H1, H2, Hk⟩
  unfold cc1__tc_energy_body
  sl_exec
  sl_step
  iapply Hk
  isplitl [H0]; · iexact H0
  isplitl [H1]; · iexact H1
  have e : sV.view.writes (Elt F) f2 [⟨(Rect.unit (s := S1x256) ![0, 0] S1x256.size inb_S1x256_S1x256_0_0), body_first.sl.v15 c M0 f0⟩] = start (blockIn c M0 f0) := by
    rw [stored c]
    show k1_pay2 (View.readAt (Elt F) M0.view (Rect.unit (s := S1x256x48x48) ![0, 0, 0, 0] S1x256x48x48.size inb_S1x256x48x48_S1x256x48x48_0_0_0_0).toLoadRect f0) = _
    rw [readAt_0 c]; rfl
  rw [← e]
  iexact H2

theorem body_mid (c : Dev nD) (i : grid1.Coords) (M0 : Memref sig .tc .vmem S1x256x48x48 .f32) (h0 : M0.IsWhole) (M1 : Memref sig .tc .vmem S1x256 .f32) (h1 : M1.IsWhole)
    (f0 : Bf (F := F) c M0) (f1 : Bf (F := F) c M1) (f2 : Vec F S1x256 .f32) (E : Set ℕ) (Q : PUnit → sProp 𝕄)
    (e1 : atFirst i ≠ 1#1) (e2 : pastFirst i = 1#1) (e3 : k1_cond3 i ≠ 1#1) :
    iprop(pt c M0 f0 ∗ pt c M1 f1 ∗ pt c sV f2
        ∗ (iprop(pt c M0 f0 ∗ pt c M1 f1 ∗ pt c sV (more (blockIn c M0 f0) f2)) -∗ Q ⟨⟩))
      ⊢ wp frame (wpE (defs₀ (F := F)) Variants.none c none) E
          (cc1__tc_energy_body i M0 h0 M1 h1 sV (Memref.isWhole_whole _)) Q := by
  iintro ⟨H0, H1, H2, Hk⟩
  unfold cc1__tc_energy_body
  sl_exec
  sl_step
  iapply Hk
  isplitl [H0]; · iexact H0
  isplitl [H1]; · iexact H1
  have e : sV.view.writes (Elt F) f2 [⟨(Rect.unit (s := S1x256) ![0, 0] S1x256.size inb_S1x256_S1x256_0_0), body_mid.sl.v17 c M0 f0 f2⟩] = more (blockIn c M0 f0) f2 := by
    rw [stored c]
    show k1_pay3 (View.readAt (Elt F) M0.view (Rect.unit (s := S1x256x48x48) ![0, 0, 0, 0] S1x256x48x48.size inb_S1x256x48x48_S1x256x48x48_0_0_0_0).toLoadRect f0) (View.readAt (Elt F) sV.view (Rect.unit (s := S1x256) ![0, 0] S1x256.size inb_S1x256_S1x256_0_0).toLoadRect f2) = _
    rw [readAt_0 c, readAt_s c]; rfl
  rw [← e]
  iexact H2

theorem body_last (c : Dev nD) (i : grid1.Coords) (M0 : Memref sig .tc .vmem S1x256x48x48 .f32) (h0 : M0.IsWhole) (M1 : Memref sig .tc .vmem S1x256 .f32) (h1 : M1.IsWhole)
    (f0 : Bf (F := F) c M0) (f1 : Bf (F := F) c M1) (f2 : Vec F S1x256 .f32) (E : Set ℕ) (Q : PUnit → sProp 𝕄)
    (e1 : atFirst i ≠ 1#1) (e2 : pastFirst i = 1#1) (e3 : k1_cond3 i = 1#1) :
    iprop(pt c M0 f0 ∗ pt c M1 f1 ∗ pt c sV f2
        ∗ (iprop(pt c M0 f0 ∗ (∃ f : Bf (F := F) c M1, ⌜View.read (Elt F) M1.view f = more (blockIn c M0 f0) f2⌝ ∗ pt c M1 f) ∗ pt c sV (more (blockIn c M0 f0) f2)) -∗ Q ⟨⟩))
      ⊢ wp frame (wpE (defs₀ (F := F)) Variants.none c none) E
          (cc1__tc_energy_body i M0 h0 M1 h1 sV (Memref.isWhole_whole _)) Q := by
  iintro ⟨H0, H1, H2, Hk⟩
  unfold cc1__tc_energy_body
  sl_exec
  sl_step
  iapply Hk
  isplitl [H0]; · iexact H0
  have e : ∀ g : Bf (F := F) c sV, sV.view.writes (Elt F) g (body_last.sl.H2_1 c M0 f0 f2) = more (blockIn c M0 f0) f2 := by
    intro g; unfold body_last.sl.H2_1
    rw [stored c]
    show k1_pay3 (View.readAt (Elt F) M0.view (Rect.unit (s := S1x256x48x48) ![0, 0, 0, 0] S1x256x48x48.size inb_S1x256x48x48_S1x256x48x48_0_0_0_0).toLoadRect f0) (View.readAt (Elt F) sV.view (Rect.unit (s := S1x256) ![0, 0] S1x256.size inb_S1x256_S1x256_0_0).toLoadRect f2) = _
    rw [readAt_0 c, readAt_s c]; rfl
  isplitl [H1]
  · iexists _; isplitr; swap; (· iexact H1); ipureintro
    rw [View.read_writes_full]
    unfold body_last.sl.v13
    unfold View.readCov
    rw [readAt_s c]
    exact e _
  rw [← e f2]
  iexact H2

/-! ## The proof data, from any contents of the arrays -/

variable (V : (c : Dev nD) → (b : Ref sig .tc) → Buf (Elt F) ((c : Thread nD τ).loc b))

/-- The input's block at a point, as its fetch stages it. -/
abbrev blkAt (c : Dev nD) (t : Fin cfg1.N) : Vec F S1x256x48x48 .f32 := ((cfg1.win 0).blk t).view.read (Elt F) (V c main_arg0)

theorem N_eq : cfg1.N = 16 := N_1

/-- The energies over the first `n + 1` batches. -/
def sums (c : Dev nD) : (n : ℕ) → n < cfg1.N → Vec F S1x256 .f32
  | 0, h => start (blkAt V c ⟨0, h⟩)
  | n + 1, h => more (blkAt V c ⟨n + 1, h⟩) (sums c n (Nat.lt_of_succ_lt h))

abbrev Rest (c : Dev nD) : sProp 𝕄 :=
  iprop((∃ f, pt (F := F) c (Memref.whole cc2_stg0_0) f) ∗ (∃ f, pt (F := F) c (Memref.whole cc2_stg1_0) f) ∗ (∃ f, pt (F := F) c (Memref.whole cc2_stg2_0) f))

theorem sums_zero (c : Dev nD) (t : Fin cfg1.N) (h : t.val = 0) : sums V c t.val t.isLt = start (blkAt V c t) := by
  obtain ⟨t, ht⟩ := t
  cases t with
  | zero => rfl
  | succ n => exact absurd h (Nat.succ_ne_zero n)
theorem sums_succ (c : Dev nD) (t : Fin cfg1.N) (h : 0 < t.val) :
    sums V c t.val t.isLt = more (blkAt V c t) (sums V c (t.val - 1) (lt_of_le_of_lt (Nat.sub_le _ _) t.isLt)) := by
  obtain ⟨t, ht⟩ := t
  cases t with
  | zero => exact absurd h (Nat.lt_irrefl 0)
  | succ n => rfl

/-- Before point `n`, the scratch holds the energies over the batches before it. -/
abbrev Φc (c : Dev nD) (n : ℕ) : sProp 𝕄 :=
  iprop((∃ f : Bf (F := F) c sV, ⌜∀ m (h : m < cfg1.N), n = m + 1 → f = sums V c m h⌝ ∗ pt c sV f) ∗ Rest (F := F) c)

def dat (c : Dev nD) : Dat τ (Elt F) (HIx 2) ℕ UU ℕ cfg1 c where
  A w := V c (Pipeline.arrRef spec1 w)
  after w t := match w with
    | ⟨0, _⟩ => blkAt V c t
    | ⟨1, _⟩ => sums V c t.val t.isLt
  Φ n := Φc V c n.val
  q _ := fullShare
  owed _ := (K (F := F)).Otc c 1
  recorded _ := old (F := F) c

theorem before_0 (c : Dev nD) (t : Fin cfg1.N) (d : (cfg1.win 0).block.Idx → Elt F (cfg1.win 0).elt) : (dat V c).before 0 t d = blkAt V c t := by
  unfold Dat.before; rw [if_pos (fetch1_0 _)]; rfl

theorem conds : ∀ t : Fin grid1.N, (t.val = 0 → atFirst (grid1.coords t) = 1#1 ∧ pastFirst (grid1.coords t) ≠ 1#1 ∧ k1_cond3 (grid1.coords t) ≠ 1#1)
    ∧ (t.val ≠ 0 → t.val ≠ 15 → atFirst (grid1.coords t) ≠ 1#1 ∧ pastFirst (grid1.coords t) = 1#1 ∧ k1_cond3 (grid1.coords t) ≠ 1#1)
    ∧ (t.val = 15 → atFirst (grid1.coords t) ≠ 1#1 ∧ pastFirst (grid1.coords t) = 1#1 ∧ k1_cond3 (grid1.coords t) = 1#1) := by decide +kernel

theorem own_0 (c : Dev nD) (s : Fin 2) (X : Vec F S1x256x48x48 .f32) :
    (owns (c : Thread nD τ) (stage1_0 s) fullShare X : sProp 𝕄)
      = iprop(∃ f : Bf (F := F) c (stage1_0 s), ⌜View.read (Elt F) (stage1_0 s).view f = X⌝ ∗ pt c (stage1_0 s) f) := by
  match s with
  | 0 => exact owns_whole_eq _ _ _ _
  | 1 => exact owns_whole_eq _ _ _ _
theorem own_1 (c : Dev nD) (s : Fin 1) (X : Vec F S1x256 .f32) :
    (owns (c : Thread nD τ) (stage1_1 s) fullShare X : sProp 𝕄)
      = iprop(∃ f : Bf (F := F) c (stage1_1 s), ⌜View.read (Elt F) (stage1_1 s).view f = X⌝ ∗ pt c (stage1_1 s) f) := by
  match s with
  | 0 => exact owns_whole_eq _ _ _ _

theorem body_obligation (c : Dev nD) : BodyObligation (dat V c) (defs₀ (F := F)) 𝒱₀ (none : HIx 2) Set.univ := fun t => by
  rw [bigSep_W1, bigSep_W1]
  simp only [own_0, own_1]
  rw [show (dat V c).owesAt none t.succ = (dat V c).owesAt none t.castSucc from rfl,
    show (dat V c).Φ t.castSucc = Φc V c t.val from rfl, show (dat V c).Φ t.succ = Φc V c (t.val + 1) from rfl]
  iintro ⟨⟨⟨%s, %hs, H2⟩, Hr⟩, Howes, ⟨%d0, %f0, %hf0, H0⟩, ⟨%d1, %f1, %hf1, H1⟩⟩
  rw [before_0] at hf0
  obtain ⟨c0, cm, cl⟩ := conds t
  have hfl := flush1_1 t
  have hN : t.val < 16 := N_1 ▸ t.isLt
  have hflf : t.val ≠ 15 → (win1 1).flush t = false := fun h => by
    rw [← Bool.not_eq_true]; exact fun h' => by have := hfl.mp h'; omega
  rcases Nat.eq_zero_or_pos t.val with h | h
  · obtain ⟨e1, e2, e3⟩ := c0 h
    rw [show idle1 1 (grid1.coords t) = true by simpa [idle1] using e3, hflf (by omega)]
    iapply (body_first c (grid1.coords t) (stage1_0 (cfg1.slots t 0)) (hstage1_0 ((cfg1.slots t 0).cast nbuf1_0))
      (stage1_1 (cfg1.slots t 1)) (hstage1_1 ((cfg1.slots t 1).cast nbuf1_1)) f0 f1 s Set.univ _ e1 e2 e3)
    isplitl [H0]; · iexact H0
    isplitl [H1]; · iexact H1
    isplitl [H2]; · iexact H2
    iintro ⟨H0, H1, H2⟩
    isplitl [H2 Hr]
    · isplitl [H2]
      · iexists _; isplitr; swap; (· iexact H2); ipureintro
        intro m hm hmt
        obtain rfl : m = t.val := by omega
        rw [sums_zero V c t h]; exact congrArg start hf0
      · iexact Hr
    isplitl [Howes]; · iexact Howes
    isplitl [H0]; · iexists _; isplitr; swap; (· iexact H0); ipureintro; exact hf0
    iexists d1; iexists _; isplitr; swap; (· iexact H1); ipureintro; exact hf1
  by_cases h' : t.val = 15
  · obtain ⟨e1, e2, e3⟩ := cl h'
    rw [show idle1 1 (grid1.coords t) = false by simpa [idle1] using e3]
    iapply (body_last c (grid1.coords t) (stage1_0 (cfg1.slots t 0)) (hstage1_0 ((cfg1.slots t 0).cast nbuf1_0))
      (stage1_1 (cfg1.slots t 1)) (hstage1_1 ((cfg1.slots t 1).cast nbuf1_1)) f0 f1 s Set.univ _ e1 e2 e3)
    isplitl [H0]; · iexact H0
    isplitl [H1]; · iexact H1
    isplitl [H2]; · iexact H2
    iintro ⟨H0, ⟨%g, %hg, H1⟩, H2⟩
    have hsum : more (blockIn c (stage1_0 (cfg1.slots t 0)) f0) s = sums V c t.val t.isLt := by
      rw [sums_succ V c t h, hs (t.val - 1) (lt_of_le_of_lt (Nat.sub_le _ _) t.isLt) (by omega)]
      exact congrArg (more · _) hf0
    isplitl [H2 Hr]
    · isplitl [H2]
      · iexists _; isplitr; swap; (· iexact H2); ipureintro
        intro m hm hmt
        obtain rfl : m = t.val := by omega
        exact hsum
      · iexact Hr
    isplitl [Howes]; · iexact Howes
    isplitl [H0]; · iexists _; isplitr; swap; (· iexact H0); ipureintro; exact hf0
    iexists _; isplitr; swap; (· iexact H1); ipureintro; exact hg.trans hsum
  · obtain ⟨e1, e2, e3⟩ := cm (by omega) h'
    rw [show idle1 1 (grid1.coords t) = true by simpa [idle1] using e3, hflf (by omega)]
    iapply (body_mid c (grid1.coords t) (stage1_0 (cfg1.slots t 0)) (hstage1_0 ((cfg1.slots t 0).cast nbuf1_0))
      (stage1_1 (cfg1.slots t 1)) (hstage1_1 ((cfg1.slots t 1).cast nbuf1_1)) f0 f1 s Set.univ _ e1 e2 e3)
    isplitl [H0]; · iexact H0
    isplitl [H1]; · iexact H1
    isplitl [H2]; · iexact H2
    iintro ⟨H0, H1, H2⟩
    have hsum : more (blockIn c (stage1_0 (cfg1.slots t 0)) f0) s = sums V c t.val t.isLt := by
      rw [sums_succ V c t h, hs (t.val - 1) (lt_of_le_of_lt (Nat.sub_le _ _) t.isLt) (by omega)]
      exact congrArg (more · _) hf0
    isplitl [H2 Hr]
    · isplitl [H2]
      · iexists _; isplitr; swap; (· iexact H2); ipureintro
        intro m hm hmt
        obtain rfl : m = t.val := by omega
        exact hsum
      · iexact Hr
    isplitl [Howes]; · iexact Howes
    isplitl [H0]; · iexists _; isplitr; swap; (· iexact H0); ipureintro; exact hf0
    iexists d1; iexists _; isplitr; swap; (· iexact H1); ipureintro; exact hf1

/-! ## The region -/

variable (adm : (p : Fin 2) → (pcfgs (F := F) p).Adm)

def pdats : (p : Fin 2) → (c : Dev nD) → Dat τ (Elt F) (HIx 2) ℕ UU ℕ (Pipeline.pin (pcfgs (F := F)) adm p) c
  | ⟨0, _⟩ => fun c => dat V c
  | ⟨1, _⟩ => fun c => otherDat c

/-- The energies' array after the region. -/
def left (c : Dev nD) : Buf (Elt F) ((c : Thread nD τ).loc main_v1) := (dat V c).arrAt 1 cfg1.N

variable (Vp : (c : Dev nD) → (b : Ref sig .tc) → Buf (Elt F) ((c : Thread nD τ).loc b))

set_option backward.isDefEq.respectTransparency.types false in
def reg (hVp_out : ∀ c, Vp c main_v1 = left V c)
    (hVp_ne : ∀ c (b : Ref sig .tc), b ≠ main_v1 → Vp c b = V c b) :
    Pipeline.RegionSeg (pcfgs (F := F)) adm (pdats V adm) (none : HIx 2) defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (body_obligation V c).loose
  hwaits c := Pipeline.cellsWaits_of_cut _ _ _ 0 c 0 ((K (F := F)).Otc c 1) (fun _ => rfl) (fun _ _ => Finset.mem_univ _) (fun _ _ => le_rfl)
    (fun g i h => ⟨Finset.mem_univ _, lt_of_lt_of_le (Nat.succ_pos _) (SparseCore.Cfg.lev_of_Otc_pos h)⟩)
  pre c := iprop(unscopedBufs c (V c) ∗ debt (F := F) c)
  post c := iprop(unscopedBufs c (Vp c) ∗ debt (F := F) c)
  X _ := BI.emp
  Y _ := BI.emp
  Z c := Pipeline.unscopedRest (Ix := HIx 2) (Name := ℕ) (U := UU) (Lvl := ℕ) spec1 c (V c)
  hentry c := by
    rw [Pipeline.ownSems0_none]
    have hsplit := Pipeline.arrays_of_unscopedBufs (p := 0) (pcfgs (F := F)) adm (pdats V adm) launch1.win launch1.arr_whole c
      ((pdats V adm 0 c).share_full fun _ => rfl) (V c) fun _ => rfl
    iintro ⟨⟨Hub, ⟨%W, %hW, HO⟩⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      iexists W; isplitr; · ipureintro; exact fun p hp => Or.inl (hW p hp)
      iexact HO
    isplitr; · iempintro
    iexact Hrest
  hin c := by
    rw [show (pdats V adm 0 c).Φ 0 = Φc V c 0 from rfl,
      show Pipeline.scopedRest (Pipeline.pin (pcfgs (F := F)) adm 0).spec c = Pipeline.scopedRest (Ix := HIx 2) (Name := ℕ) (U := UU) (Lvl := ℕ) (Val := Elt F) spec1 c from rfl,
      scopedRest1_eq]
    iintro ⟨-, -, ⟨%f, H2⟩, Hr⟩
    isplitl [H2]
    · iexists f; isplitr; swap; (· iexact H2); ipureintro
      exact fun m _ h => absurd h (Nat.succ_ne_zero m).symm
    iexact Hr
  hout c := by
    rw [Pipeline.ownSems0_none, show (pdats V adm 0 c).Φ (Fin.last _) = Φc V c cfg1.N from rfl,
      show Pipeline.scopedRest (Pipeline.pin (pcfgs (F := F)) adm 0).spec c = Pipeline.scopedRest (Ix := HIx 2) (Name := ℕ) (U := UU) (Lvl := ℕ) (Val := Elt F) spec1 c from rfl,
      scopedRest1_eq]
    iintro ⟨⟨%f, -, H2⟩, Hr⟩
    isplitr; · iempintro
    isplitr; · iempintro
    isplitl [H2]
    · iexists f; iexact H2
    iexact Hr
  hexit c := by
    have hjoin := Pipeline.unscopedBufs_of_arrays (p := 0) (pcfgs (F := F)) adm (Ix := HIx 2) (Name := ℕ) (U := UU) (Lvl := ℕ) launch1.win launch1.arr_whole c
      (pdats V adm) ((pdats V adm 0 c).share_full fun _ => rfl) (V c) (Vp c) ((pdats V adm 0 c).arrAt · cfg1.N)
      (fun w => by
        fin_cases w
        · exact ((pdats V adm 0 c).arrAt_in 0 rfl _).trans (hVp_ne c main_arg0 (by decide)).symm
        · exact (hVp_out c).symm)
      (fun b hb => hVp_ne c b fun h => hb (h ▸ Finset.mem_image.mpr ⟨1, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W
    isplitr
    · ipureintro
      intro p hp
      rcases hW hp with h | ⟨w, s, h⟩
      · exact h
      · rw [h]; exact Nat.zero_le _
    iexact HO

theorem rect1 (i : S1x256.Idx) : ((cfg1.win 1).blk t1_15).view.emb i = i := by
  funext a; apply Fin.ext
  show ((win1_1.rect t1_15).emb i a : Nat) = _
  rw [Pipeline.Window.rect_emb_val_off]
  fin_cases a <;> exact Nat.zero_add _

/-- The energies' array holds the sums over all sixteen batches. -/
theorem left_eq (c : Dev nD) : left V c = sums V c 15 t1_15.isLt := by
  unfold left; funext i
  have h := Dat.arrAt_emb_eq_flushed (dat V c) 1 (fun t t' ht ht' hne => absurd (Fin.ext (by
    have h1 := (flush1_1 t).mp ht; have h2 := (flush1_1 t').mp ht'
    have a : t.val < 16 := lt_of_lt_of_eq t.isLt N_1
    have b : t'.val < 16 := lt_of_lt_of_eq t'.isLt N_1
    omega)) hne) t1_15 ((flush1_1 _).mpr rfl) i
  rw [rect1] at h
  exact h

theorem trans0 : ∀ t : Fin grid1.N, cc1_transform_0 (grid1.coords t) 0 = t.val := by decide +kernel

/-- A point's block is a batch's first 256 channels. -/
theorem blk_apply (c : Dev nD) (t : Fin cfg1.N) (i : S1x256x48x48.Idx) (j : S16x768x48x48.Idx)
    (h0 : (j 0).val = t.val) (h1 : (j 1).val = (i 1).val) (h2 : (j 2).val = (i 2).val) (h3 : (j 3).val = (i 3).val) :
    blkAt V c t i = V c main_arg0 j := by
  unfold blkAt; rw [View.read_apply]
  refine congrArg (V c main_arg0) (funext fun a => Fin.ext ?_)
  show ((win1_0.rect t).emb i a : Nat) = _
  rw [Pipeline.Window.rect_emb_val_off]
  fin_cases a
  · show cc1_transform_0 (grid1.coords t) 0 * 1 + (i 0).val = (j 0).val
    have : (i 0).val = 0 := Nat.lt_one_iff.mp (i 0).isLt
    rw [this, h0, ← trans0 t]; omega
  · exact (Nat.zero_add _).trans h1.symm
  · exact (Nat.zero_add _).trans h2.symm
  · exact (Nat.zero_add _).trans h3.symm

end Cert.Proof.KernelEnergy

end
-- ==== Proof.EnergyValue.lean ====
/-
  What the two energy calls compute over the extended reals: a channel's energy is the sum of the squares of its numbers,
  whichever order they are added in.
-/
module

public import proofs.«01_k».proof.Proof.EnergyRun
public import proofs.«01_k».proof.Proof.TensorEnergy
public import Idealize.ShloMosaic.Lib.ValueIdx
public import Idealize.ShloMosaic.Lib.Pointwise.Index
public import Idealize.ShloMosaic.PureOps.Ideal.Laws

@[expose] public section

noncomputable section

namespace Cert.Proof.EnergyValue

open Cert.KernelIdeal Cert.KernelIdeal.Gen
open Cert.Proof.KernelIdeal (acc row tot stepR R0 RR RR_succ chunk lanesOf place)
open Idealize.ShloMosaic Idealize.ShloMosaic.TcCoe
open scoped BigOperators

/-- The square of a number of `x`. -/
def sq (x : S16x768x48x48.Idx → EReal) (b : Fin 16) (c : Fin 768) (h w : Fin 48) : EReal :=
  x (ix4 (n0 := 16) (n1 := 768) (n2 := 48) (n3 := 48) b c h w) * x (ix4 (n0 := 16) (n1 := 768) (n2 := 48) (n3 := 48) b c h w)

/-- The energy of channel `c`. -/
def en (x : S16x768x48x48.Idx → EReal) (c : Fin 768) : EReal := ∑ b : Fin 16, ∑ h : Fin 48, ∑ w : Fin 48, sq x b c h w

/-- A sum over the indices that have a given second coordinate. -/
theorem sum_second {n0 n1 n2 n3 : ℕ} (f : (⟨4, ![n0, n1, n2, n3]⟩ : Shape).Idx → EReal) (c : Fin n1)
    (P : (⟨4, ![n0, n1, n2, n3]⟩ : Shape).Idx → Prop) [DecidablePred P] (hP : ∀ i, P i ↔ i 1 = c) :
    (∑ i ∈ Finset.univ.filter P, f i) = ∑ a : Fin n0, ∑ h : Fin n2, ∑ w : Fin n3, f (ix4 a c h w) := by
  rw [Finset.sum_filter, sum_idx4]
  refine Finset.sum_congr rfl fun a _ => ?_
  rw [Finset.sum_eq_single c]
  · refine Finset.sum_congr rfl fun h _ => Finset.sum_congr rfl fun w _ => ?_
    rw [if_pos ((hP _).mpr rfl)]
  · intro b _ hb
    refine Finset.sum_eq_zero fun h _ => Finset.sum_eq_zero fun w _ => ?_
    rw [if_neg (fun e => hb ((hP _).mp e))]
  · intro h; exact absurd (Finset.mem_univ _) h

/-! ## The TensorCore's channels -/

/-- A batch's part of the energies of the first 256 channels. -/
theorem batch_apply (X : FVec Ideal S1x256x48x48 .f32) (c : Fin 256) :
    k1_pay1 X (ix2 (n0 := 1) (n1 := 256) 0 c)
      = ∑ h : Fin 48, ∑ w : Fin 48, X (ix4 (n0 := 1) (n1 := 256) (n2 := 48) (n3 := 48) 0 c h w) * X (ix4 (n0 := 1) (n1 := 256) (n2 := 48) (n3 := 48) 0 c h w) := by
  unfold k1_pay1
  refine (shapeCast_apply _ _ _ (ix1 (n0 := 256) c) ?_).trans ?_
  · rw [Shape.rowMajor_val_one, Shape.rowMajor_val_two]
    show c.val = 0 * 256 + c.val
    omega
  · show (∑ i ∈ Finset.univ.filter (fun i => reduces_S1x256x48x48_S256.drop i = ix1 (n0 := 256) c), mulf X X i) = _
    rw [sum_second (n0 := 1) (n1 := 256) (n2 := 48) (n3 := 48) (mulf X X) c]
    · rw [Fin.sum_univ_one]
      rfl
    · intro i
      constructor
      · intro e
        exact Fin.ext (congrArg (fun j : S256.Idx => (j 0).val) e)
      · intro e
        funext a
        match a with
        | ⟨0, _⟩ => exact Fin.ext (congrArg Fin.val e)

section Tensor
variable (V : (c : Dev nD) → (b : Ref sig .tc) → Buf (Elt Ideal) ((c : Thread nD τ).loc b))

theorem sums_apply (d : Dev nD) (c : Fin 256) : ∀ (n : ℕ) (hn : n < 16) (hn' : n < cfg1.N),
    KernelEnergy.sums V d n hn' (ix2 (n0 := 1) (n1 := 256) 0 c)
      = (∑ b : Fin (n + 1), ∑ h : Fin 48, ∑ w : Fin 48, sq (V d main_arg0) ⟨b.val, by have := b.isLt; omega⟩ ⟨c.val, by have := c.isLt; omega⟩ h w : EReal) := by
  have hb : ∀ (t : Fin cfg1.N) (ht : t.val < 16), k1_pay1 (KernelEnergy.blkAt V d t) (ix2 (n0 := 1) (n1 := 256) 0 c)
      = ∑ h : Fin 48, ∑ w : Fin 48, sq (V d main_arg0) ⟨t.val, ht⟩ ⟨c.val, by have := c.isLt; omega⟩ h w := by
    intro t ht
    rw [batch_apply]
    refine Finset.sum_congr rfl fun h _ => Finset.sum_congr rfl fun w _ => ?_
    rw [KernelEnergy.blk_apply V d t _ (ix4 (n0 := 16) (n1 := 768) (n2 := 48) (n3 := 48) ⟨t.val, ht⟩ ⟨c.val, by have := c.isLt; omega⟩ h w) rfl rfl rfl rfl]
    rfl
  intro n
  induction n with
  | zero =>
    intro hn hn'
    rw [KernelEnergy.sums_zero V d ⟨0, hn'⟩ rfl, Fin.sum_univ_one]
    refine Eq.trans ?_ (hb ⟨0, hn'⟩ hn)
    exact shapeCast_apply (k1_pay1 (KernelEnergy.blkAt V d ⟨0, hn'⟩)) shapeCasts_S1x256_S1x256 _ _ rfl
  | succ n ih =>
    intro hn hn'
    rw [KernelEnergy.sums_succ V d ⟨n + 1, hn'⟩ (Nat.succ_pos n), Fin.sum_univ_castSucc]
    have e1 := ih (by omega) (Nat.lt_of_succ_lt hn')
    have e2 := hb ⟨n + 1, hn'⟩ hn
    refine Eq.trans (shapeCast_apply (addf (KernelEnergy.sums V d n (Nat.lt_of_succ_lt hn')) (k1_pay1 (KernelEnergy.blkAt V d ⟨n + 1, hn'⟩))) shapeCasts_S1x256_S1x256 _ (ix2 (n0 := 1) (n1 := 256) 0 c) rfl) ?_
    exact congrArg₂ (fun a b : EReal => a + b) e1 e2

/-- The TensorCore's energies. -/
theorem left_apply (d : Dev nD) (c : Fin 256) :
    KernelEnergy.left V d (ix2 (n0 := 1) (n1 := 256) 0 c) = (en (V d main_arg0) ⟨c.val, by have := c.isLt; omega⟩ : EReal) := by
  rw [KernelEnergy.left_eq]
  exact sums_apply V d c 15 (by decide) _

end Tensor

/-! ## The SparseCores' channels -/

section Sparse
variable (d : Dev nD)

theorem acc_apply (b : S8x48x48.Idx → EReal) (p : Fin 8) (q : Fin 3) (l : Fin 16) : ∀ n : ℕ,
    acc (F := Ideal) b p q n (ix1 (n0 := 16) l) = ∑ h : Fin n, row (F := Ideal) b p q h.val (ix1 (n0 := 16) l) * row (F := Ideal) b p q h.val (ix1 (n0 := 16) l)
  | 0 => by
    rw [Fin.sum_univ_zero]
    exact Ideal.ofBits_zero_f32
  | n + 1 => by
    rw [Fin.sum_univ_castSucc]
    exact congrArg (fun a : EReal => a + _) (acc_apply b p q l n)

theorem tot_apply (b : S8x48x48.Idx → EReal) (p : Fin 8) (l : Fin 16) :
    tot (F := Ideal) b p (ix1 (n0 := 16) l) = ∑ q : Fin 3, ∑ h : Fin 48,
      b (ix3 (n0 := 8) (n1 := 48) (n2 := 48) p h ⟨16 * q.val + l.val, by have := q.isLt; have := l.isLt; omega⟩)
        * b (ix3 (n0 := 8) (n1 := 48) (n2 := 48) p h ⟨16 * q.val + l.val, by have := q.isLt; have := l.isLt; omega⟩) := by
  have hr : ∀ (q : Fin 3) (h : Fin 48), row (F := Ideal) b p q h.val (ix1 (n0 := 16) l)
      = b (ix3 (n0 := 8) (n1 := 48) (n2 := 48) p h ⟨16 * q.val + l.val, by have := q.isLt; have := l.isLt; omega⟩) := by
    intro q h
    have e : (⟨h.val % 48, Nat.mod_lt _ (by decide)⟩ : Fin 48) = h := Fin.ext (Nat.mod_eq_of_lt h.isLt)
    exact congrArg (fun z => b (ix3 (n0 := 8) (n1 := 48) (n2 := 48) p z ⟨16 * q.val + l.val, by have := q.isLt; have := l.isLt; omega⟩)) e
  simp only [← hr]
  rw [Fin.sum_univ_three]
  simp only [← acc_apply]
  rfl

theorem chunk_apply (L : grid0.Coords) (x : S16x768x48x48.Idx → EReal) (t : Fin 16) (g : Fin 2) (p : Fin 8) (h w : Fin 48) (c : Fin 768)
    (hc : c.val = 32 * (L 1).val + 16 * (L 0).val + 8 * g.val + 256 + p.val) :
    (chunk (F := Ideal) d L x t g (ix3 (n0 := 8) (n1 := 48) (n2 := 48) p h w) : EReal) = x (ix4 (n0 := 16) (n1 := 768) (n2 := 48) (n3 := 48) t c h w) := by
  unfold chunk
  rw [View.read_apply]
  refine congrArg x (funext fun a => Fin.ext ?_)
  have e : Shape.reshapeEquiv squeezes_S1x8x48x48_S8x48x48.numel_eq (ix3 (n0 := 8) (n1 := 48) (n2 := 48) p h w)
      = ix4 (n0 := 1) (n1 := 8) (n2 := 48) (n3 := 48) 0 p h w := by
    refine Shape.reshapeEquiv_eq_of_rowMajor _ ?_
    rw [Shape.rowMajor_val_three, Shape.rowMajor_val_four]
    show ((0 * 8 + p.val) * 48 + h.val) * 48 + w.val = (p.val * 48 + h.val) * 48 + w.val
    omega
  show ((Rect.unit (s := S16x768x48x48) _ _ _).emb (Shape.reshapeEquiv squeezes_S1x8x48x48_S8x48x48.numel_eq (ix3 (n0 := 8) (n1 := 48) (n2 := 48) p h w)) a).val = _
  rw [e]
  match a with
  | ⟨0, _⟩ => show t.val + 1 * 0 = t.val; omega
  | ⟨1, _⟩ => show 32 * (L 1).val + 16 * (L 0).val + 8 * g.val + 256 + 1 * p.val = c.val; omega
  | ⟨2, _⟩ => show 0 + 1 * h.val = h.val; omega
  | ⟨3, _⟩ => show 0 + 1 * w.val = w.val; omega

theorem RR_apply (L : grid0.Coords) (x : S16x768x48x48.Idx → EReal) (r l : Fin 16) (c : Fin 768)
    (hc : c.val = 32 * (L 1).val + 16 * (L 0).val + 256 + r.val) : ∀ (n : ℕ) (hn : n ≤ 16),
    RR (F := Ideal) d L x n (ix2 (n0 := 16) (n1 := 16) r l) = ∑ t : Fin n, ∑ q : Fin 3, ∑ h : Fin 48,
      sq x ⟨t.val, by have := t.isLt; omega⟩ c h ⟨16 * q.val + l.val, by have := q.isLt; have := l.isLt; omega⟩
  | 0, _ => by
    rw [Fin.sum_univ_zero]
    exact Ideal.ofBits_zero_f32
  | n + 1, hn => by
    rw [Fin.sum_univ_castSucc, RR_succ (F := Ideal) d L x n (by omega)]
    refine congrArg₂ (fun a b : EReal => a + b) (RR_apply L x r l c hc n (by omega)) ?_
    refine (tot_apply _ _ l).trans ?_
    refine Finset.sum_congr rfl fun q _ => Finset.sum_congr rfl fun h _ => ?_
    have hr := r.isLt
    by_cases h8 : r.val < 8
    · rw [if_pos (show ((ix2 (n0 := 16) (n1 := 16) r l) 0).val < 8 from h8),
        chunk_apply d L x ⟨n, by omega⟩ 0 _ _ _ c (by show c.val = _ + 8 * 0 + 256 + r.val % 8; omega)]
      rfl
    · rw [if_neg (show ¬ ((ix2 (n0 := 16) (n1 := 16) r l) 0).val < 8 from h8),
        chunk_apply d L x ⟨n, by omega⟩ 1 _ _ _ c (by show c.val = _ + 8 * 1 + 256 + r.val % 8; omega)]
      rfl

/-- Sixteen lanes of three thirds are the row. -/
theorem sum_lanes (f : Fin 48 → EReal) :
    (∑ l : Fin 16, ∑ q : Fin 3, f ⟨16 * q.val + l.val, by have := q.isLt; have := l.isLt; omega⟩) = ∑ w : Fin 48, f w := by
  rw [Finset.sum_comm, ← Finset.sum_product', ← Equiv.sum_comp (finProdFinEquiv (m := 3) (n := 16))]
  refine Finset.sum_congr rfl fun z _ => ?_
  refine congrArg f (Fin.ext ?_)
  show 16 * z.1.val + z.2.val = z.2.val + 16 * z.1.val
  omega

/-- The sum of the lanes of a channel of the SparseCores. -/
theorem lanes_apply (x : S16x768x48x48.Idx → EReal) (r : Fin 512) (c : Fin 768) (hc : c.val = r.val + 256) :
    (∑ l : Fin 16, lanesOf (F := Ideal) d x (ix2 (n0 := 512) (n1 := 16) r l)) = en x c := by
  have hr := r.isLt
  have h1 : ∀ l : Fin 16, lanesOf (F := Ideal) d x (ix2 (n0 := 512) (n1 := 16) r l) = ∑ t : Fin 16, ∑ q : Fin 3, ∑ h : Fin 48,
      sq x t c h ⟨16 * q.val + l.val, by have := q.isLt; have := l.isLt; omega⟩ := fun l =>
    RR_apply d (place ⟨r.val / 16, by omega⟩) x ⟨r.val % 16, Nat.mod_lt _ (by decide)⟩ l c
      (by show c.val = 32 * ((r.val / 16) / 2) + 16 * ((r.val / 16) % 2) + 256 + r.val % 16; omega) 16 le_rfl
  simp only [h1]
  unfold en
  rw [Finset.sum_comm]
  refine Finset.sum_congr rfl fun t _ => ?_
  have h2 : ∀ l : Fin 16, (∑ q : Fin 3, ∑ h : Fin 48,
      sq x t c h ⟨16 * q.val + l.val, by have := q.isLt; have := l.isLt; omega⟩)
      = ∑ h : Fin 48, ∑ q : Fin 3,
      sq x t c h ⟨16 * q.val + l.val, by have := q.isLt; have := l.isLt; omega⟩ := fun l => Finset.sum_comm
  simp only [h2]
  rw [Finset.sum_comm]
  refine Finset.sum_congr rfl fun h _ => ?_
  exact sum_lanes (sq x t c h)

end Sparse

/-! ## Finite numbers have finite energies -/

theorem real_sum {ι : Type} (S : Finset ι) (f : ι → EReal) (h : ∀ i ∈ S, f i ≠ ⊤ ∧ f i ≠ ⊥) : (∑ i ∈ S, f i) ≠ ⊤ ∧ (∑ i ∈ S, f i) ≠ ⊥ := by
  classical
  induction S using Finset.induction_on with
  | empty => simp
  | insert a S ha ih =>
    rw [Finset.sum_insert ha]
    have h1 := h a (Finset.mem_insert_self a S)
    have h2 := ih fun i hi => h i (Finset.mem_insert_of_mem hi)
    lift f a to ℝ using h1 with r
    lift (∑ i ∈ S, f i) to ℝ using h2 with s
    rw [← EReal.coe_add]
    exact ⟨EReal.coe_ne_top _, EReal.coe_ne_bot _⟩

theorem en_real (x : S16x768x48x48.Idx → EReal) (hx : ∀ i, x i ≠ ⊤ ∧ x i ≠ ⊥) (c : Fin 768) : en x c ≠ ⊤ ∧ en x c ≠ ⊥ := by
  refine real_sum _ _ fun b _ => real_sum _ _ fun h _ => real_sum _ _ fun w _ => ?_
  unfold sq
  have h1 := hx (ix4 (n0 := 16) (n1 := 768) (n2 := 48) (n3 := 48) b c h w)
  lift x (ix4 (n0 := 16) (n1 := 768) (n2 := 48) (n3 := 48) b c h w) to ℝ using h1 with r
  rw [← EReal.coe_mul]
  exact ⟨EReal.coe_ne_top _, EReal.coe_ne_bot _⟩

end Cert.Proof.EnergyValue

end
-- ==== Proof.WholeReference.lean ====
/-
  The reference, `take` along the channels by `top_k` of the channels' energies: its result holds, at slot `k`, the channel
  that a stable descending sort of the energies puts at `k`.
-/
module

public import proofs.«01_k».proof.Proof.Take
public import proofs.«01_k».proof.Proof.Rank
public import proofs.«01_k».proof.Proof.EnergyValue
public import proofs.«01_k».proof.Proof.Gen.ReferenceIdeal.Run
public import Idealize.ShloMosaic.Lib.IdealHost

@[expose] public section

noncomputable section

namespace Cert.Proof.WholeReference

open Cert.ReferenceIdeal Cert.ReferenceIdeal.Gen Idealize.ShloMosaic Cert.Proof.Take Cert.Proof.Rank
open Cert.Proof.EnergyValue (en sq sum_second)
open Idealize.SL.Sem
open scoped BigOperators

/-- The list of the chosen channels: entry `k` is the channel at place `k` of the stable descending order of the energies. -/
def best (x : S16x768x48x48.Idx → EReal) : S192.Idx → BitVec 32 := fun j =>
  BitVec.ofNat 32 (sortedFrom (greater (en x)) ⟨(j 0).val, lt_trans (j 0).isLt (by decide)⟩).val

theorem best_lt (x : S16x768x48x48.Idx → EReal) (j : S192.Idx) : (best x j).toNat < 768 := by
  unfold best
  have h := (sortedFrom (greater (en x)) ⟨(j 0).val, lt_trans (j 0).isLt (by decide)⟩).isLt
  rw [BitVec.toNat_ofNat, Nat.mod_eq_of_lt (lt_trans h (by decide))]
  exact h

/-- The channels that a list names. -/
def taken (x : S16x768x48x48.Idx → EReal) (v : S192.Idx → BitVec 32) : S16x192x48x48.Idx → EReal := fun j =>
  x (ix4 (n0 := 16) (n1 := 768) (n2 := 48) (n3 := 48) (j 0) ⟨(v (ix1 (n0 := 192) (j 1))).toNat % 768, Nat.mod_lt _ (by decide)⟩ (j 2) (j 3))

/-- The indices of `top_k` are the first places of the stable descending order. -/
theorem topK_apply (e : FVec Ideal S768 .f32) (j : S192.Idx) :
    (Host.topK S192 0 (FloatOps.cmpfTotal .gt) e sliceFits_S768_S192).2 j
      = BitVec.ofNat 32 (sortedFrom (greater fun c : Fin 768 => (e (ix1 (n0 := 768) c) : EReal)) ⟨(j 0).val, lt_trans (j 0).isLt (by decide)⟩).val := by
  have hg : ∀ a b : EReal, ((FloatOps.cmpfTotal (F := Ideal) (φ := .f32) .gt a b == 1#1) : Bool) = decide (b < a) := by
    intro a b
    show (BitVec.ofBool (decide (b < a)) == 1#1) = _
    cases decide (b < a) <;> rfl
  have ha : ∀ (i : S768.Idx) (k : Fin 768), i.along (0 : Fin 1) k = ix1 (n0 := 768) k := fun i k => by
    funext a; match a with | ⟨0, _⟩ => rfl
  unfold Host.topK Host.sort2 extractStridedSlice
  simp only [dif_pos (show 0 < S768.rank from Nat.one_pos)]
  have key : ∀ i : S768.Idx, iotaInDim S768 32 (0 : Fin 1) (i.along (0 : Fin 1)
      (sortedFrom (fun k k' => FloatOps.cmpfTotal (F := Ideal) (φ := .f32) .gt (e (i.along (0 : Fin 1) k)) (e (i.along (0 : Fin 1) k')) == 1#1) (i 0)))
      = BitVec.ofNat 32 (sortedFrom (greater fun c : Fin 768 => (e (ix1 (n0 := 768) c) : EReal)) (i 0)).val := by
    intro i
    have hf : (fun k k' : Fin 768 => FloatOps.cmpfTotal (F := Ideal) (φ := .f32) .gt (e (i.along (0 : Fin 1) k)) (e (i.along (0 : Fin 1) k')) == 1#1)
        = greater fun c : Fin 768 => (e (ix1 (n0 := 768) c) : EReal) := by
      funext k k'
      rw [ha, ha]
      exact hg _ _
    refine (congrArg (fun f : Fin 768 → Fin 768 → Bool => iotaInDim S768 32 (0 : Fin 1) (i.along (0 : Fin 1) (sortedFrom f (i 0)))) hf).trans ?_
    exact (congrArg (iotaInDim S768 32 (0 : Fin 1)) (ha i _)).trans rfl
  refine (key _).trans ?_
  refine congrArg (fun k : Fin 768 => BitVec.ofNat 32 (sortedFrom (greater fun c : Fin 768 => (e (ix1 (n0 := 768) c) : EReal)) k).val) (Fin.ext ?_)
  exact Nat.zero_add _

theorem energies (x : FVec Ideal S16x768x48x48 .f32) (c : Fin 768) :
    Host.reduceAdd (mulf x x) (constant S_ .f32 0x00000000#32) reducesTo_S16x768x48x48_S768_d0_2_3 h_S_ (ix1 (n0 := 768) c) = (en x c : EReal) := by
  show Ideal.hostReduceAdd reducesTo_S16x768x48x48_S768_d0_2_3 (mulf x x) (Ideal.ofBits .f32 0x00000000#32) (ix1 (n0 := 768) c) = _
  unfold Ideal.hostReduceAdd
  refine Eq.trans (congrArg (fun z : EReal => z + _) Ideal.ofBits_zero_f32) ((zero_add _).trans ?_)
  refine (sum_second (n0 := 16) (n1 := 768) (n2 := 48) (n3 := 48) (mulf x x : S16x768x48x48.Idx → EReal) c _ fun i => ?_).trans rfl
  refine ⟨fun e => Fin.ext (congrArg (fun j : S768.Idx => (j 0).val) e), fun e => ?_⟩
  funext a
  match a with
  | ⟨0, _⟩ => exact Fin.ext (congrArg Fin.val e)

/-- The list that the reference takes by. -/
theorem topK_best (x : FVec Ideal S16x768x48x48 .f32) :
    (Host.topK S192 0 (FloatOps.cmpfTotal .gt)
      (Host.reduceAdd (mulf x x) (constant S_ .f32 0x00000000#32) reducesTo_S16x768x48x48_S768_d0_2_3 h_S_) sliceFits_S768_S192).2 = best x := by
  funext j
  refine (topK_apply _ j).trans ?_
  unfold best
  have h : (fun c : Fin 768 => (Host.reduceAdd (mulf x x) (constant S_ .f32 0x00000000#32) reducesTo_S16x768x48x48_S768_d0_2_3 h_S_ (ix1 (n0 := 768) c) : EReal)) = en x :=
    funext fun c => energies x c
  rw [h]

theorem run_best (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v2) = taken (m ((c.tc : Thread nD τ).loc main_arg0)) (best (m ((c.tc : Thread nD τ).loc main_arg0)))
      ∧ r.2.mem ((c.tc : Thread nD τ).loc main_arg0) = m ((c.tc : Thread nD τ).loc main_arg0) := by
  refine (θ_run defs _ _).mono (fun r h c => ⟨(h c).1.trans ?_, (h c).2⟩) (Value.run m ρ)
  generalize (m ((c.tc : Thread nD τ).loc main_arg0) : S16x768x48x48.Idx → Ideal .f32) = x
  rw [topK_best x]
  have hc := best_lt x
  generalize best x = v at hc ⊢
  have sel : select (cmpi .slt v (broadcastInDim S192 ![] bcast_S_S192 (constantI S_ 32 0#32)))
      (addi v (broadcastInDim S192 ![] bcast_S_S192 (constantI S_ 32 768#32))) v = v := by
    funext j
    have e : (cmpi .slt v (broadcastInDim S192 ![] bcast_S_S192 (constantI S_ 32 0#32))) j = 0#1 := slt_zero (v j) (hc j)
    show (if _ = 1#1 then _ else _) = _
    rw [if_neg]
    rw [e]; decide
  rw [sel]
  have col : ∀ i : S192x1.Idx, (broadcastInDim S192x1 ![0] bcast_S192_S192x1_0 v) i = v (ix1 (n0 := 192) (i 0)) := by
    intro i
    show v _ = v _
    congr 1
    funext a
    obtain rfl : a = (0 : Fin 1) := Subsingleton.elim (α := Fin 1) _ _
    rfl
  generalize hw : (broadcastInDim S192x1 ![0] bcast_S192_S192x1_0 v : S192x1.Idx → BitVec 32) = w at col ⊢
  have hlt : ∀ i : S192x1.Idx, (w i).toNat < 768 := fun i => by rw [col]; exact hc _
  funext j
  have mask : (broadcastInDim S16x192x48x48 ![1] bcast_S192_S16x192x48x48_1
      (Host.reduce IntOp.andi (andi (cmpi .sge w (broadcastInDim S192x1 ![] bcast_S_S192x1 (constantI S_ 32 0#32)))
        (cmpi .sle w (broadcastInDim S192x1 ![0, 1] bcast_S1x1_S192x1_0_1 (broadcastInDim S1x1 ![1] bcast_S1_S1x1_1 (constantI S1 32 767#32)))))
        (constantI S_ 1 1#1) reducesTo_S192x1_S192_d1 h_S_)) j = 1#1 := by
    refine reduce_and_of_all _ _ _ _ (fun _ => rfl) (fun i => ?_) _
    show IntOp.andi (IntOp.cmpi .sge (w i) 0#32) (IntOp.cmpi .sle (w i) 767#32) = 1#1
    rw [sge_zero _ (hlt i), sle_last _ (hlt i)]
    rfl
  show (if _ = 1#1 then _ else _) = _
  rw [if_pos mask]
  refine (gather_chan gather_S16x768x48x48_S192x1_S16x192x48x48_023_1_n_n_1_1_1614848_wf x w j (v (ix1 (n0 := 192) (j 1))) ?_ (hc _)).trans ?_
  · intro i hi
    rw [col]
    exact congrArg (fun k => v (ix1 (n0 := 192) k)) (Fin.ext hi)
  · unfold taken
    exact congrArg (fun k => x (ix4 (n0 := 16) (n1 := 768) (n2 := 48) (n3 := 48) (j 0) k (j 2) (j 3))) (Fin.ext (Nat.mod_eq_of_lt (hc _)).symm)

end Cert.Proof.WholeReference

end
-- ==== Proof.KernelGatherTile.lean ====
/-
  The gather call on the SparseCores as the last call of the whole program, one task at a time. Task `(c, s)` of the grid (SparseCore `c`, subcore `s`; its
  number is `2 s + c`) copies the list of channel numbers into its own memory, reads the six entries that are its own and
  moves each of the six channels of `x` they name, in two halves of eight batches, through two buffers into the six
  slots of the result that belong to it. What the module proves of a task: given a share of `x` and of the list, and the
  twelve blocks of the result that are its own, it ends with the same shares and with each block holding the gathered
  channel.
-/
module

public import proofs.«01_k».proof.Defs
public import proofs.«01_k».proof.Proof.EnergySum
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Pointwise
public import Idealize.ShloMosaic.Lib.WritesUnit
public import Idealize.ShloMosaic.Lib.Tactic
public import proofs.«01_k».proof.Proof.Gen.KernelIdeal
public import proofs.«01_k».proof.Proof.Gen.KernelIdeal.Skeleton

@[expose] public section

noncomputable section

namespace Cert.Proof.KernelGather

open Cert.KernelIdeal Cert.KernelIdeal.Gen
open Cert.Proof.KernelIdeal (ΛP K D 𝒱₀ 𝒱 v₀ UH UU EH)

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The arrays -/

local notation "𝕄" => MT nD τ sig (HIx 2) (Elt F) ℕ UU ℕ

abbrev xLoc (d : Dev nD) : Loc nD τ sig := (SparseCore.T d).loc main_arg0
abbrev iLoc (d : Dev nD) : Loc nD τ sig := (SparseCore.T d).loc main_v3
abbrev oLoc (d : Dev nD) : Loc nD τ sig := (SparseCore.T d).loc main_v4

local notation "xV" => (Memref.whole Cert.KernelIdeal.main_arg0_scv : Memref Cert.KernelIdeal.sig Kind.scVector Space.hbm Cert.KernelIdeal.S16x768x48x48 EltTy.f32)
local notation "iV" => (Memref.whole Cert.KernelIdeal.main_v3_scv : Memref Cert.KernelIdeal.sig Kind.scVector Space.hbm Cert.KernelIdeal.S192 EltTy.i32)
local notation "oV" => (Memref.whole Cert.KernelIdeal.main_v4_scv : Memref Cert.KernelIdeal.sig Kind.scVector Space.hbm Cert.KernelIdeal.S16x192x48x48 EltTy.f32)
local notation "nV" => (Memref.whole Cert.KernelIdeal.cc3_scratch0 : Memref Cert.KernelIdeal.sig Kind.scVector Space.vmem Cert.KernelIdeal.S208 EltTy.i32)
local notation "aV" => (Memref.whole Cert.KernelIdeal.cc3_scratch1 : Memref Cert.KernelIdeal.sig Kind.scVector Space.vmem Cert.KernelIdeal.S8x48x48 EltTy.f32)
local notation "bV" => (Memref.whole Cert.KernelIdeal.cc3_scratch2 : Memref Cert.KernelIdeal.sig Kind.scVector Space.vmem Cert.KernelIdeal.S8x48x48 EltTy.f32)

/-! ## The blocks of the result -/

/-- Where block `p` of task `w` starts: half `p % 2` of the batches, slot `6 w + p / 2`. -/
abbrev pOff (w p : ℕ) : Fin 4 → ℕ := ![8 * (p % 2), 6 * w + p / 2, 0, 0]

theorem pOff_inb (w : Fin 32) (p : Fin 12) : ∀ a, pOff w.val p.val a + S8x1x48x48.size a ≤ S16x192x48x48.size a := by
  have hw := w.isLt; have hp := p.isLt
  intro a
  match a with
  | 0 => show 8 * (p.val % 2) + 8 ≤ 16; omega
  | 1 => show 6 * w.val + p.val / 2 + 1 ≤ 192; omega
  | 2 => show 0 + 48 ≤ 48; omega
  | 3 => show 0 + 48 ≤ 48; omega

abbrev pRect (w : Fin 32) (p : Fin 12) : Rect S16x192x48x48 := Rect.unit (s := S16x192x48x48) (pOff w.val p.val) S8x1x48x48.size (pOff_inb w p)
/-- The elements of block `p` of task `w`. -/
abbrev pSet (w : Fin 32) (p : Fin 12) : Finset S16x192x48x48.Idx := (pRect w p).set

theorem mem_pSet (w : Fin 32) (p : Fin 12) (j : S16x192x48x48.Idx) :
    j ∈ pSet w p ↔ (j 0).val / 8 = p.val % 2 ∧ (j 1).val = 6 * w.val + p.val / 2 := by
  unfold pSet
  rw [Rect.mem_set_unit]
  have h0 : (j 0).val < 16 := (j 0).isLt
  have h2 : (j 2).val < 48 := (j 2).isLt
  have h3 : (j 3).val < 48 := (j 3).isLt
  constructor
  · intro h
    have a0 := h 0; have a1 := h 1
    simp only [pOff] at a0 a1
    change 8 * (p.val % 2) ≤ (j 0).val ∧ (j 0).val < 8 * (p.val % 2) + 8 at a0
    change 6 * w.val + p.val / 2 ≤ (j 1).val ∧ (j 1).val < 6 * w.val + p.val / 2 + 1 at a1
    omega
  · rintro ⟨e0, e1⟩ a
    match a with
    | 0 => show 8 * (p.val % 2) ≤ (j 0).val ∧ (j 0).val < 8 * (p.val % 2) + 8; omega
    | 1 => show 6 * w.val + p.val / 2 ≤ (j 1).val ∧ (j 1).val < 6 * w.val + p.val / 2 + 1; omega
    | 2 => show 0 ≤ (j 2).val ∧ (j 2).val < 0 + 48; omega
    | 3 => show 0 ≤ (j 3).val ∧ (j 3).val < 0 + 48; omega

/-- What the call computes: slot `k` of the result is the channel of `x` that entry `k` of the list names. -/
def gathered (x : S16x768x48x48.Idx → Elt F .f32) (v : S192.Idx → BitVec 32) : S16x192x48x48.Idx → Elt F .f32 :=
  fun j => x (ix4 (n0 := 16) (n1 := 768) (n2 := 48) (n3 := 48) (j 0)
    ⟨(v (ix1 (n0 := 192) (j 1))).toNat % 768, Nat.mod_lt _ (by decide)⟩ (j 2) (j 3))

/-! ## The task -/

section Tile

variable (d : Dev nD) (L : grid3.Coords)

abbrev cV (L : grid3.Coords) : Fin τ.nSC := (L 0).castLE hcore3
abbrev jV (L : grid3.Coords) : Fin τ.nSub := (L 1).castLE hsub3
/-- The task's number. -/
def wid (L : grid3.Coords) : Fin 32 := ⟨2 * (L 1).val + (L 0).val, by
  have h0 : (L 0).val < 2 := (L 0).isLt
  have h1 : (L 1).val < 16 := (L 1).isLt
  omega⟩

/-- A block of the result as the task addresses it, from where it starts. -/
abbrev oK (off : Fin 4 → ℕ) (h : ∀ a, off a + S8x1x48x48.size a ≤ S16x192x48x48.size a) : Memref sig .scVector .hbm S8x48x48 .f32 :=
  ((oV).slice (Rect.unit (s := S16x192x48x48) off S8x1x48x48.size h) (fun _ => rfl)).squeeze S8x48x48 squeezes_S8x1x48x48_S8x48x48

theorem set_oK (off : Fin 4 → ℕ) (h : ∀ a, off a + S8x1x48x48.size a ≤ S16x192x48x48.size a) (p : Fin 12)
    (e : off = pOff (wid L).val p.val) : (oK off h).view.set = pSet (wid L) p := by
  subst e
  show (((oV).view.slice (pRect (wid L) p)).reshape S8x48x48 squeezes_S8x1x48x48_S8x48x48.numel_eq).set = _
  rw [View.set_reshape]
  show ((View.whole (main_v4_scv : Ref sig .scVector)).slice (pRect (wid L) p)).set = _
  rw [View.set_slice]; exact Finset.map_refl

theorem pts_oK (off : Fin 4 → ℕ) (h : ∀ a, off a + S8x1x48x48.size a ≤ S16x192x48x48.size a) (p : Fin 12)
    (e : off = pOff (wid L).val p.val) (f : Buf (Elt F) (oLoc d)) :
    ((oK off h).view.loc (V d (cV L) (jV L)) ↦[(oK off h).view.set]{fullShare} f : sProp 𝕄) = oLoc d ↦[pSet (wid L) p]{fullShare} f := by
  rw [set_oK L off h p e]

theorem vec4_ext {a b a' b' : ℕ} (ha : a = a') (hb : b = b') : (![a, b, 0, 0] : Fin 4 → ℕ) = ![a', b', 0, 0] := by
  rw [ha, hb]

theorem pts_xV (q : PosShare TreeShare) (f : Buf (Elt F) (xLoc d)) :
    ((xV).view.loc (V d (cV L) (jV L)) ↦{q} f : sProp 𝕄) = xLoc d ↦{q} f := rfl
theorem pts_iV (q : PosShare TreeShare) (f : Buf (Elt F) (iLoc d)) :
    ((iV).view.loc (V d (cV L) (jV L)) ↦{q} f : sProp 𝕄) = iLoc d ↦{q} f := rfl
theorem pts_nV (f : Buf (Elt F) ((V d (cV L) (jV L)).loc cc3_scratch0)) :
    ((nV).view.loc (V d (cV L) (jV L)) ↦{fullShare} f : sProp 𝕄) = (V d (cV L) (jV L)).loc cc3_scratch0 ↦{fullShare} f := rfl
theorem pts_aV (f : Buf (Elt F) ((V d (cV L) (jV L)).loc cc3_scratch1)) :
    ((aV).view.loc (V d (cV L) (jV L)) ↦{fullShare} f : sProp 𝕄) = (V d (cV L) (jV L)).loc cc3_scratch1 ↦{fullShare} f := rfl
theorem pts_bV (f : Buf (Elt F) ((V d (cV L) (jV L)).loc cc3_scratch2)) :
    ((bV).view.loc (V d (cV L) (jV L)) ↦{fullShare} f : sProp 𝕄) = (V d (cV L) (jV L)).loc cc3_scratch2 ↦{fullShare} f := rfl

theorem pOff5 : k3_off5 L = pOff (wid L).val ((0 : Fin 12)).val := by
  rw [k3_off5_eq]; exact vec4_ext (by show 0 = 8 * (0 % 2); omega)
    (by show 12 * (L 1).val + 6 * (L 0).val = 6 * (2 * (L 1).val + (L 0).val) + 0 / 2; omega)
theorem pOff8 : k3_off8 L = pOff (wid L).val ((1 : Fin 12)).val := by
  rw [k3_off8_eq]; exact vec4_ext (by show 8 = 8 * (1 % 2); omega)
    (by show 12 * (L 1).val + 6 * (L 0).val = 6 * (2 * (L 1).val + (L 0).val) + 1 / 2; omega)
theorem pOff11 : k3_off11 L = pOff (wid L).val ((2 : Fin 12)).val := by
  rw [k3_off11_eq]; exact vec4_ext (by show 0 = 8 * (2 % 2); omega)
    (by show 12 * (L 1).val + 6 * (L 0).val + 1 = 6 * (2 * (L 1).val + (L 0).val) + 2 / 2; omega)
theorem pOff14 : k3_off14 L = pOff (wid L).val ((3 : Fin 12)).val := by
  rw [k3_off14_eq]; exact vec4_ext (by show 8 = 8 * (3 % 2); omega)
    (by show 12 * (L 1).val + 6 * (L 0).val + 1 = 6 * (2 * (L 1).val + (L 0).val) + 3 / 2; omega)
theorem pOff17 : k3_off17 L = pOff (wid L).val ((4 : Fin 12)).val := by
  rw [k3_off17_eq]; exact vec4_ext (by show 0 = 8 * (4 % 2); omega)
    (by show 12 * (L 1).val + 6 * (L 0).val + 2 = 6 * (2 * (L 1).val + (L 0).val) + 4 / 2; omega)
theorem pOff20 : k3_off20 L = pOff (wid L).val ((5 : Fin 12)).val := by
  rw [k3_off20_eq]; exact vec4_ext (by show 8 = 8 * (5 % 2); omega)
    (by show 12 * (L 1).val + 6 * (L 0).val + 2 = 6 * (2 * (L 1).val + (L 0).val) + 5 / 2; omega)
theorem pOff23 : k3_off23 L = pOff (wid L).val ((6 : Fin 12)).val := by
  rw [k3_off23_eq]; exact vec4_ext (by show 0 = 8 * (6 % 2); omega)
    (by show 12 * (L 1).val + 6 * (L 0).val + 3 = 6 * (2 * (L 1).val + (L 0).val) + 6 / 2; omega)
theorem pOff26 : k3_off26 L = pOff (wid L).val ((7 : Fin 12)).val := by
  rw [k3_off26_eq]; exact vec4_ext (by show 8 = 8 * (7 % 2); omega)
    (by show 12 * (L 1).val + 6 * (L 0).val + 3 = 6 * (2 * (L 1).val + (L 0).val) + 7 / 2; omega)
theorem pOff29 : k3_off29 L = pOff (wid L).val ((8 : Fin 12)).val := by
  rw [k3_off29_eq]; exact vec4_ext (by show 0 = 8 * (8 % 2); omega)
    (by show 12 * (L 1).val + 6 * (L 0).val + 4 = 6 * (2 * (L 1).val + (L 0).val) + 8 / 2; omega)
theorem pOff32 : k3_off32 L = pOff (wid L).val ((9 : Fin 12)).val := by
  rw [k3_off32_eq]; exact vec4_ext (by show 8 = 8 * (9 % 2); omega)
    (by show 12 * (L 1).val + 6 * (L 0).val + 4 = 6 * (2 * (L 1).val + (L 0).val) + 9 / 2; omega)
theorem pOff35 : k3_off35 L = pOff (wid L).val ((10 : Fin 12)).val := by
  rw [k3_off35_eq]; exact vec4_ext (by show 0 = 8 * (10 % 2); omega)
    (by show 12 * (L 1).val + 6 * (L 0).val + 5 = 6 * (2 * (L 1).val + (L 0).val) + 10 / 2; omega)
theorem pOff36 : k3_off36 L = pOff (wid L).val ((11 : Fin 12)).val := by
  rw [k3_off36_eq]; exact vec4_ext (by show 8 = 8 * (11 % 2); omega)
    (by show 12 * (L 1).val + 6 * (L 0).val + 5 = 6 * (2 * (L 1).val + (L 0).val) + 11 / 2; omega)

/-- Cell of a semaphore of the task. -/
abbrev cell (A : DmaSems sig S_) : GSem nD τ sig := (V d (cV L) (jV L), .dma A.sem)

/-- The semaphores of the task: one per buffer, and one per synchronous copy. -/
def sems : Fin 15 → DmaSem sig := ![cc3_scratch3.sem, cc3_scratch4.sem, cc3_scoped0.sem, cc3_scoped1.sem, cc3_scoped2.sem, cc3_scoped3.sem, cc3_scoped4.sem, cc3_scoped5.sem, cc3_scoped6.sem, cc3_scoped7.sem, cc3_scoped8.sem, cc3_scoped9.sem, cc3_scoped10.sem, cc3_scoped11.sem, cc3_scoped12.sem]

theorem sems_inj : Function.Injective sems := by decide

theorem sep15 (Φ : Fin 15 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14) := by
  rw [show (Finset.univ : Finset (Fin 15)) = {0, 1, 2, 3, 4, 5, 6, 7, 8, 9, 10, 11, 12, 13, 14} by decide]
  repeat rw [SparseCore.bigSep_insert' (by decide)]
  rw [bigSep_singleton]

theorem sep12 (Φ : Fin 12 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11) := by
  rw [show (Finset.univ : Finset (Fin 12)) = {0, 1, 2, 3, 4, 5, 6, 7, 8, 9, 10, 11} by decide]
  repeat rw [SparseCore.bigSep_insert' (by decide)]
  rw [bigSep_singleton]

/-- The task's cells, as they stand among the subcore's. -/
def cellsOf : Finset (GSem nD τ sig) := Finset.univ.image fun k : Fin 15 => ((V d (cV L) (jV L), .dma (sems k)) : GSem nD τ sig)

theorem cellsOf_sub : cellsOf d L ⊆ ownCells (V d (cV L) (jV L)) := by
  intro g hg
  obtain ⟨k, -, rfl⟩ := Finset.mem_image.mp hg
  refine mem_ownCells.mpr ⟨rfl, ?_⟩
  exact (by decide : ∀ k : Fin 15, (SemLoc.dma (sems k) : SemLoc sig).isScoped .scVector = true) k

/-- The task's semaphores are among the subcore's own: they are them, each at zero, and the rest. -/
theorem ownSems0_V :
    (ownSems0 (V d (cV L) (jV L)) : sProp 𝕄)
      = iprop((semVal (cell d L cc3_scratch3) 0 ∗ semVal (cell d L cc3_scratch4) 0 ∗ semVal (cell d L cc3_scoped0) 0 ∗ semVal (cell d L cc3_scoped1) 0 ∗ semVal (cell d L cc3_scoped2) 0 ∗ semVal (cell d L cc3_scoped3) 0 ∗ semVal (cell d L cc3_scoped4) 0 ∗ semVal (cell d L cc3_scoped5) 0 ∗ semVal (cell d L cc3_scoped6) 0 ∗ semVal (cell d L cc3_scoped7) 0 ∗ semVal (cell d L cc3_scoped8) 0 ∗ semVal (cell d L cc3_scoped9) 0 ∗ semVal (cell d L cc3_scoped10) 0 ∗ semVal (cell d L cc3_scoped11) 0 ∗ semVal (cell d L cc3_scoped12) 0)
          ∗ bigSep (ownCells (V d (cV L) (jV L)) \ cellsOf d L) fun g => semVal g 0) := by
  unfold SparseCore.Cfg.ownSems0
  rw [SparseCore.bigSep_sdiff_split' (cellsOf_sub d L)]
  refine congrArg (fun P : sProp 𝕄 => iprop(P ∗ bigSep (ownCells (V d (cV L) (jV L)) \ cellsOf d L) fun g => semVal g 0)) ?_
  unfold cellsOf
  rw [SparseCore.bigSep_image_of_injOn (fun a _ b _ h => sems_inj (by simpa using h)), sep15]
  rfl

/-- The three scratch buffers are among the subcore's own: they are them, at some contents, and the rest. -/
theorem ownBufs_V :
    (ownBufs (V d (cV L) (jV L)) : sProp 𝕄)
      = iprop((∃ f, (V d (cV L) (jV L)).loc cc3_scratch0 ↦{fullShare} f) ∗ (∃ f, (V d (cV L) (jV L)).loc cc3_scratch1 ↦{fullShare} f)
          ∗ (∃ f, (V d (cV L) (jV L)).loc cc3_scratch2 ↦{fullShare} f)
          ∗ bigSep ((((ownRefs (τ := τ) (.scVector (cV L) (jV L))).erase ((Proc.scVector (cV L) (jV L)).devRef cc3_scratch0)).erase
              ((Proc.scVector (cV L) (jV L)).devRef cc3_scratch1)).erase ((Proc.scVector (cV L) (jV L)).devRef cc3_scratch2))
              fun b => iprop(∃ f, ((d, b) : Loc nD τ sig) ↦{fullShare} f)) := by
  unfold SparseCore.Cfg.ownBufs
  have own (b : Ref sig .scVector) (hb : ((Proc.scVector (cV L) (jV L)).devRef b : DevRef τ sig).owner.home = .scVector (cV L) (jV L)) :
      (Proc.scVector (cV L) (jV L)).devRef b ∈ ownRefs (τ := τ) (.scVector (cV L) (jV L)) := by
    unfold SparseCore.Cfg.ownRefs; exact Finset.mem_filter.mpr ⟨Finset.mem_univ _, hb⟩
  have ne (a b : Ref sig .scVector) (h : a ≠ b) : (Proc.scVector (cV L) (jV L)).devRef a ≠ ((Proc.scVector (cV L) (jV L)).devRef b : DevRef τ sig) :=
    fun e => h (Proc.devRef_injective _ e)
  refine (SparseCore.bigSep_erase' (own cc3_scratch0 rfl)).trans ?_
  rw [SparseCore.bigSep_erase' (Finset.mem_erase.mpr ⟨ne cc3_scratch1 cc3_scratch0 (by decide), own cc3_scratch1 rfl⟩),
    SparseCore.bigSep_erase' (Finset.mem_erase.mpr ⟨ne cc3_scratch2 cc3_scratch1 (by decide),
      Finset.mem_erase.mpr ⟨ne cc3_scratch2 cc3_scratch0 (by decide), own cc3_scratch2 rfl⟩⟩)]

/-- What the proof asks of the list: each entry is the number of a channel. -/
def ListOK (v : S192.Idx → BitVec 32) : Prop := ∀ j, (v j).toNat < 768

/-! ## The words the task reads -/

/-- The entry of the list for slot `t` of the task. -/
abbrev entry (t : Fin 6) : S192.Idx := ix1 (n0 := 192) ⟨6 * (wid L).val + t.val, by have := (wid L).isLt; have := t.isLt; omega⟩

/-- The sixteen words the task loads, of which it uses six. -/
abbrev lanes (v : Buf (Elt F) (iLoc d)) (fn : Buf (Elt F) ((V d (cV L) (jV L)).loc cc3_scratch0))
    (h0 : ∀ a, (![0] : Fin 1 → ℕ) a + S192.size a ≤ S208.size a) : Vec F S16 .i32 :=
  View.readAt (Elt F) (nV).view (Rect.unit (s := S208) (k3_off1 L) S16.size (k3_off1_inb L)).toLoadRect
    ((nV).view.writes (Elt F) fn [⟨Rect.unit (s := S208) ![0] S192.size h0, ReadAs.same.apply (View.read (Elt F) (iV).view v)⟩])

theorem lanes_apply (v : Buf (Elt F) (iLoc d)) (fn : Buf (Elt F) ((V d (cV L) (jV L)).loc cc3_scratch0))
    (h0 : ∀ a, (![0] : Fin 1 → ℕ) a + S192.size a ≤ S208.size a) (t : Fin 6) :
    lanes d L v fn h0 (ix1 (n0 := 16) ⟨t.val, by have := t.isLt; omega⟩) = v (entry L t) := by
  refine View.read_writes_cons_unit_of_mem (nV).view fn h0 _ [] _ (entry L t) rfl ?_
  intro a
  have ha : a = 0 := Fin.ext (by have h1 : a.val < 1 := a.isLt; show a.val = 0; omega)
  subst ha
  show (k3_off1 L) 0 + 1 * t.val = 0 + (6 * (2 * (L 1).val + (L 0).val) + t.val)
  rw [k3_off1_eq]
  show 12 * (L 1).val + 6 * (L 0).val + 1 * t.val = _
  omega

/-- The word of slot `t`, as the body takes it from the loaded lanes. -/
abbrev word (v : Buf (Elt F) (iLoc d)) (fn : Buf (Elt F) ((V d (cV L) (jV L)).loc cc3_scratch0))
    (h0 : ∀ a, (![0] : Fin 1 → ℕ) a + S192.size a ≤ S208.size a) (t : ℕ) (hs : S16.Slices (![t] : Fin 1 → ℕ) S1) : BitVec 32 :=
  extractAt ![0] (extractStridedSlice S1 ![t] (shapeCast S16 (lanes d L v fn h0) shapeCasts_S16_S16) hs) inpos_S1_p0

theorem word_eq (v : Buf (Elt F) (iLoc d)) (fn : Buf (Elt F) ((V d (cV L) (jV L)).loc cc3_scratch0))
    (h0 : ∀ a, (![0] : Fin 1 → ℕ) a + S192.size a ≤ S208.size a) (t : Fin 6) (hs : S16.Slices (![t.val] : Fin 1 → ℕ) S1) :
    word d L v fn h0 t.val hs = v (entry L t) := by
  rw [← lanes_apply d L v fn h0 t]
  unfold word
  rw [shapeCast_id]
  unfold extractAt extractStridedSlice
  refine congrArg (lanes d L v fn h0) (funext fun a => Fin.ext ?_)
  have ha : a = 0 := Fin.ext (by have h1 : a.val < 1 := a.isLt; show a.val = 0; omega)
  subst ha
  show t.val + 0 = t.val
  rfl

theorem word_lt {v : Buf (Elt F) (iLoc d)} (hv : ListOK v) (fn : Buf (Elt F) ((V d (cV L) (jV L)).loc cc3_scratch0))
    (h0 : ∀ a, (![0] : Fin 1 → ℕ) a + S192.size a ≤ S208.size a) (t : Fin 6) (hs : S16.Slices (![t.val] : Fin 1 → ℕ) S1) :
    (word d L v fn h0 t.val hs).toNat < 768 := by
  rw [word_eq]; exact hv _

theorem inb_of_lt {h n : ℕ} (hh : h + 8 ≤ 16) (hn : n < 768) : ∀ a, (![h, n, 0, 0] : Fin 4 → ℕ) a + S8x1x48x48.size a ≤ S16x768x48x48.size a := by
  intro a
  match a with
  | 0 => exact hh
  | 1 => show n + 1 ≤ 768; omega
  | 2 => show 0 + 48 ≤ 48; omega
  | 3 => show 0 + 48 ≤ 48; omega

theorem chk1 {w : BitVec 32} (h : w.toNat < 768) : k3_chk1 w := ⟨inb_of_lt (h := 0) (by omega) h, inb_of_lt (h := 0) (by omega) h⟩
theorem chk2 {w : BitVec 32} (h : w.toNat < 768) : k3_chk2 w := ⟨inb_of_lt (h := 8) (by omega) h, inb_of_lt (h := 8) (by omega) h⟩
theorem chk3 {w : BitVec 32} (h : w.toNat < 768) : k3_chk3 w := ⟨inb_of_lt (h := 0) (by omega) h, inb_of_lt (h := 0) (by omega) h⟩
theorem chk4 {w : BitVec 32} (h : w.toNat < 768) : k3_chk4 w := ⟨inb_of_lt (h := 8) (by omega) h, inb_of_lt (h := 8) (by omega) h⟩
theorem chk5 {w : BitVec 32} (h : w.toNat < 768) : k3_chk5 w := ⟨inb_of_lt (h := 0) (by omega) h, inb_of_lt (h := 0) (by omega) h⟩
theorem chk6 {w : BitVec 32} (h : w.toNat < 768) : k3_chk6 w := ⟨inb_of_lt (h := 8) (by omega) h, inb_of_lt (h := 8) (by omega) h⟩
theorem chk7 {w : BitVec 32} (h : w.toNat < 768) : k3_chk7 w := ⟨inb_of_lt (h := 0) (by omega) h, inb_of_lt (h := 0) (by omega) h⟩
theorem chk8 {w : BitVec 32} (h : w.toNat < 768) : k3_chk8 w := ⟨inb_of_lt (h := 8) (by omega) h, inb_of_lt (h := 8) (by omega) h⟩
theorem chk9 {w : BitVec 32} (h : w.toNat < 768) : k3_chk9 w := ⟨inb_of_lt (h := 0) (by omega) h, inb_of_lt (h := 0) (by omega) h⟩
theorem chk10 {w : BitVec 32} (h : w.toNat < 768) : k3_chk10 w := ⟨inb_of_lt (h := 8) (by omega) h, inb_of_lt (h := 8) (by omega) h⟩
theorem chk11 {w : BitVec 32} (h : w.toNat < 768) : k3_chk11 w := ⟨inb_of_lt (h := 0) (by omega) h, inb_of_lt (h := 0) (by omega) h⟩
theorem chk12 {w : BitVec 32} (h : w.toNat < 768) : k3_chk12 w := inb_of_lt (h := 8) (by omega) h

/-! ## What a block ends holding -/

/-- A block of `x` as the task addresses it, from where it starts. -/
abbrev xK (off : Fin 4 → ℕ) (h : ∀ a, off a + S8x1x48x48.size a ≤ S16x768x48x48.size a) : Memref sig .scVector .hbm S8x48x48 .f32 :=
  ((xV).slice (Rect.unit (s := S16x768x48x48) off S8x1x48x48.size h) (fun _ => rfl)).squeeze S8x48x48 squeezes_S8x1x48x48_S8x48x48

/-- A block of the result that was written with a block of `x` holds the gathered channel, when the block of `x` lies at
    the channel the list names and at the same half of the batches. -/
theorem block_value (p : Fin 12) (off : Fin 4 → ℕ) (h : ∀ a, off a + S8x1x48x48.size a ≤ S16x192x48x48.size a)
    (e : off = pOff (wid L).val p.val) (offS : Fin 4 → ℕ) (hS : ∀ a, offS a + S8x1x48x48.size a ≤ S16x768x48x48.size a)
    (x : Buf (Elt F) (xLoc d)) (v : Buf (Elt F) (iLoc d)) (fo : Buf (Elt F) (oLoc d)) (W : S8x48x48.Idx → Elt F .f32)
    (eS : offS = ![8 * (p.val % 2), (v (entry L ⟨p.val / 2, by have := p.isLt; omega⟩)).toNat, 0, 0])
    (hW : W = View.read (Elt F) (xK offS hS).view x) (j : S16x192x48x48.Idx) (hj : j ∈ pSet (wid L) p) :
    (oK off h).view.writes (Elt F) fo [⟨Rect.whole S8x48x48, W⟩] j = gathered x v j := by
  rw [← set_oK L off h p e] at hj
  obtain ⟨y, -, rfl⟩ := Finset.mem_map.mp hj
  have h1 := congrFun (View.read_writes_whole (oK off h).view fo W) y
  refine Eq.trans (show _ = View.read (Elt F) (oK off h).view ((oK off h).view.writes (Elt F) fo [⟨Rect.whole S8x48x48, W⟩]) y from rfl) (h1.trans ?_)
  subst hW e eS
  have hn : (v (entry L ⟨p.val / 2, by have := p.isLt; omega⟩)).toNat < 768 := by
    have := hS 1
    change (v (entry L ⟨p.val / 2, _⟩)).toNat + 1 ≤ 768 at this
    omega
  have hz1 : ((Shape.reshapeEquiv squeezes_S8x1x48x48_S8x48x48.numel_eq y) 1).val = 0 := by have : ((Shape.reshapeEquiv squeezes_S8x1x48x48_S8x48x48.numel_eq y) 1).val < 1 := ((Shape.reshapeEquiv squeezes_S8x1x48x48_S8x48x48.numel_eq y) 1).isLt; omega
  have he : (oK _ h).view.emb y 1 = (entry L ⟨p.val / 2, by have := p.isLt; omega⟩) 0 := Fin.ext (by
    show 6 * (wid L).val + p.val / 2 + 1 * ((Shape.reshapeEquiv squeezes_S8x1x48x48_S8x48x48.numel_eq y) 1).val = 6 * (wid L).val + p.val / 2
    omega)
  show x _ = gathered x v _
  unfold gathered
  refine congrArg x (funext fun a => Fin.ext ?_)
  match a with
  | 0 => rfl
  | 1 =>
    show (v (entry L ⟨p.val / 2, _⟩)).toNat + 1 * ((Shape.reshapeEquiv squeezes_S8x1x48x48_S8x48x48.numel_eq y) 1).val = (v (ix1 ((oK _ h).view.emb y 1))).toNat % 768
    rw [he]
    show _ = (v (entry L ⟨p.val / 2, _⟩)).toNat % 768
    rw [Nat.mod_eq_of_lt hn]; omega
  | 2 => rfl
  | 3 => rfl

theorem block_done (p : Fin 12) (off : Fin 4 → ℕ) (h : ∀ a, off a + S8x1x48x48.size a ≤ S16x192x48x48.size a)
    (e : off = pOff (wid L).val p.val) (offS : Fin 4 → ℕ) (hS : ∀ a, offS a + S8x1x48x48.size a ≤ S16x768x48x48.size a)
    (x : Buf (Elt F) (xLoc d)) (v : Buf (Elt F) (iLoc d)) (fo : Buf (Elt F) (oLoc d)) (W : S8x48x48.Idx → Elt F .f32)
    (eS : offS = ![8 * (p.val % 2), (v (entry L ⟨p.val / 2, by have := p.isLt; omega⟩)).toNat, 0, 0])
    (hW : W = View.read (Elt F) (xK offS hS).view x) :
    ((oK off h).view.loc (V d (cV L) (jV L)) ↦[(oK off h).view.set]{fullShare} (oK off h).view.writes (Elt F) fo [⟨Rect.whole S8x48x48, W⟩] : sProp 𝕄)
      ⊢ oLoc d ↦[pSet (wid L) p]{fullShare} gathered x v := by
  refine Entails.of_eq ((pts_oK d L off h p e _).trans ?_)
  exact pointsTo_congr fun j hj => block_value d L p off h e offS hS x v fo W eS hW j hj

end Tile

end Cert.Proof.KernelGather

end
-- ==== Proof.KernelGatherRun.lean ====
/-
  One task of the gather call of the whole program, run: its list is copied in, six channels are moved in twelve halves, and each block of the
  result that is the task's ends holding the gathered channel.
-/
module

public import proofs.«01_k».proof.Proof.KernelGatherTile

@[expose] public section

noncomputable section

namespace Cert.Proof.KernelGather

open Cert.KernelIdeal Cert.KernelIdeal.Gen
open Cert.Proof.KernelIdeal (ΛP K D 𝒱₀ 𝒱 v₀ UH UU EH)

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ
local notation "xV" => (Memref.whole Cert.KernelIdeal.main_arg0_scv : Memref Cert.KernelIdeal.sig Kind.scVector Space.hbm Cert.KernelIdeal.S16x768x48x48 EltTy.f32)
local notation "iV" => (Memref.whole Cert.KernelIdeal.main_v3_scv : Memref Cert.KernelIdeal.sig Kind.scVector Space.hbm Cert.KernelIdeal.S192 EltTy.i32)
local notation "oV" => (Memref.whole Cert.KernelIdeal.main_v4_scv : Memref Cert.KernelIdeal.sig Kind.scVector Space.hbm Cert.KernelIdeal.S16x192x48x48 EltTy.f32)
local notation "nV" => (Memref.whole Cert.KernelIdeal.cc3_scratch0 : Memref Cert.KernelIdeal.sig Kind.scVector Space.vmem Cert.KernelIdeal.S208 EltTy.i32)
local notation "aV" => (Memref.whole Cert.KernelIdeal.cc3_scratch1 : Memref Cert.KernelIdeal.sig Kind.scVector Space.vmem Cert.KernelIdeal.S8x48x48 EltTy.f32)
local notation "bV" => (Memref.whole Cert.KernelIdeal.cc3_scratch2 : Memref Cert.KernelIdeal.sig Kind.scVector Space.vmem Cert.KernelIdeal.S8x48x48 EltTy.f32)

section Tile

variable (d : Dev nD) (L : grid3.Coords)

variable [FloatOps F]
set_option maxHeartbeats 1000000 in
theorem tile_run (hF : (K (F := F)).Facts) (q r : PosShare TreeShare) (x : Buf (Elt F) (xLoc d)) (v : Buf (Elt F) (iLoc d))
    (hv : ListOK v) (fo : Buf (Elt F) (oLoc d))
    (O : CellTallies nD τ sig (HIx 2)) (W : Waits sig (HIx 2)) (hO : ∀ g, O g none = 0) :
    (iprop(levAts (K (F := F)).L (K (F := F)).lev
        ∗ ((xLoc d ↦{q} x) ∗ (iLoc d ↦{r} v) ∗ bigSep Finset.univ fun p : Fin 12 => oLoc d ↦[pSet (wid L) p]{fullShare} fo)
        ∗ scopedBufs (V d (cV L) (jV L)) ∗ scopedSems0 (V d (cV L) (jV L)) ∗ owes (V d (cV L) (jV L)) O W) : sProp 𝕄)
      ⊢ wp frame (wpE (defs₀ (F := F)) 𝒱₀ (V d (cV L) (jV L)) none) Set.univ
          (cc3__sc_gather_body L xV (Memref.isWhole_whole _) iV (Memref.isWhole_whole _) oV (Memref.isWhole_whole _)
            nV (Memref.isWhole_whole _) aV (Memref.isWhole_whole _) bV (Memref.isWhole_whole _) cc3_scratch3 cc3_scratch4 cc3_scoped0 cc3_scoped1 cc3_scoped2 cc3_scoped3 cc3_scoped4 cc3_scoped5 cc3_scoped6 cc3_scoped7 cc3_scoped8 cc3_scoped9 cc3_scoped10 cc3_scoped11 cc3_scoped12)
          fun _ => iprop(((xLoc d ↦{q} x) ∗ (iLoc d ↦{r} v) ∗ bigSep Finset.univ fun p : Fin 12 => oLoc d ↦[pSet (wid L) p]{fullShare} gathered x v)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc3__sc_gather_body_eq_skeleton]; unfold cc3__sc_gather_body_skel
  rw [(K (F := F)).scopedBufs_V hF d (cV L) (jV L), SparseCore.Cfg.scopedSems0_V (Val := Elt F) d (cV L) (jV L), ownSems0_V, ownBufs_V, sep12]
  iintro ⟨#Hlv, ⟨Hx, Hi, ⟨Ho0, Ho1, Ho2, Ho3, Ho4, Ho5, Ho6, Ho7, Ho8, Ho9, Ho10, Ho11⟩⟩, ⟨⟨%fn, Hn⟩, ⟨%fa, Ha⟩, ⟨%fb, Hb⟩, Hbufs⟩, ⟨⟨Hs0, Hs1, Hs2, Hs3, Hs4, Hs5, Hs6, Hs7, Hs8, Hs9, Hs10, Hs11, Hs12, Hs13, Hs14⟩, Hsems⟩, HO⟩
  ihave Hmw := (show levAts (K (F := F)).L (K (F := F)).lev ⊢ Transfers.MayWaits (V d (cV L) (jV L)) (default : HIx 2) O from
    (K (F := F)).mayWaits_none (thr := V d (cV L) (jV L)) hO) $$ Hlv
  ihave Ho0' := (Entails.of_eq (pts_oK (F := F) d L (k3_off5 L) (k3_off5_inb L) 0 (pOff5 L) _).symm) $$ Ho0
  ihave Ho1' := (Entails.of_eq (pts_oK (F := F) d L (k3_off8 L) (k3_off8_inb L) 1 (pOff8 L) _).symm) $$ Ho1
  ihave Ho2' := (Entails.of_eq (pts_oK (F := F) d L (k3_off11 L) (k3_off11_inb L) 2 (pOff11 L) _).symm) $$ Ho2
  ihave Ho3' := (Entails.of_eq (pts_oK (F := F) d L (k3_off14 L) (k3_off14_inb L) 3 (pOff14 L) _).symm) $$ Ho3
  ihave Ho4' := (Entails.of_eq (pts_oK (F := F) d L (k3_off17 L) (k3_off17_inb L) 4 (pOff17 L) _).symm) $$ Ho4
  ihave Ho5' := (Entails.of_eq (pts_oK (F := F) d L (k3_off20 L) (k3_off20_inb L) 5 (pOff20 L) _).symm) $$ Ho5
  ihave Ho6' := (Entails.of_eq (pts_oK (F := F) d L (k3_off23 L) (k3_off23_inb L) 6 (pOff23 L) _).symm) $$ Ho6
  ihave Ho7' := (Entails.of_eq (pts_oK (F := F) d L (k3_off26 L) (k3_off26_inb L) 7 (pOff26 L) _).symm) $$ Ho7
  ihave Ho8' := (Entails.of_eq (pts_oK (F := F) d L (k3_off29 L) (k3_off29_inb L) 8 (pOff29 L) _).symm) $$ Ho8
  ihave Ho9' := (Entails.of_eq (pts_oK (F := F) d L (k3_off32 L) (k3_off32_inb L) 9 (pOff32 L) _).symm) $$ Ho9
  ihave Ho10' := (Entails.of_eq (pts_oK (F := F) d L (k3_off35 L) (k3_off35_inb L) 10 (pOff35 L) _).symm) $$ Ho10
  ihave Ho11' := (Entails.of_eq (pts_oK (F := F) d L (k3_off36 L) (k3_off36_inb L) 11 (pOff36 L) _).symm) $$ Ho11
  ihave Hx' := (Entails.of_eq (pts_xV (F := F) d L _ _).symm) $$ Hx
  ihave Hi' := (Entails.of_eq (pts_iV (F := F) d L _ _).symm) $$ Hi
  ihave Hn' := (Entails.of_eq (pts_nV (F := F) d L _).symm) $$ Hn
  ihave Ha' := (Entails.of_eq (pts_aV (F := F) d L _).symm) $$ Ha
  ihave Hb' := (Entails.of_eq (pts_bV (F := F) d L _).symm) $$ Hb
  sl_exec (disch := first | ((with_reducible refine chk1 ?_); exact word_lt d L hv fn _ 0 slices_S16_o0_S1) | ((with_reducible refine chk2 ?_); exact word_lt d L hv fn _ 0 slices_S16_o0_S1) | ((with_reducible refine chk3 ?_); exact word_lt d L hv fn _ 1 slices_S16_o1_S1) | ((with_reducible refine chk4 ?_); exact word_lt d L hv fn _ 1 slices_S16_o1_S1) | ((with_reducible refine chk5 ?_); exact word_lt d L hv fn _ 2 slices_S16_o2_S1) | ((with_reducible refine chk6 ?_); exact word_lt d L hv fn _ 2 slices_S16_o2_S1) | ((with_reducible refine chk7 ?_); exact word_lt d L hv fn _ 3 slices_S16_o3_S1) | ((with_reducible refine chk8 ?_); exact word_lt d L hv fn _ 3 slices_S16_o3_S1) | ((with_reducible refine chk9 ?_); exact word_lt d L hv fn _ 4 slices_S16_o4_S1) | ((with_reducible refine chk10 ?_); exact word_lt d L hv fn _ 4 slices_S16_o4_S1) | ((with_reducible refine chk11 ?_); exact word_lt d L hv fn _ 5 slices_S16_o5_S1) | ((with_reducible refine chk12 ?_); exact word_lt d L hv fn _ 5 slices_S16_o5_S1))
  have hw0 : tile_run.sl.v7 d L v fn = v (entry L 0) := word_eq d L v fn _ 0 slices_S16_o0_S1
  have hw1 : tile_run.sl.v25 d L v fn = v (entry L 1) := word_eq d L v fn _ 1 slices_S16_o1_S1
  have hw2 : tile_run.sl.v49 d L v fn = v (entry L 2) := word_eq d L v fn _ 2 slices_S16_o2_S1
  have hw3 : tile_run.sl.v73 d L v fn = v (entry L 3) := word_eq d L v fn _ 3 slices_S16_o3_S1
  have hw4 : tile_run.sl.v97 d L v fn = v (entry L 4) := word_eq d L v fn _ 4 slices_S16_o4_S1
  have hw5 : tile_run.sl.v121 d L v fn = v (entry L 5) := word_eq d L v fn _ 5 slices_S16_o5_S1
  have hA0 : tile_run.sl.dma1_2 d L x v hv fn fa = tile_run.sl.dma1 d L x v hv fn := by
    delta tile_run.sl.dma1_2
    exact View.read_write_univ (v := (aV).view) _ _
  have hB0 : tile_run.sl.dma1 d L x v hv fn = View.read (Elt F) (xK (k3_off2 (tile_run.sl.v7 d L v fn)) (k3_off2_inb _ (chk1 (hw0 ▸ hv _)))).view x := by
    delta tile_run.sl.dma1
    rfl
  ihave Hd0 := (block_done (F := F) d L 0 (k3_off5 L) (k3_off5_inb L) (pOff5 L) (k3_off2 (tile_run.sl.v7 d L v fn))
    (k3_off2_inb _ (chk1 (hw0 ▸ hv _))) x v fo (tile_run.sl.dma1_2 d L x v hv fn fa) (vec4_ext rfl (congrArg BitVec.toNat hw0)) (hA0.trans hB0)) $$ Ho0'
  have hA1 : tile_run.sl.dma1_4 d L x v hv fn fb = tile_run.sl.dma1_1 d L x v hv fn := by
    delta tile_run.sl.dma1_4
    exact View.read_write_univ (v := (bV).view) _ _
  have hB1 : tile_run.sl.dma1_1 d L x v hv fn = View.read (Elt F) (xK (k3_off3 (tile_run.sl.v7 d L v fn)) (k3_off3_inb _ (chk2 (hw0 ▸ hv _)))).view x := by
    delta tile_run.sl.dma1_1
    rfl
  ihave Hd1 := (block_done (F := F) d L 1 (k3_off8 L) (k3_off8_inb L) (pOff8 L) (k3_off3 (tile_run.sl.v7 d L v fn))
    (k3_off3_inb _ (chk2 (hw0 ▸ hv _))) x v fo (tile_run.sl.dma1_4 d L x v hv fn fb) (vec4_ext rfl (congrArg BitVec.toNat hw0)) (hA1.trans hB1)) $$ Ho1'
  have hA2 : tile_run.sl.dma1_6 d L x v hv fn fa = tile_run.sl.dma1_3 d L x v hv fn := by
    delta tile_run.sl.dma1_6
    exact View.read_write_univ (v := (aV).view) _ _
  have hB2 : tile_run.sl.dma1_3 d L x v hv fn = View.read (Elt F) (xK (k3_off6 (tile_run.sl.v25 d L v fn)) (k3_off6_inb _ (chk3 (hw1 ▸ hv _)))).view x := by
    delta tile_run.sl.dma1_3
    rfl
  ihave Hd2 := (block_done (F := F) d L 2 (k3_off11 L) (k3_off11_inb L) (pOff11 L) (k3_off6 (tile_run.sl.v25 d L v fn))
    (k3_off6_inb _ (chk3 (hw1 ▸ hv _))) x v fo (tile_run.sl.dma1_6 d L x v hv fn fa) (vec4_ext rfl (congrArg BitVec.toNat hw1)) (hA2.trans hB2)) $$ Ho2'
  have hA3 : tile_run.sl.dma1_8 d L x v hv fn fb = tile_run.sl.dma1_5 d L x v hv fn := by
    delta tile_run.sl.dma1_8
    exact View.read_write_univ (v := (bV).view) _ _
  have hB3 : tile_run.sl.dma1_5 d L x v hv fn = View.read (Elt F) (xK (k3_off9 (tile_run.sl.v25 d L v fn)) (k3_off9_inb _ (chk4 (hw1 ▸ hv _)))).view x := by
    delta tile_run.sl.dma1_5
    rfl
  ihave Hd3 := (block_done (F := F) d L 3 (k3_off14 L) (k3_off14_inb L) (pOff14 L) (k3_off9 (tile_run.sl.v25 d L v fn))
    (k3_off9_inb _ (chk4 (hw1 ▸ hv _))) x v fo (tile_run.sl.dma1_8 d L x v hv fn fb) (vec4_ext rfl (congrArg BitVec.toNat hw1)) (hA3.trans hB3)) $$ Ho3'
  have hA4 : tile_run.sl.dma1_10 d L x v hv fn fa = tile_run.sl.dma1_7 d L x v hv fn := by
    delta tile_run.sl.dma1_10
    exact View.read_write_univ (v := (aV).view) _ _
  have hB4 : tile_run.sl.dma1_7 d L x v hv fn = View.read (Elt F) (xK (k3_off12 (tile_run.sl.v49 d L v fn)) (k3_off12_inb _ (chk5 (hw2 ▸ hv _)))).view x := by
    delta tile_run.sl.dma1_7
    rfl
  ihave Hd4 := (block_done (F := F) d L 4 (k3_off17 L) (k3_off17_inb L) (pOff17 L) (k3_off12 (tile_run.sl.v49 d L v fn))
    (k3_off12_inb _ (chk5 (hw2 ▸ hv _))) x v fo (tile_run.sl.dma1_10 d L x v hv fn fa) (vec4_ext rfl (congrArg BitVec.toNat hw2)) (hA4.trans hB4)) $$ Ho4'
  have hA5 : tile_run.sl.dma1_12 d L x v hv fn fb = tile_run.sl.dma1_9 d L x v hv fn := by
    delta tile_run.sl.dma1_12
    exact View.read_write_univ (v := (bV).view) _ _
  have hB5 : tile_run.sl.dma1_9 d L x v hv fn = View.read (Elt F) (xK (k3_off15 (tile_run.sl.v49 d L v fn)) (k3_off15_inb _ (chk6 (hw2 ▸ hv _)))).view x := by
    delta tile_run.sl.dma1_9
    rfl
  ihave Hd5 := (block_done (F := F) d L 5 (k3_off20 L) (k3_off20_inb L) (pOff20 L) (k3_off15 (tile_run.sl.v49 d L v fn))
    (k3_off15_inb _ (chk6 (hw2 ▸ hv _))) x v fo (tile_run.sl.dma1_12 d L x v hv fn fb) (vec4_ext rfl (congrArg BitVec.toNat hw2)) (hA5.trans hB5)) $$ Ho5'
  have hA6 : tile_run.sl.dma1_14 d L x v hv fn fa = tile_run.sl.dma1_11 d L x v hv fn := by
    delta tile_run.sl.dma1_14
    exact View.read_write_univ (v := (aV).view) _ _
  have hB6 : tile_run.sl.dma1_11 d L x v hv fn = View.read (Elt F) (xK (k3_off18 (tile_run.sl.v73 d L v fn)) (k3_off18_inb _ (chk7 (hw3 ▸ hv _)))).view x := by
    delta tile_run.sl.dma1_11
    rfl
  ihave Hd6 := (block_done (F := F) d L 6 (k3_off23 L) (k3_off23_inb L) (pOff23 L) (k3_off18 (tile_run.sl.v73 d L v fn))
    (k3_off18_inb _ (chk7 (hw3 ▸ hv _))) x v fo (tile_run.sl.dma1_14 d L x v hv fn fa) (vec4_ext rfl (congrArg BitVec.toNat hw3)) (hA6.trans hB6)) $$ Ho6'
  have hA7 : tile_run.sl.dma1_16 d L x v hv fn fb = tile_run.sl.dma1_13 d L x v hv fn := by
    delta tile_run.sl.dma1_16
    exact View.read_write_univ (v := (bV).view) _ _
  have hB7 : tile_run.sl.dma1_13 d L x v hv fn = View.read (Elt F) (xK (k3_off21 (tile_run.sl.v73 d L v fn)) (k3_off21_inb _ (chk8 (hw3 ▸ hv _)))).view x := by
    delta tile_run.sl.dma1_13
    rfl
  ihave Hd7 := (block_done (F := F) d L 7 (k3_off26 L) (k3_off26_inb L) (pOff26 L) (k3_off21 (tile_run.sl.v73 d L v fn))
    (k3_off21_inb _ (chk8 (hw3 ▸ hv _))) x v fo (tile_run.sl.dma1_16 d L x v hv fn fb) (vec4_ext rfl (congrArg BitVec.toNat hw3)) (hA7.trans hB7)) $$ Ho7'
  have hA8 : tile_run.sl.dma1_18 d L x v hv fn fa = tile_run.sl.dma1_15 d L x v hv fn := by
    delta tile_run.sl.dma1_18
    exact View.read_write_univ (v := (aV).view) _ _
  have hB8 : tile_run.sl.dma1_15 d L x v hv fn = View.read (Elt F) (xK (k3_off24 (tile_run.sl.v97 d L v fn)) (k3_off24_inb _ (chk9 (hw4 ▸ hv _)))).view x := by
    delta tile_run.sl.dma1_15
    rfl
  ihave Hd8 := (block_done (F := F) d L 8 (k3_off29 L) (k3_off29_inb L) (pOff29 L) (k3_off24 (tile_run.sl.v97 d L v fn))
    (k3_off24_inb _ (chk9 (hw4 ▸ hv _))) x v fo (tile_run.sl.dma1_18 d L x v hv fn fa) (vec4_ext rfl (congrArg BitVec.toNat hw4)) (hA8.trans hB8)) $$ Ho8'
  have hA9 : tile_run.sl.dma1_20 d L x v hv fn fb = tile_run.sl.dma1_17 d L x v hv fn := by
    delta tile_run.sl.dma1_20
    exact View.read_write_univ (v := (bV).view) _ _
  have hB9 : tile_run.sl.dma1_17 d L x v hv fn = View.read (Elt F) (xK (k3_off27 (tile_run.sl.v97 d L v fn)) (k3_off27_inb _ (chk10 (hw4 ▸ hv _)))).view x := by
    delta tile_run.sl.dma1_17
    rfl
  ihave Hd9 := (block_done (F := F) d L 9 (k3_off32 L) (k3_off32_inb L) (pOff32 L) (k3_off27 (tile_run.sl.v97 d L v fn))
    (k3_off27_inb _ (chk10 (hw4 ▸ hv _))) x v fo (tile_run.sl.dma1_20 d L x v hv fn fb) (vec4_ext rfl (congrArg BitVec.toNat hw4)) (hA9.trans hB9)) $$ Ho9'
  have hA10 : tile_run.sl.dma1_22 d L x v hv fn fa = tile_run.sl.dma1_19 d L x v hv fn := by
    delta tile_run.sl.dma1_22
    exact View.read_write_univ (v := (aV).view) _ _
  have hB10 : tile_run.sl.dma1_19 d L x v hv fn = View.read (Elt F) (xK (k3_off30 (tile_run.sl.v121 d L v fn)) (k3_off30_inb _ (chk11 (hw5 ▸ hv _)))).view x := by
    delta tile_run.sl.dma1_19
    rfl
  ihave Hd10 := (block_done (F := F) d L 10 (k3_off35 L) (k3_off35_inb L) (pOff35 L) (k3_off30 (tile_run.sl.v121 d L v fn))
    (k3_off30_inb _ (chk11 (hw5 ▸ hv _))) x v fo (tile_run.sl.dma1_22 d L x v hv fn fa) (vec4_ext rfl (congrArg BitVec.toNat hw5)) (hA10.trans hB10)) $$ Ho10'
  have hA11 : tile_run.sl.dma1_23 d L x v hv fn fb = tile_run.sl.dma1_21 d L x v hv fn := by
    delta tile_run.sl.dma1_23
    exact View.read_write_univ (v := (bV).view) _ _
  have hB11 : tile_run.sl.dma1_21 d L x v hv fn = View.read (Elt F) (xK (k3_off33 (tile_run.sl.v121 d L v fn)) (k3_off33_inb _ (chk12 (hw5 ▸ hv _)))).view x := by
    delta tile_run.sl.dma1_21
    rfl
  ihave Hd11 := (block_done (F := F) d L 11 (k3_off36 L) (k3_off36_inb L) (pOff36 L) (k3_off33 (tile_run.sl.v121 d L v fn))
    (k3_off33_inb _ (chk12 (hw5 ▸ hv _))) x v fo (tile_run.sl.dma1_23 d L x v hv fn fb) (vec4_ext rfl (congrArg BitVec.toNat hw5)) (hA11.trans hB11)) $$ Ho11'
  sl_step
  isplitl [Hx' Hi' Hd0 Hd1 Hd2 Hd3 Hd4 Hd5 Hd6 Hd7 Hd8 Hd9 Hd10 Hd11]
  · isplitl [Hx']; · iexact Hx'
    isplitl [Hi']; · iexact Hi'
    rw [sep12]
    isplitl [Hd0]; · iexact Hd0
    isplitl [Hd1]; · iexact Hd1
    isplitl [Hd2]; · iexact Hd2
    isplitl [Hd3]; · iexact Hd3
    isplitl [Hd4]; · iexact Hd4
    isplitl [Hd5]; · iexact Hd5
    isplitl [Hd6]; · iexact Hd6
    isplitl [Hd7]; · iexact Hd7
    isplitl [Hd8]; · iexact Hd8
    isplitl [Hd9]; · iexact Hd9
    isplitl [Hd10]; · iexact Hd10
    iexact Hd11
  isplitl [Hn' Ha' Hb' Hbufs]
  · isplitl [Hn']; · iexists _; iexact Hn'
    isplitl [Ha']; · iexists _; iexact Ha'
    isplitl [Hb']; · iexists _; iexact Hb'
    iexact Hbufs
  isplitl [Hs0 Hs1 Hs2 Hs3 Hs4 Hs5 Hs6 Hs7 Hs8 Hs9 Hs10 Hs11 Hs12 Hs13 Hs14 Hsems]
  · isplitr [Hsems]
    · isplitl [Hs0]; · iexact Hs0
      isplitl [Hs1]; · iexact Hs1
      isplitl [Hs2]; · iexact Hs2
      isplitl [Hs3]; · iexact Hs3
      isplitl [Hs4]; · iexact Hs4
      isplitl [Hs5]; · iexact Hs5
      isplitl [Hs6]; · iexact Hs6
      isplitl [Hs7]; · iexact Hs7
      isplitl [Hs8]; · iexact Hs8
      isplitl [Hs9]; · iexact Hs9
      isplitl [Hs10]; · iexact Hs10
      isplitl [Hs11]; · iexact Hs11
      isplitl [Hs12]; · iexact Hs12
      isplitl [Hs13]; · iexact Hs13
      iexact Hs14
    iexact Hsems
  iexists _; isplitr
  swap; · iexact HO
  ipureintro; intro p hp
  repeat (rcases Finset.mem_insert.mp hp with hp | hp; · exact .inr (hp ▸ rfl))
  exact .inl hp

end Tile

end Cert.Proof.KernelGather

end
-- ==== Proof.KernelDeal.lean ====
/-
  How the two SparseCore calls' arrays are dealt to their thirty-two tasks and come back, and the steps of the program
  between the two calls: the two TensorCore regions and the reshape.
-/
module

public import proofs.«01_k».proof.Proof.EnergyRun
public import proofs.«01_k».proof.Proof.KernelGatherRun
public import proofs.«01_k».proof.Proof.TensorEnergy

@[expose] public section

noncomputable section

namespace Cert.Proof.KernelLaunch

open Cert.KernelIdeal Cert.KernelIdeal.Gen
open Cert.Proof.KernelIdeal (ΛP K D 𝒱₀ 𝒱 v₀ UH UP UU EH EP eSet eLoc mem_eSet lanesOf)
open Cert.Proof.KernelGather (xLoc iLoc oLoc pSet mem_pSet gathered ListOK)
open Cert.Proof.KernelSelect (debt)

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

open Idealize.ShloMosaic.Transfers (shareTok shareDrop)

local notation "𝕄" => MT nD τ sig (HIx 2) (Elt F) ℕ UU ℕ

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The tasks -/

def coords0 (c : Fin (grid0.bound 0)) (s : Fin (grid0.bound 1)) : grid0.Coords :=
  fun | 0 => c | 1 => s | ⟨_ + 2, h⟩ => absurd h (Nat.not_lt.2 (Nat.le_add_left _ _))
def coords3 (c : Fin (grid3.bound 0)) (s : Fin (grid3.bound 1)) : grid3.Coords :=
  fun | 0 => c | 1 => s | ⟨_ + 2, h⟩ => absurd h (Nat.not_lt.2 (Nat.le_add_left _ _))

/-- The number of the task at SparseCore `c`, subcore `s`, in the two calls. -/
abbrev wOf (c : Fin 2) (s : Fin 16) : Fin 32 := Cert.Proof.KernelGather.wid (coords3 c s)

theorem wOf_energy (c : Fin 2) (s : Fin 16) : Cert.Proof.KernelIdeal.wid (coords0 c s) = wOf c s := rfl

def taskEquiv : Fin 2 × Fin 16 ≃ Fin 32 := (Equiv.prodComm _ _).trans finProdFinEquiv

theorem taskEquiv_apply (c : Fin 2) (s : Fin 16) : taskEquiv (c, s) = wOf c s := Fin.ext (by
  show c.val + 2 * s.val = 2 * s.val + c.val
  omega)

theorem bigSep_tasks (Φ : Fin 32 → sProp 𝕄) :
    bigSep Finset.univ Φ = bigSep Finset.univ fun c : Fin 2 => bigSep Finset.univ fun s : Fin 16 => Φ (wOf c s) := by
  rw [bigSep_univ_equiv taskEquiv Φ, bigSep_univ_prod]
  refine bigSep_congr fun c _ => bigSep_congr fun s _ => ?_
  rw [taskEquiv_apply]

theorem toks {ℓ : Loc nD τ sig} (f : Buf (Elt F) ℓ) :
    (ℓ ↦{fullShare} f : sProp 𝕄) = iprop((ℓ ↦{shareDrop fullShare 32} f)
      ∗ bigSep Finset.univ fun c : Fin 2 => bigSep Finset.univ fun s : Fin 16 => ℓ ↦{shareTok fullShare 32 (wOf c s)} f) := by
  rw [BI.Entails.antisymm (Transfers.pointsTo_toks_split (ℓ := ℓ) (S := Finset.univ) (f := f) fullShare 32) (Transfers.pointsTo_toks_join fullShare 32),
    bigSep_tasks]

/-! ## The energy call's arrays -/

/-- What task `w` is handed, its sixteen rows of lane sums holding `fo`. -/
abbrev goE (d : Dev nD) (w : Fin 32) (x : Buf (Elt F) (xLoc d)) (fo : Buf (Elt F) (eLoc d)) : sProp 𝕄 :=
  iprop((xLoc d ↦{shareTok fullShare 32 w} x) ∗ eLoc d ↦[eSet w]{fullShare} fo)

theorem rows_disjoint : ∀ a ∈ (Finset.univ : Finset (Fin 32)), ∀ b ∈ (Finset.univ : Finset (Fin 32)), a ≠ b → Disjoint (eSet a) (eSet b) := by
  intro a _ b _ hab
  rw [Finset.disjoint_left]
  intro j ha hb
  rw [mem_eSet] at ha hb
  exact hab (Fin.ext (ha.symm.trans hb))

theorem rows_cover : (Finset.univ : Finset (Fin 32)).biUnion (fun a => eSet a) = Finset.univ := by
  ext j
  have h0 : (j 0).val < 512 := (j 0).isLt
  simp only [Finset.mem_biUnion, Finset.mem_univ, true_and, iff_true]
  exact ⟨⟨(j 0).val / 16, by omega⟩, (mem_eSet _ _).mpr rfl⟩

theorem rows (d : Dev nD) (f : Buf (Elt F) (eLoc d)) :
    (eLoc d ↦{fullShare} f : sProp 𝕄) = bigSep Finset.univ fun c : Fin 2 => bigSep Finset.univ fun s : Fin 16 => eLoc d ↦[eSet (wOf c s)]{fullShare} f := by
  rw [← bigSep_tasks (F := F) (fun w => eLoc d ↦[eSet w]{fullShare} f),
    ← pointsTo_biUnion Finset.univ (ℓ := eLoc d) (fun a : Fin 32 => eSet a) rows_disjoint, rows_cover]

theorem dealtE (d : Dev nD) (x : Buf (Elt F) (xLoc d)) (f : Buf (Elt F) (eLoc d)) :
    (iprop((xLoc d ↦{fullShare} x) ∗ eLoc d ↦{fullShare} f) : sProp 𝕄)
      = iprop((xLoc d ↦{shareDrop fullShare 32} x)
          ∗ bigSep Finset.univ fun c : Fin 2 => bigSep Finset.univ fun s : Fin 16 => goE d (wOf c s) x f) := by
  rw [toks x, rows]
  have e : (bigSep Finset.univ fun c : Fin 2 => bigSep Finset.univ fun s : Fin 16 => goE d (wOf c s) x f : sProp 𝕄)
      = iprop((bigSep Finset.univ fun c : Fin 2 => bigSep Finset.univ fun s : Fin 16 => xLoc d ↦{shareTok fullShare 32 (wOf c s)} x)
        ∗ bigSep Finset.univ fun c : Fin 2 => bigSep Finset.univ fun s : Fin 16 => eLoc d ↦[eSet (wOf c s)]{fullShare} f) := by
    rw [← bigSep_sep']
    exact bigSep_congr fun c _ => bigSep_sep' _ _ _
  rw [e]
  apply BI.Entails.antisymm
  · change BIBase.Entails (PROP := sProp 𝕄) _ _
    iintro ⟨⟨A, B⟩, C⟩
    isplitl [A]; · iexact A
    isplitl [B] <;> iassumption
  · change BIBase.Entails (PROP := sProp 𝕄) _ _
    iintro ⟨A, B, C⟩
    isplitl [A B]
    · isplitl [A] <;> iassumption
    iexact C

/-! ## The gather call's arrays -/

/-- What task `w` is handed, the blocks of the result holding `fo`: its share of `x` and of the list, its twelve blocks. -/
abbrev goW (d : Dev nD) (w : Fin 32) (x : Buf (Elt F) (xLoc d)) (v : Buf (Elt F) (iLoc d)) (fo : Buf (Elt F) (oLoc d)) : sProp 𝕄 :=
  iprop((xLoc d ↦{shareTok fullShare 32 w} x) ∗ (iLoc d ↦{shareTok fullShare 32 w} v)
    ∗ bigSep Finset.univ fun p : Fin 12 => oLoc d ↦[pSet w p]{fullShare} fo)

theorem blocks_disjoint : ∀ a ∈ (Finset.univ : Finset (Fin 32 × Fin 12)), ∀ b ∈ (Finset.univ : Finset (Fin 32 × Fin 12)), a ≠ b →
    Disjoint (pSet a.1 a.2) (pSet b.1 b.2) := by
  intro a _ b _ hab
  rw [Finset.disjoint_left]
  intro j ha hb
  rw [mem_pSet] at ha hb
  have ha2 := a.2.isLt; have hb2 := b.2.isLt
  refine hab (Prod.ext (Fin.ext ?_) (Fin.ext ?_)) <;> omega

theorem blocks_cover : (Finset.univ : Finset (Fin 32 × Fin 12)).biUnion (fun a => pSet a.1 a.2) = Finset.univ := by
  ext j
  have h0 : (j 0).val < 16 := (j 0).isLt
  have h1 : (j 1).val < 192 := (j 1).isLt
  simp only [Finset.mem_biUnion, Finset.mem_univ, true_and, iff_true]
  refine ⟨(⟨(j 1).val / 6, by omega⟩, ⟨2 * ((j 1).val % 6) + (j 0).val / 8, by omega⟩), ?_⟩
  rw [mem_pSet]
  constructor
  · show (j 0).val / 8 = (2 * ((j 1).val % 6) + (j 0).val / 8) % 2
    omega
  · show (j 1).val = 6 * ((j 1).val / 6) + (2 * ((j 1).val % 6) + (j 0).val / 8) / 2
    omega

theorem blocks (d : Dev nD) (f : Buf (Elt F) (oLoc d)) :
    (oLoc d ↦{fullShare} f : sProp 𝕄) = bigSep Finset.univ fun c : Fin 2 => bigSep Finset.univ fun s : Fin 16 =>
      bigSep Finset.univ fun p : Fin 12 => oLoc d ↦[pSet (wOf c s) p]{fullShare} f := by
  rw [← bigSep_tasks (F := F) (fun w => bigSep Finset.univ fun p : Fin 12 => oLoc d ↦[pSet w p]{fullShare} f),
    ← bigSep_univ_prod (fun a : Fin 32 × Fin 12 => (oLoc d ↦[pSet a.1 a.2]{fullShare} f : sProp 𝕄)),
    ← pointsTo_biUnion Finset.univ (ℓ := oLoc d) (fun a : Fin 32 × Fin 12 => pSet a.1 a.2) blocks_disjoint, blocks_cover]

/-- The three arrays, whole, are what is left of the shares and what the tasks are handed. -/
theorem dealt (d : Dev nD) (x : Buf (Elt F) (xLoc d)) (v : Buf (Elt F) (iLoc d)) (f : Buf (Elt F) (oLoc d)) :
    (iprop((xLoc d ↦{fullShare} x) ∗ (iLoc d ↦{fullShare} v) ∗ oLoc d ↦{fullShare} f) : sProp 𝕄)
      = iprop(((xLoc d ↦{shareDrop fullShare 32} x) ∗ iLoc d ↦{shareDrop fullShare 32} v)
          ∗ bigSep Finset.univ fun c : Fin 2 => bigSep Finset.univ fun s : Fin 16 => goW d (wOf c s) x v f) := by
  rw [toks x, toks v, blocks]
  have e : (bigSep Finset.univ fun c : Fin 2 => bigSep Finset.univ fun s : Fin 16 => goW d (wOf c s) x v f : sProp 𝕄)
      = iprop((bigSep Finset.univ fun c : Fin 2 => bigSep Finset.univ fun s : Fin 16 => xLoc d ↦{shareTok fullShare 32 (wOf c s)} x)
        ∗ (bigSep Finset.univ fun c : Fin 2 => bigSep Finset.univ fun s : Fin 16 => iLoc d ↦{shareTok fullShare 32 (wOf c s)} v)
        ∗ bigSep Finset.univ fun c : Fin 2 => bigSep Finset.univ fun s : Fin 16 => bigSep Finset.univ fun p : Fin 12 => oLoc d ↦[pSet (wOf c s) p]{fullShare} f) := by
    rw [← bigSep_sep', ← bigSep_sep']
    refine bigSep_congr fun c _ => ?_
    rw [← bigSep_sep', ← bigSep_sep']
  rw [e]
  apply BI.Entails.antisymm
  · change BIBase.Entails (PROP := sProp 𝕄) _ _
    iintro ⟨⟨A, B⟩, ⟨C, E⟩, G⟩
    isplitl [A C]
    · isplitl [A] <;> iassumption
    isplitl [B]; · iexact B
    isplitl [E] <;> iassumption
  · change BIBase.Entails (PROP := sProp 𝕄) _ _
    iintro ⟨⟨A, C⟩, B, E, G⟩
    isplitl [A B]
    · isplitl [A] <;> iassumption
    isplitr [G]
    · isplitl [C] <;> iassumption
    iexact G

/-! ## The TensorCore's arrays -/

theorem unscopedBufs_eq (d : Dev nD) (W : (b : Ref sig .tc) → Buf (Elt F) ((d.tc : Thread nD τ).loc b)) :
    (unscopedBufs d W : sProp 𝕄) = iprop((xLoc d ↦{fullShare} W main_arg0) ∗ (eLoc d ↦{fullShare} W main_v0)
      ∗ (((SparseCore.T d).loc main_v1) ↦{fullShare} W main_v1) ∗ (((SparseCore.T d).loc main_v2) ↦{fullShare} W main_v2)
      ∗ (iLoc d ↦{fullShare} W main_v3) ∗ oLoc d ↦{fullShare} W main_v4) := by
  unfold unscopedBufs
  rw [show (Finset.univ.filter fun b : Ref sig .tc => ¬ b.isScoped) = {main_arg0, main_v0, main_v1, main_v2, main_v3, main_v4} by decide,
    SparseCore.bigSep_insert' (by decide), SparseCore.bigSep_insert' (by decide), SparseCore.bigSep_insert' (by decide),
    SparseCore.bigSep_insert' (by decide), SparseCore.bigSep_insert' (by decide), bigSep_singleton]

/-! ## The regions and the reshape -/

section Steps
variable [FloatOps F]

abbrev adm : (p : Fin 2) → (pcfgs (F := F) p).Adm := fun p => (cfgs p).toPCfg_adm

/-- A pipeline's ghost state on a core. -/
abbrev ghost (p : Fin 2) (d : Dev nD) : sProp 𝕄 :=
  iprop(Pipeline.cellsGhost (Pipeline.pin (pcfgs (F := F)) adm) EP p d ∗ Pipeline.toksInit (Pipeline.pin (pcfgs (F := F)) adm) EP p d)

variable (V Vp : (c : Dev nD) → (b : Ref sig .tc) → Buf (Elt F) ((c.tc : Thread nD τ).loc b))

theorem energy_region [∀ e, Nonempty (Elt F e)] (hout : ∀ c, Vp c main_v1 = KernelEnergy.left V c) (hne : ∀ c (b : Ref sig .tc), b ≠ main_v1 → Vp c b = V c b)
    (d : Dev nD) (Φ : PUnit → sProp 𝕄) :
    iprop((iprop(boundary (T d) ∗ unscopedBufs d (Vp d) ∗ debt (F := F) d) -∗ Φ ⟨⟩)
        ∗ boundary (T d) ∗ (unscopedBufs d (V d) ∗ debt (F := F) d) ∗ levAts (K (F := F)).L (K (F := F)).lev ∗ ghost (F := F) 0 d)
      ⊢ wp frame (wpE ((K (F := F)).defs (D (F := F))) 𝒱 (T d) none) Set.univ
          (Prog.lift (.customCall (SparseCore.inner (Pipeline.entry 0)) ())) Φ := by
  have h := Pipeline.RegionSeg.wp (pcfgs (F := F)) adm (KernelEnergy.pdats V adm) none cellOf_inj EP defs₀ 𝒱₀ (K (F := F)).L (K (F := F)).lev
    (KernelEnergy.reg V adm Vp hout hne) d none (fun _ h => nomatch h) (fun _ => .ret ⟨⟩) Φ
  have h2 := (K (F := F)).wp_liftProg (D (F := F)) 𝒱 (T d) Set.univ none (.op (.customCall (Pipeline.entry 0) ()) fun _ => .ret ⟨⟩) Φ
  refine BI.Entails.trans ?_ h2
  refine BI.Entails.trans ?_ h
  change BIBase.Entails (PROP := sProp 𝕄) _ _
  iintro ⟨Hk, H⟩
  isplitl [Hk]
  · rw [wp_ret]; iintro H; imodintro; iapply Hk; iexact H
  iexact H

theorem select_region [∀ e, Nonempty (Elt F e)] (hout : ∀ c, Vp c main_v2 = KernelSelect.left V c) (hne : ∀ c (b : Ref sig .tc), b ≠ main_v2 → Vp c b = V c b)
    (d : Dev nD) (Φ : PUnit → sProp 𝕄) :
    iprop((iprop(boundary (T d) ∗ unscopedBufs d (Vp d) ∗ debt (F := F) d) -∗ Φ ⟨⟩)
        ∗ boundary (T d) ∗ (unscopedBufs d (V d) ∗ debt (F := F) d) ∗ levAts (K (F := F)).L (K (F := F)).lev ∗ ghost (F := F) 1 d)
      ⊢ wp frame (wpE ((K (F := F)).defs (D (F := F))) 𝒱 (T d) none) Set.univ
          (Prog.lift (.customCall (SparseCore.inner (Pipeline.entry 1)) ())) Φ := by
  have h := Pipeline.RegionSeg.wp (pcfgs (F := F)) adm (KernelSelect.pdats V adm) none cellOf_inj EP defs₀ 𝒱₀ (K (F := F)).L (K (F := F)).lev
    (KernelSelect.reg V adm Vp hout hne) d none (fun _ h => nomatch h) (fun _ => .ret ⟨⟩) Φ
  have h2 := (K (F := F)).wp_liftProg (D (F := F)) 𝒱 (T d) Set.univ none (.op (.customCall (Pipeline.entry 1) ()) fun _ => .ret ⟨⟩) Φ
  refine BI.Entails.trans ?_ h2
  refine BI.Entails.trans ?_ h
  change BIBase.Entails (PROP := sProp 𝕄) _ _
  iintro ⟨Hk, H⟩
  isplitl [Hk]
  · rw [wp_ret]; iintro H; imodintro; iapply Hk; iexact H
  iexact H

end Steps

end Cert.Proof.KernelLaunch

end
-- ==== Proof.KernelLaunch.lean ====
/-
  The whole kernel run: the two SparseCore calls with the TensorCore's two regions and the reshape between them. It ends with
  the argument unchanged, every semaphore at zero and the result holding the channels that the list names.
-/
module

public import proofs.«01_k».proof.Proof.KernelDeal

@[expose] public section

noncomputable section

namespace Cert.Proof.KernelLaunch

open Cert.KernelIdeal Cert.KernelIdeal.Gen
open Cert.Proof.KernelIdeal (ΛP K D 𝒱₀ 𝒱 v₀ UH UP UU EH EP eSet eLoc mem_eSet lanesOf)
open Cert.Proof.KernelGather (xLoc iLoc oLoc pSet mem_pSet gathered ListOK)
open Cert.Proof.KernelSelect (debt)

open Idealize.ShloMosaic
open Idealize.ShloMosaic.SparseCore (S V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

open Idealize.ShloMosaic.Transfers (shareTok shareDrop)

local notation "𝕄" => MT nD τ sig (HIx 2) (Elt F) ℕ UU ℕ
local notation "xV" => (Memref.whole Cert.KernelIdeal.main_arg0_scv : Memref Cert.KernelIdeal.sig Kind.scVector Space.hbm Cert.KernelIdeal.S16x768x48x48 EltTy.f32)
local notation "eV" => (Memref.whole Cert.KernelIdeal.main_v0_scv : Memref Cert.KernelIdeal.sig Kind.scVector Space.hbm Cert.KernelIdeal.S512x16 EltTy.f32)
local notation "iV" => (Memref.whole Cert.KernelIdeal.main_v3_scv : Memref Cert.KernelIdeal.sig Kind.scVector Space.hbm Cert.KernelIdeal.S192 EltTy.i32)
local notation "oV" => (Memref.whole Cert.KernelIdeal.main_v4_scv : Memref Cert.KernelIdeal.sig Kind.scVector Space.hbm Cert.KernelIdeal.S16x192x48x48 EltTy.f32)

variable (m : (ℓ : Loc nD τ sig) → Buf (Elt F) ℓ) (ρ : Dev nD → PrngReg)

/-! ## What the arrays hold after each step -/

abbrev lanes (d : Dev nD) : Buf (Elt F) (eLoc d) := lanesOf d (m (xLoc d))
def V1 (c : Dev nD) (b : Ref sig .tc) : Buf (Elt F) ((c.tc : Thread nD τ).loc b) :=
  Function.update (fun b => m ((c.tc : Thread nD τ).loc b)) main_v0 (lanes m c) b
def V2 (c : Dev nD) (b : Ref sig .tc) : Buf (Elt F) ((c.tc : Thread nD τ).loc b) :=
  Function.update (V1 m c) main_v1 (KernelEnergy.left (V1 m) c) b
def V3 (c : Dev nD) (b : Ref sig .tc) : Buf (Elt F) ((c.tc : Thread nD τ).loc b) :=
  Function.update (V2 m c) main_v2 (KernelSelect.left (V2 m) c) b

/-- The list of the chosen channels. -/
def list (d : Dev nD) : Buf (Elt F) (iLoc d) := fun i => shapeCast S192 (KernelSelect.left (V2 m) d) shapeCasts_S1x192_S192 i

/-- What the proof asks of the launch memory: the list names channels. -/
def PreOK : Prop := ∀ d : Dev nD, ListOK (list m d)

theorem unscoped_V1 (d : Dev nD) : (unscopedBufs d (V1 m d) : sProp 𝕄) = iprop((xLoc d ↦{fullShare} m (xLoc d)) ∗ (eLoc d ↦{fullShare} lanes m d)
      ∗ (((SparseCore.T d).loc main_v1) ↦{fullShare} m ((SparseCore.T d).loc main_v1)) ∗ (((SparseCore.T d).loc main_v2) ↦{fullShare} m ((SparseCore.T d).loc main_v2))
      ∗ (iLoc d ↦{fullShare} m (iLoc d)) ∗ oLoc d ↦{fullShare} m (oLoc d)) := by
  rw [unscopedBufs_eq]; rfl

theorem unscoped_V3 (d : Dev nD) : (unscopedBufs d (V3 m d) : sProp 𝕄) = iprop((xLoc d ↦{fullShare} m (xLoc d)) ∗ (eLoc d ↦{fullShare} lanes m d)
      ∗ (((SparseCore.T d).loc main_v1) ↦{fullShare} KernelEnergy.left (V1 m) d) ∗ (((SparseCore.T d).loc main_v2) ↦{fullShare} KernelSelect.left (V2 m) d)
      ∗ (iLoc d ↦{fullShare} m (iLoc d)) ∗ oLoc d ↦{fullShare} m (oLoc d)) := by
  rw [unscopedBufs_eq]; rfl

/-! ## What passes between the threads -/

abbrev goP0 (d : Dev nD) (c : Fin 2) (s : Fin 16) : sProp 𝕄 := goE d (wOf c s) (m (xLoc d)) (m (eLoc d))
abbrev tdP0 (d : Dev nD) (c : Fin 2) (s : Fin 16) : sProp 𝕄 := goE d (wOf c s) (m (xLoc d)) (lanes m d)
abbrev goP1 (d : Dev nD) (c : Fin 2) (s : Fin 16) : sProp 𝕄 := goW d (wOf c s) (m (xLoc d)) (list m d) (m (oLoc d))
abbrev tdP1 (d : Dev nD) (c : Fin 2) (s : Fin 16) : sProp 𝕄 := goW d (wOf c s) (m (xLoc d)) (list m d) (gathered (m (xLoc d)) (list m d))

def P : (K (F := F)).Pay (nD := nD) (Val := Elt F) (Name := ℕ) (U := UU) where
  st := fun q d c => match q with | 0 => bigSep Finset.univ fun s : Fin 16 => goP0 m d c s | 1 => bigSep Finset.univ fun s : Fin 16 => goP1 m d c s
  dn := fun q d c => match q with | 0 => bigSep Finset.univ fun s : Fin 16 => tdP0 m d c s | 1 => bigSep Finset.univ fun s : Fin 16 => tdP1 m d c s
  go := fun q d c i => match q with | 0 => goP0 m d c i | 1 => goP1 m d c i
  td := fun q d c i => match q with | 0 => tdP0 m d c i | 1 => tdP1 m d c i
  x := fun _ _ => iprop(emp)

instance P_storable : (P (F := F) m).IsStorable where
  st q d c := match q with
    | 0 => (inferInstance : BI.Storable (upEmb : UEmb _ 𝕄) (bigSep Finset.univ fun s : Fin 16 => goP0 m d c s))
    | 1 => (inferInstance : BI.Storable (upEmb : UEmb _ 𝕄) (bigSep Finset.univ fun s : Fin 16 => goP1 m d c s))
  dn q d c := match q with
    | 0 => (inferInstance : BI.Storable (upEmb : UEmb _ 𝕄) (bigSep Finset.univ fun s : Fin 16 => tdP0 m d c s))
    | 1 => (inferInstance : BI.Storable (upEmb : UEmb _ 𝕄) (bigSep Finset.univ fun s : Fin 16 => tdP1 m d c s))
  go q d c i := match q with
    | 0 => (inferInstance : BI.Storable (upEmb : UEmb _ 𝕄) (goP0 m d c i))
    | 1 => (inferInstance : BI.Storable (upEmb : UEmb _ 𝕄) (goP1 m d c i))
  td q d c i := match q with
    | 0 => (inferInstance : BI.Storable (upEmb : UEmb _ 𝕄) (tdP0 m d c i))
    | 1 => (inferInstance : BI.Storable (upEmb : UEmb _ 𝕄) (tdP1 m d c i))

/-! ## The tasks' obligations -/

theorem defs₀_energy (c : Fin τ.nSC) (s : Fin τ.nSub) :
    defs₀ (F := F) (.scVector c s) 0 ()
      = SparseCore.onTile hcore0 hsub0 (fun c s => cc0__sc_energy_body (coords0 c s) xV (Memref.isWhole_whole _) eV (Memref.isWhole_whole _)
            (Memref.whole cc0_scratch0) (Memref.isWhole_whole _) (Memref.whole cc0_scratch1) (Memref.isWhole_whole _) (Memref.whole cc0_scratch2) (Memref.isWhole_whole _)
            cc0_scratch3 cc0_scratch4 cc0_scoped0) ⟨⟩ c s := rfl

theorem defs₀_gather (c : Fin τ.nSC) (s : Fin τ.nSub) :
    defs₀ (F := F) (.scVector c s) 3 ()
      = SparseCore.onTile hcore3 hsub3 (fun c s => cc3__sc_gather_body (coords3 c s) xV (Memref.isWhole_whole _) iV (Memref.isWhole_whole _) oV (Memref.isWhole_whole _)
            (Memref.whole cc3_scratch0) (Memref.isWhole_whole _) (Memref.whole cc3_scratch1) (Memref.isWhole_whole _) (Memref.whole cc3_scratch2) (Memref.isWhole_whole _)
            cc3_scratch3 cc3_scratch4 cc3_scoped0 cc3_scoped1 cc3_scoped2 cc3_scoped3 cc3_scoped4 cc3_scoped5 cc3_scoped6 cc3_scoped7 cc3_scoped8 cc3_scoped9 cc3_scoped10 cc3_scoped11 cc3_scoped12) ⟨⟩ c s := rfl

omit [FloatOps F] in
theorem obl_post {thr : Thread nD τ} {A B C : sProp 𝕄} {O : CellTallies nD τ sig (HIx 2)} {W : Waits sig (HIx 2)} {R : SemLoc sig × HIx 2 → Prop} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ R p⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl0 (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_energy]; simp only [SparseCore.onTile, hci, and_self, ↓reduceDIte]
  refine BI.Entails.trans (Q := iprop(levAts (K (F := F)).L (K (F := F)).lev ∗ goP0 m d c i
      ∗ scopedBufs (V d ((K (F := F)).core 0 c) ((K (F := F)).sub 0 i)) ∗ scopedSems0 (V d ((K (F := F)).core 0 c) ((K (F := F)).sub 0 i))
      ∗ owes (V d ((K (F := F)).core 0 c) ((K (F := F)).sub 0 i)) O W)) ?_ ?_
  · change BIBase.Entails (PROP := sProp 𝕄) _ _
    iintro ⟨Hl, -, H⟩
    isplitl [Hl]; · iexact Hl
    iexact H
  exact (Cert.Proof.KernelIdeal.tile_run d (coords0 ⟨_, hci.1⟩ ⟨_, hci.2⟩) hF _ (m (xLoc d)) (m (eLoc d)) O W hO).trans (wp_mono frame _ _ fun _ => obl_post)

set_option maxRecDepth 16384 in
theorem tileObl1 (hF : (K (F := F)).Facts) (hpre : PreOK m) : (K (F := F)).TileObl (D (F := F)) 𝒱 (P m) v₀ 1 := by
  intro d c i O W hO _ _
  simp only [show (P m).ox = fun _ _ => 0 from rfl, add_zero]
  have hci : ((K (F := F)).core 1 c).val < grid3.bound 0 ∧ ((K (F := F)).sub 1 i).val < grid3.bound 1 := ⟨c.isLt, i.isLt⟩
  change _ ⊢ wp _ _ _ (Pipeline.liftProg (defs₀ (F := F) (.scVector ((K (F := F)).core 1 c) ((K (F := F)).sub 1 i)) 3 ())) _
  refine BI.Entails.trans ?_ (Pipeline.wp_liftProg (D (F := F)) (Pipeline.defs_kernel pcfgs defs₀) 𝒱₀ _ Set.univ none _ _)
  rw [defs₀_gather]; simp only [SparseCore.onTile, hci, and_self, ↓reduceDIte]
  refine BI.Entails.trans (Q := iprop(levAts (K (F := F)).L (K (F := F)).lev ∗ goP1 m d c i
      ∗ scopedBufs (V d ((K (F := F)).core 1 c) ((K (F := F)).sub 1 i)) ∗ scopedSems0 (V d ((K (F := F)).core 1 c) ((K (F := F)).sub 1 i))
      ∗ owes (V d ((K (F := F)).core 1 c) ((K (F := F)).sub 1 i)) O W)) ?_ ?_
  · change BIBase.Entails (PROP := sProp 𝕄) _ _
    iintro ⟨Hl, -, H⟩
    isplitl [Hl]; · iexact Hl
    iexact H
  exact (Cert.Proof.KernelGather.tile_run d (coords3 ⟨_, hci.1⟩ ⟨_, hci.2⟩) hF _ _ (m (xLoc d)) (list m d) (hpre d) (m (oLoc d)) O W hO).trans (wp_mono frame _ _ fun _ => obl_post)

theorem vecSplit0 : (K (F := F)).VecSplit' (P m) 0 := by
  intro d c
  show (bigSep Finset.univ fun s : Fin 16 => goP0 m d c s) ⊢ |={Set.univ}=> iprop(
      (bigSep Finset.univ fun s : Fin 16 => goP0 m d c s)
      ∗ ((bigSep Finset.univ fun s : Fin 16 => tdP0 m d c s) -∗ (bigSep Finset.univ fun s : Fin 16 => tdP0 m d c s)))
  iintro H; imodintro
  isplitl [H]; · iexact H
  iintro H; iexact H

theorem vecSplit1 : (K (F := F)).VecSplit' (P m) 1 := by
  intro d c
  show (bigSep Finset.univ fun s : Fin 16 => goP1 m d c s) ⊢ |={Set.univ}=> iprop(
      (bigSep Finset.univ fun s : Fin 16 => goP1 m d c s)
      ∗ ((bigSep Finset.univ fun s : Fin 16 => tdP1 m d c s) -∗ (bigSep Finset.univ fun s : Fin 16 => tdP1 m d c s)))
  iintro H; imodintro
  isplitl [H]; · iexact H
  iintro H; iexact H

/-! ## The launch -/

abbrev pins : Fin 2 → Pipeline.Cfg sig Λ₀ := Pipeline.pin (pcfgs (F := F)) adm
theorem pins_inj : Function.Injective (Pipeline.cellOf (nD := nD) (τ := τ) (pins (F := F))) := cellOf_inj

def u₀ : UU := (initOf (K (F := F)).hsCells (K (F := F)).hsToks,
  (initOf (Pipeline.cells (pins (F := F)) (pins_inj (F := F))) (Pipeline.launchToks (pins (F := F)) (pins_inj (F := F))), 1))

abbrev ghosts (d : Dev nD) : sProp 𝕄 := iprop(ghost (F := F) 0 d ∗ ghost (F := F) 1 d)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ (ghosts (F := F)))
        ∗ bigSep Finset.univ fun thr : Thread nD τ => bigSep Finset.univ fun q : Fin 2 => (P m).x q thr) := by
  unfold u₀
  iintro Hu
  ihave H := (ownU_pair (initOf (K (F := F)).hsCells (K (F := F)).hsToks) _) $$ Hu
  icases H with ⟨HH, HR⟩
  ihave HR' := (own_pair_emb embR _ (1 : Counters)) $$ HR
  icases HR' with ⟨HP, -⟩
  ihave HP' := (show (BI.own (((Emb.inl : Emb UP (UP × Counters)).trans embR) (initOf (Pipeline.cells (pins (F := F)) (pins_inj (F := F))) (Pipeline.launchToks (pins (F := F)) (pins_inj (F := F))))) : sProp 𝕄)
      ⊢ BI.own (EP (initOf (Pipeline.cells (pins (F := F)) (pins_inj (F := F))) (Pipeline.launchToks (pins (F := F)) (pins_inj (F := F))))) from BI.Entails.refl _) $$ HP
  imod (Pipeline.fund_ghost (pins (F := F)) EP (pins_inj (F := F))) $$ HP' with ⟨Hg, Ht⟩
  imodintro
  isplitl [HH]; · iexact HH
  isplitl [Hg Ht]
  · have e : (bigSep Finset.univ (ghosts (F := F)) : sProp 𝕄)
        = iprop((bigSep Finset.univ fun c : Dev nD => bigSep Finset.univ fun p => Pipeline.cellsGhost (pins (F := F)) EP p c)
          ∗ (bigSep Finset.univ fun c : Dev nD => bigSep Finset.univ fun p => Pipeline.toksInit (pins (F := F)) EP p c)) := by
      rw [← bigSep_sep']
      refine bigSep_congr fun c _ => ?_
      rw [bigSep_W1, bigSep_W1]
      apply BI.Entails.antisymm
      · change BIBase.Entails (PROP := sProp 𝕄) _ _
        iintro ⟨⟨A, B⟩, C, E⟩
        isplitl [A C]
        · isplitl [A] <;> iassumption
        · isplitl [B] <;> iassumption
      · change BIBase.Entails (PROP := sProp 𝕄) _ _
        iintro ⟨⟨A, C⟩, B, E⟩
        isplitl [A B]
        · isplitl [A] <;> iassumption
        · isplitl [C] <;> iassumption
    rw [e]
    isplitl [Hg] <;> iassumption
  rw [show (bigSep Finset.univ fun thr : Thread nD τ => bigSep Finset.univ fun q : Fin 2 => (P (F := F) m).x q thr) = bigSep Finset.univ fun _ => iprop(emp) from
    bigSep_congr fun _ _ => bigSep_emp' _, bigSep_emp']
  iempintro

theorem st0_eq (d : Dev nD) : (bigSep Finset.univ fun c : Fin ((K (F := F)).nCore 0) => (P m).st 0 d c)
    = bigSep Finset.univ fun c : Fin 2 => bigSep Finset.univ fun s : Fin 16 => goP0 m d c s := rfl
theorem dn0_eq (d : Dev nD) : (bigSep Finset.univ fun c : Fin ((K (F := F)).nCore 0) => (P m).dn 0 d c)
    = bigSep Finset.univ fun c : Fin 2 => bigSep Finset.univ fun s : Fin 16 => tdP0 m d c s := rfl
theorem st1_eq (d : Dev nD) : (bigSep Finset.univ fun c : Fin ((K (F := F)).nCore 1) => (P m).st 1 d c)
    = bigSep Finset.univ fun c : Fin 2 => bigSep Finset.univ fun s : Fin 16 => goP1 m d c s := rfl
theorem dn1_eq (d : Dev nD) : (bigSep Finset.univ fun c : Fin ((K (F := F)).nCore 1) => (P m).dn 1 d c)
    = bigSep Finset.univ fun c : Fin 2 => bigSep Finset.univ fun s : Fin 16 => tdP1 m d c s := rfl

abbrev FIN (d : Dev nD) : sProp 𝕄 := iprop((xLoc d ↦{fullShare} m (xLoc d)) ∗ oLoc d ↦{fullShare} gathered (m (xLoc d)) (list m d))

/-- The two arrays of the reshape, as its rule holds them. -/
def val (d : Dev nD) : Valuation τ sig (Elt F) :=
  Function.update (fun b => m (d, b)) (Proc.devRef .tc main_v2) (KernelSelect.left (V2 m) d)

theorem held_pair (d : Dev nD) (W : Valuation τ sig (Elt F)) :
    (StableHlo.held (SparseCore.T d) {Proc.devRef .tc main_v2, Proc.devRef .tc main_v3} W : sProp 𝕄)
      = iprop((((SparseCore.T d).loc main_v2) ↦{fullShare} W (Proc.devRef .tc main_v2)) ∗ iLoc d ↦{fullShare} W (Proc.devRef .tc main_v3)) := by
  unfold StableHlo.held
  rw [SparseCore.bigSep_insert' (by decide), bigSep_singleton]

abbrev toList : HloOp τ sig (Elt F) := StableHlo.reshape main_v2 main_v3 (rfl : (.i32 : EltTy) = .i32) shapeCasts_S1x192_S192

theorem reshape_step (d : Dev nD) (W : Valuation τ sig (Elt F)) (Φ : PUnit → sProp 𝕄) :
    iprop((iprop(boundary (SparseCore.T d) ∗ (StableHlo.held (SparseCore.T d) {Proc.devRef .tc main_v2, Proc.devRef .tc main_v3} ((toList (F := F)).result W) : sProp 𝕄)) -∗ Φ ⟨⟩)
        ∗ boundary (SparseCore.T d) ∗ (StableHlo.held (SparseCore.T d) {Proc.devRef .tc main_v2, Proc.devRef .tc main_v3} W : sProp 𝕄))
      ⊢ wp frame (wpE ((K (F := F)).defs (D (F := F))) 𝒱 (SparseCore.T d) none) Set.univ
          (hlo rfl (toList (F := F)) (fun _ => .ret ⟨⟩)) Φ := by
  have h := StableHlo.wp_hlo_within (defs := (K (F := F)).defs (D (F := F))) (Name := ℕ) (U := UU) (Ix := HIx 2) 𝒱 (SparseCore.T d) none Set.univ (hp := rfl)
    (op := toList (F := F)) (k := fun _ => .ret ⟨⟩) (S := {Proc.devRef .tc main_v2, Proc.devRef .tc main_v3}) (Finset.Subset.refl _) (V := W) (Q := Φ)
  iintro ⟨Hk, H⟩
  iapply h $$ H
  rw [wp_ret]
  iintro H; imodintro; iapply Hk; iexact H

theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ ghosts (F := F) d)
      ⊢ wp frame (wpE ((K (F := F)).defs (D (F := F))) 𝒱 (SparseCore.T d) none) Set.univ (main d)
          fun _ => iprop((K (F := F)).tcSt EH d 2 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Hx, He, H1, H2, Hi, Ho⟩, Hts, -⟩, Hg0, Hg1⟩
  ihave Hlv := (SparseCore.Cfg.ctx_levAts κ) $$ Hctx
  ihave Hd := (Entails.of_eq (dealtE d (m (xLoc d)) (m (eLoc d)))) $$ [Hx He]
  · isplitl [Hx] <;> iassumption
  icases Hd with ⟨Hrest, Hgo⟩
  iapply ((K (F := F)).wp_run (D (F := F)) 𝒱 (EH := EH) (P := P m) κ d 0)
  isplitr; · iexact Hctx
  isplitl [Hst]; · iexact Hst
  isplitl [Hgo]
  · rw [st0_eq]; iexact Hgo
  iintro ⟨Hst, Hdn⟩
  ihave Hdn' := (Entails.of_eq (dn0_eq m d)) $$ Hdn
  ihave Hd := (Entails.of_eq (dealtE d (m (xLoc d)) (lanes m d)).symm) $$ [Hrest Hdn']
  · isplitl [Hrest] <;> iassumption
  icases Hd with ⟨Hx, He⟩
  ihave Hub := (Entails.of_eq (unscoped_V1 m d).symm) $$ [Hx He H1 H2 Hi Ho]
  · isplitl [Hx]; · iexact Hx
    isplitl [He]; · iexact He
    isplitl [H1]; · iexact H1
    isplitl [H2]; · iexact H2
    isplitl [Hi] <;> iassumption
  unfold SparseCore.Cfg.tcSt
  icases Hst with ⟨Howes, Hst⟩
  iapply (energy_region (V1 m) (V2 m) (fun c => Function.update_self _ _ _) (fun c b hb => Function.update_of_ne hb _ _) d _)
  isplitr [Hb Hub Howes Hg0]; swap
  · isplitl [Hb]; · iexact Hb
    isplitl [Hub Howes]; · (isplitl [Hub]; · iexact Hub); iexact Howes
    isplitr; · iexact Hlv
    iexact Hg0
  iintro ⟨Hb, Hub, Howes⟩
  iapply (select_region (V2 m) (V3 m) (fun c => Function.update_self _ _ _) (fun c b hb => Function.update_of_ne hb _ _) d _)
  isplitr [Hb Hub Howes Hg1]; swap
  · isplitl [Hb]; · iexact Hb
    isplitl [Hub Howes]; · (isplitl [Hub]; · iexact Hub); iexact Howes
    isplitr; · iexact Hlv
    iexact Hg1
  iintro ⟨Hb, Hub, Howes⟩
  ihave Hub' := (Entails.of_eq (unscoped_V3 m d)) $$ Hub
  icases Hub' with ⟨Hx, He, H1, H2, Hi, Ho⟩
  ihave Hh := (Entails.of_eq (held_pair d (val m d)).symm) $$ [H2 Hi]
  · isplitl [H2]
    · rw [show val m d (Proc.devRef .tc main_v2) = KernelSelect.left (V2 m) d from Function.update_self _ _ _]; iexact H2
    · rw [show val m d (Proc.devRef .tc main_v3) = m (iLoc d) from Function.update_of_ne (by decide) _ _]; iexact Hi
  iapply (reshape_step d (val m d) _)
  isplitr [Hb Hh]; swap
  · isplitl [Hb] <;> iassumption
  iintro ⟨Hb, Hh⟩
  ihave Hh' := (Entails.of_eq (held_pair d _)) $$ Hh
  icases Hh' with ⟨H2, Hi⟩
  have hl : (toList (F := F)).result (val m d) (Proc.devRef .tc main_v3) = list m d := by
    rw [StableHlo.reshape_result]
    funext i
    show shapeCast S192 (val m d (Proc.devRef .tc main_v2)) shapeCasts_S1x192_S192 i = _
    rw [show val m d (Proc.devRef .tc main_v2) = KernelSelect.left (V2 m) d from Function.update_self _ _ _]
    rfl
  rw [hl]
  ihave Hd := (Entails.of_eq (dealt d (m (xLoc d)) (list m d) (m (oLoc d)))) $$ [Hx Hi Ho]
  · isplitl [Hx]; · iexact Hx
    isplitl [Hi] <;> iassumption
  icases Hd with ⟨Hrest, Hgo⟩
  iapply ((K (F := F)).wp_run (D (F := F)) 𝒱 (EH := EH) (P := P m) κ d 1)
  isplitr; · iexact Hctx
  isplitl [Hst Howes]
  · unfold SparseCore.Cfg.tcSt
    isplitl [Howes]; · iexact Howes
    iexact Hst
  isplitl [Hgo]
  · rw [st1_eq]; iexact Hgo
  iintro ⟨Hst, Hdn⟩
  ihave Hdn' := (Entails.of_eq (dn1_eq m d)) $$ Hdn
  ihave Hd := (Entails.of_eq (dealt d (m (xLoc d)) (list m d) (gathered (m (xLoc d)) (list m d))).symm) $$ [Hrest Hdn']
  · isplitl [Hrest] <;> iassumption
  icases Hd with ⟨Hx, -, Ho⟩
  imodintro
  unfold SparseCore.Cfg.tcSt
  isplitl [Hst]; · iexact Hst
  isplitl [Hx Ho]
  · isplitl [Hx] <;> iassumption
  isplitl [Hb] <;> iassumption

def fq (d : Dev nD) (s' : Phys nD τ sig (Elt F)) : Prop :=
  s'.mem.mem (xLoc d) = m (xLoc d) ∧ s'.mem.mem (oLoc d) = gathered (m (xLoc d)) (list m d)

set_option maxRecDepth 16384 in
theorem hfin (d : Dev nD) (s' : Phys nD τ sig (Elt F)) : iprop(FIN m d ∗ SI s') ⊢ (⌜fq m d s'⌝ : sProp 𝕄) := by
  iintro ⟨⟨Hx, Ho⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%h1, HSI, -⟩
  ihave H := (SI_pointsTo_agree (st := s') (ℓ := oLoc d) (I := Finset.univ) (q := fullShare) (f := gathered (m (xLoc d)) (list m d))) $$ [HSI Ho]
  · isplitl [HSI] <;> iassumption
  icases H with %h3
  ipureintro; exact ⟨funext fun i => h1 i (Finset.mem_univ i), funext fun i => h3 i (Finset.mem_univ i)⟩

/-- What is claimed of a final state. -/
def QC : PUnit × MemSt nD τ sig (Elt F) → Prop := fun r =>
  (∀ c : Dev nD, r.2.mem (xLoc c) = m (xLoc c) ∧ r.2.mem (oLoc c) = gathered (m (xLoc c)) (list m c)) ∧ r.2.sem = fun _ => 0

theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq | 1 => nomatch hq)
    (fun q _ => match q with | 0 => tileObl0 m facts | 1 => tileObl1 m facts hpre)
    (fun q _ => match q with | 0 => SparseCore.Cfg.VecSplit.of_plain (vecSplit0 m) | 1 => SparseCore.Cfg.VecSplit.of_plain (vecSplit1 m))
    m ρ main (ghosts (F := F)) (FIN m) (u₀ (F := F)) (sep_elim_left.trans (hu₀ m)) (hmain m ρ) (fq m) (hfin m) (QC m) (fun _ h hz => ⟨h, hz⟩)

end Cert.Proof.KernelLaunch

end
-- ==== Proof.SelectValue.lean ====
/-
  What the selection call computes over the extended reals: entry `k` of its result is the channel that a stable
  descending sort of the energies puts at `k`.
-/
module

public import proofs.«01_k».proof.Proof.SelectRegion
public import proofs.«01_k».proof.Proof.Rank
public import Idealize.ShloMosaic.Lib.ValueIdx
public import Idealize.ShloMosaic.Lib.Pipeline.Value
public import Idealize.ShloMosaic.PureOps.Ideal.Laws

@[expose] public section

noncomputable section

namespace Cert.Proof.KernelSelect

open Cert.KernelIdeal Cert.KernelIdeal.Gen Cert.Proof.Rank
open Idealize.ShloMosaic
open Idealize.ShloMosaic.ValueIdx hiding ix1 ix2 ix3 ix4
open scoped BigOperators

/-! ## The products -/

theorem dot_256 (lhs : FVec Ideal S256x256 .f32) (rhs : FVec Ideal S1x256 .f32) (r : Fin 256) :
    matmul dot_S256x256_S1x256_S256x1_1_1_0_0_n_n none lhs rhs (constant S256x1 .f32 0x00000000#32) (ix2 (n0 := 256) (n1 := 1) r 0)
      = ∑ k : Fin 256, lhs (ix2 (n0 := 256) (n1 := 256) r k) * rhs (ix2 (n0 := 1) (n1 := 256) 0 k) := by
  refine (Ideal.matmul_constant_zero_apply _ none lhs rhs _).trans ?_
  rw [← Equiv.sum_comp (contrEquiv1 dot_S256x256_S1x256_S256x1_1_1_0_0_n_n 256 rfl rfl).symm]
  refine Finset.sum_congr rfl fun k _ => ?_
  have hk := contrEquiv1_symm_val dot_S256x256_S1x256_S256x1_1_1_0_0_n_n 256 rfl rfl k
  congr 2
  · funext a; apply Fin.ext
    match a with
    | ⟨0, _⟩ => rfl
    | ⟨1, _⟩ => exact hk
  · funext a; apply Fin.ext
    match a with
    | ⟨0, _⟩ => rfl
    | ⟨1, _⟩ => exact hk

theorem dot_col (lhs : FVec Ideal S768x1 .f32) (rhs : FVec Ideal S768x768 .f32) (c : Fin 768) :
    matmul dot_S768x1_S768x768_S1x768_0_0_1_1_n_n none lhs rhs (constant S1x768 .f32 0x00000000#32) (ix2 (n0 := 1) (n1 := 768) 0 c)
      = ∑ k : Fin 768, lhs (ix2 (n0 := 768) (n1 := 1) k 0) * rhs (ix2 (n0 := 768) (n1 := 768) k c) := by
  refine (Ideal.matmul_constant_zero_apply _ none lhs rhs _).trans ?_
  rw [← Equiv.sum_comp (contrEquiv1 dot_S768x1_S768x768_S1x768_0_0_1_1_n_n 768 rfl rfl).symm]
  refine Finset.sum_congr rfl fun k _ => ?_
  have hk := contrEquiv1_symm_val dot_S768x1_S768x768_S1x768_0_0_1_1_n_n 768 rfl rfl k
  congr 2
  · funext a; apply Fin.ext
    match a with
    | ⟨0, _⟩ => exact hk
    | ⟨1, _⟩ => rfl
  · funext a; apply Fin.ext
    match a with
    | ⟨0, _⟩ => exact hk
    | ⟨1, _⟩ => rfl

theorem dot_row (lhs : FVec Ideal S1x768 .f32) (rhs : FVec Ideal S768x768 .f32) (c : Fin 768) :
    matmul dot_S1x768_S768x768_S1x768_1_0_0_1_n_n none lhs rhs (constant S1x768 .f32 0x00000000#32) (ix2 (n0 := 1) (n1 := 768) 0 c)
      = ∑ k : Fin 768, lhs (ix2 (n0 := 1) (n1 := 768) 0 k) * rhs (ix2 (n0 := 768) (n1 := 768) k c) := by
  refine (Ideal.matmul_constant_zero_apply _ none lhs rhs _).trans ?_
  rw [← Equiv.sum_comp (contrEquiv1 dot_S1x768_S768x768_S1x768_1_0_0_1_n_n 768 rfl rfl).symm]
  refine Finset.sum_congr rfl fun k _ => ?_
  have hk := contrEquiv1_symm_val dot_S1x768_S768x768_S1x768_1_0_0_1_n_n 768 rfl rfl k
  congr 2
  · funext a; apply Fin.ext
    match a with
    | ⟨0, _⟩ => rfl
    | ⟨1, _⟩ => exact hk
  · funext a; apply Fin.ext
    match a with
    | ⟨0, _⟩ => exact hk
    | ⟨1, _⟩ => rfl

theorem dot_768 (lhs : FVec Ideal S768x768 .f32) (rhs : FVec Ideal S1x768 .f32) (r : Fin 768) :
    matmul dot_S768x768_S1x768_S768x1_1_1_0_0_n_n none lhs rhs (constant S768x1 .f32 0x00000000#32) (ix2 (n0 := 768) (n1 := 1) r 0)
      = ∑ k : Fin 768, lhs (ix2 (n0 := 768) (n1 := 768) r k) * rhs (ix2 (n0 := 1) (n1 := 768) 0 k) := by
  refine (Ideal.matmul_constant_zero_apply _ none lhs rhs _).trans ?_
  rw [← Equiv.sum_comp (contrEquiv1 dot_S768x768_S1x768_S768x1_1_1_0_0_n_n 768 rfl rfl).symm]
  refine Finset.sum_congr rfl fun k _ => ?_
  have hk := contrEquiv1_symm_val dot_S768x768_S1x768_S768x1_1_1_0_0_n_n 768 rfl rfl k
  congr 2
  · funext a; apply Fin.ext
    match a with
    | ⟨0, _⟩ => rfl
    | ⟨1, _⟩ => exact hk
  · funext a; apply Fin.ext
    match a with
    | ⟨0, _⟩ => rfl
    | ⟨1, _⟩ => exact hk

theorem dot_192 (lhs : FVec Ideal S1x768 .f32) (rhs : FVec Ideal S768x192 .f32) (c : Fin 192) :
    matmul dot_S1x768_S768x192_S1x192_1_0_0_1_n_n none lhs rhs (constant S1x192 .f32 0x00000000#32) (ix2 (n0 := 1) (n1 := 192) 0 c)
      = ∑ k : Fin 768, lhs (ix2 (n0 := 1) (n1 := 768) 0 k) * rhs (ix2 (n0 := 768) (n1 := 192) k c) := by
  refine (Ideal.matmul_constant_zero_apply _ none lhs rhs _).trans ?_
  rw [← Equiv.sum_comp (contrEquiv1 dot_S1x768_S768x192_S1x192_1_0_0_1_n_n 768 rfl rfl).symm]
  refine Finset.sum_congr rfl fun k _ => ?_
  have hk := contrEquiv1_symm_val dot_S1x768_S768x192_S1x192_1_0_0_1_n_n 768 rfl rfl k
  congr 2
  · funext a; apply Fin.ext
    match a with
    | ⟨0, _⟩ => rfl
    | ⟨1, _⟩ => exact hk
  · funext a; apply Fin.ext
    match a with
    | ⟨0, _⟩ => exact hk
    | ⟨1, _⟩ => rfl

/-! ## Words, bits and finite values -/

theorem ofBits_one : Ideal.ofBits .f32 0x3F800000#32 = 1 := by
  rw [show (1 : EReal) = ((1 : ℝ) : EReal) by norm_cast]
  simp [Ideal.ofBits, Ideal.ieee, -EReal.coe_mul]; norm_num

/-- Neither infinity. -/
def Real' (p : EReal) : Prop := p ≠ ⊤ ∧ p ≠ ⊥

theorem real_coe (r : ℝ) : Real' (r : EReal) := ⟨EReal.coe_ne_top r, EReal.coe_ne_bot r⟩

theorem Real'.sub_self {p : EReal} (h : Real' p) : p - p = 0 := EReal.sub_self h.1 h.2

theorem ofNat_eq_iff {a b : ℕ} (ha : a < 768) (hb : b < 768) : BitVec.ofNat 32 a = BitVec.ofNat 32 b ↔ a = b := by
  refine ⟨fun h => ?_, fun h => by rw [h]⟩
  have := congrArg BitVec.toNat h
  simp only [BitVec.toNat_ofNat] at this
  omega

theorem toInt_ofNat {a : ℕ} (ha : a < 768) : (BitVec.ofNat 32 a).toInt = a := by
  rw [BitVec.toInt_eq_toNat_cond, BitVec.toNat_ofNat]
  have : a % 2 ^ 32 = a := Nat.mod_eq_of_lt (by omega)
  rw [this, if_pos (by omega)]

/-- An entry of an identity matrix. -/
theorem eye_entry {a b : ℕ} (ha : a < 768) (hb : b < 768) :
    (FloatOps.sitofp .f32 ((IntOp.cmpi .eq (BitVec.ofNat 32 a) (BitVec.ofNat 32 b)).setWidth 32) : Ideal .f32) = if a = b then 1 else 0 := by
  show ((((IntOp.cmpi .eq (BitVec.ofNat 32 a) (BitVec.ofNat 32 b)).setWidth 32).toInt : ℝ) : EReal) = _
  by_cases h : a = b
  · rw [if_pos h, h]
    simp [IntOp.cmpi]
  · have : BitVec.ofNat 32 a ≠ BitVec.ofNat 32 b := fun e => h ((ofNat_eq_iff ha hb).mp e)
    rw [if_neg h]
    have hc : IntOp.cmpi .eq (BitVec.ofNat 32 a) (BitVec.ofNat 32 b) = 0#1 := by simp only [IntOp.cmpi, beq_eq_false_iff_ne.mpr this]; rfl
    rw [hc]; simp

theorem sum_eye {n : ℕ} (p : Fin n → EReal) (r : Fin n) : (∑ k : Fin n, (if r.val = k.val then (1 : EReal) else 0) * p k) = p r := by
  rw [Finset.sum_eq_single r]
  · simp
  · intro b _ hb
    rw [if_neg (fun e => hb (Fin.ext e.symm)), zero_mul]
  · intro h; exact absurd (Finset.mem_univ r) h

theorem sum_eye' {n : ℕ} (p : Fin n → EReal) (r : Fin n) : (∑ k : Fin n, p k * (if k.val = r.val then (1 : EReal) else 0)) = p r := by
  rw [Finset.sum_eq_single r]
  · simp
  · intro b _ hb
    rw [if_neg (fun e => hb (Fin.ext e)), mul_zero]
  · intro h; exact absurd (Finset.mem_univ r) h

theorem eye256 (r k : Fin 256) :
    (sitofp .f32 (extui 32 (cmpi .eq (iota .tc S256x256 32 [0] iota_S256x256_d0_w32) (iota .tc S256x256 32 [1] iota_S256x256_d1_w32)) natLt_1_32)
      : FVec Ideal S256x256 .f32) (ix2 (n0 := 256) (n1 := 256) r k) = if r.val = k.val then 1 else 0 := by
  have e := eye_entry (a := r.val) (b := k.val) (by omega) (by omega)
  rw [← e]
  show FloatOps.sitofp .f32 ((IntOp.cmpi .eq (BitVec.ofNat 32 (0 * _ + r.val)) (BitVec.ofNat 32 (0 * _ + k.val))).setWidth 32) = _
  simp only [zero_mul, zero_add]

theorem eye768 (r k : Fin 768) :
    k2_pay1 (F := Ideal) (ix2 (n0 := 768) (n1 := 768) r k) = if r.val = k.val then 1 else 0 := by
  have e := eye_entry (a := r.val) (b := k.val) r.isLt k.isLt
  rw [← e]
  show FloatOps.sitofp .f32 ((IntOp.cmpi .eq (BitVec.ofNat 32 (0 * _ + r.val)) (BitVec.ofNat 32 (0 * _ + k.val))).setWidth 32) = _
  simp only [zero_mul, zero_add]

/-! ## A product in three parts -/

theorem three_left {n : ℕ} (w p : Fin n → EReal) (hp : ∀ k, Real' (p k)) :
    ((((0 : EReal) + ∑ k, w k * p k) + ∑ k, w k * (p k - p k)) + ∑ k, w k * ((p k - p k) - (p k - p k))) = ∑ k, w k * p k := by
  have h0 : ∀ k, p k - p k = 0 := fun k => (hp k).sub_self
  simp only [h0, sub_zero, mul_zero, Finset.sum_const_zero, add_zero, zero_add]

theorem three_right {n : ℕ} (p w : Fin n → EReal) (hp : ∀ k, Real' (p k)) :
    ((((0 : EReal) + ∑ k, p k * w k) + ∑ k, (p k - p k) * w k) + ∑ k, ((p k - p k) - (p k - p k)) * w k) = ∑ k, p k * w k := by
  have h0 : ∀ k, p k - p k = 0 := fun k => (hp k).sub_self
  simp only [h0, sub_zero, zero_mul, Finset.sum_const_zero, add_zero, zero_add]

theorem three_eye {n : ℕ} (w p : Fin n → EReal) (r : Fin n) (hw : w = fun k => if r.val = k.val then (1 : EReal) else 0) (hp : ∀ k, Real' (p k)) :
    ((((0 : EReal) + ∑ k, w k * p k) + ∑ k, w k * (p k - p k)) + ∑ k, w k * ((p k - p k) - (p k - p k))) = p r := by
  rw [three_left w p hp, hw, sum_eye]

theorem three_eye' {n : ℕ} (p w : Fin n → EReal) (r : Fin n) (hw : w = fun k => if k.val = r.val then (1 : EReal) else 0) (hp : ∀ k, Real' (p k)) :
    ((((0 : EReal) + ∑ k, p k * w k) + ∑ k, (p k - p k) * w k) + ∑ k, ((p k - p k) - (p k - p k)) * w k) = p r := by
  rw [three_right p w hp, hw, sum_eye']

/-! ## The energies, as a column and as a row -/

section Energies
variable (v0 : Vec Ideal S512x16 .f32) (v14 : Vec Ideal S1x256 .f32)

/-- Channel `j`'s energy: the TensorCore's sum below 256, above it the sum of the sixteen lanes. -/
def energy (j : Fin 768) : EReal :=
  if h : j.val < 256 then v14 (ix2 (n0 := 1) (n1 := 256) 0 ⟨j.val, h⟩)
  else ∑ l : Fin 16, v0 (ix2 (n0 := 512) (n1 := 16) ⟨j.val - 256, by have := j.isLt; omega⟩ l)

theorem column_low (h14 : ∀ r : Fin 256, Real' (v14 (ix2 (n0 := 1) (n1 := 256) 0 r))) (r : Fin 256) (j : Fin 768) (hj : j.val = r.val) :
    k2_pay2 v0 v14 (ix2 (n0 := 768) (n1 := 1) j 0) = v14 (ix2 (n0 := 1) (n1 := 256) 0 r) := by
  unfold k2_pay2
  dsimp only
  refine (concatenate_pair_apply_left (t := S768x1) (s₁ := S256x1) (s₂ := S512x1) 0 _ _ _ _ rfl (ix2 (n0 := 256) (n1 := 1) r 0) ?_).trans ?_
  · intro b
    match b with
    | ⟨0, _⟩ => exact hj.symm
    | ⟨1, _⟩ => rfl
  · have hc : ∀ k : Fin 256, shapeCast S1x256 v14 shapeCasts_S1x256_S1x256 (ix2 (n0 := 1) (n1 := 256) 0 k) = v14 (ix2 (n0 := 1) (n1 := 256) 0 k) :=
      fun k => shapeCast_apply v14 _ _ _ rfl
    simp only [addf_apply, dot_256]
    have := three_eye _ (fun k => shapeCast S1x256 v14 shapeCasts_S1x256_S1x256 (ix2 (n0 := 1) (n1 := 256) 0 k)) r (funext (eye256 r))
      (fun k => by rw [hc]; exact h14 k)
    refine Eq.trans ?_ (this.trans (hc r))
    refine congrArg (fun z : EReal => z + _ + _ + _) (Ideal.ofBits_zero_f32)

theorem column_high (r : Fin 512) (j : Fin 768) (hj : j.val = r.val + 256) :
    k2_pay2 v0 v14 (ix2 (n0 := 768) (n1 := 1) j 0) = ∑ l : Fin 16, v0 (ix2 (n0 := 512) (n1 := 16) r l) := by
  unfold k2_pay2
  dsimp only
  refine (concatenate_pair_apply_right (t := S768x1) (s₁ := S256x1) (s₂ := S512x1) 0 _ _ _ _ rfl rfl (ix2 (n0 := 512) (n1 := 1) r 0) ?_ ?_).trans ?_
  · intro b hb
    match b with
    | ⟨0, _⟩ => exact absurd rfl hb
    | ⟨1, _⟩ => rfl
  · exact hj.symm
  · refine (shapeCast_apply _ _ _ (fun | ⟨0, _⟩ => r : S512.Idx) ?_).trans ?_
    · rw [Shape.rowMajor_val_one, Shape.rowMajor_val_two]
      simp
    · refine (Ideal.multiReduction_add_single (s := S512x16) (t := S512) (a := 1) _ _ _ _ _ _).trans ?_
      refine Finset.sum_congr rfl fun l _ => ?_
      refine shapeCast_apply v0 _ _ _ ?_
      congr 1

theorem column_apply (h14 : ∀ r : Fin 256, Real' (v14 (ix2 (n0 := 1) (n1 := 256) 0 r))) (j : Fin 768) :
    k2_pay2 v0 v14 (ix2 (n0 := 768) (n1 := 1) j 0) = energy v0 v14 j := by
  unfold energy
  split
  · exact column_low v0 v14 h14 _ j rfl
  · exact column_high v0 v14 _ j (by show j.val = j.val - 256 + 256; omega)

theorem row_apply (h14 : ∀ r : Fin 256, Real' (v14 (ix2 (n0 := 1) (n1 := 256) 0 r))) (he : ∀ j, Real' (energy v0 v14 j)) (j : Fin 768) :
    k2_pay3 v0 v14 (ix2 (n0 := 1) (n1 := 768) 0 j) = energy v0 v14 j := by
  unfold k2_pay3
  simp only [addf_apply, dot_col]
  have := three_eye' (fun k => k2_pay2 v0 v14 (ix2 (n0 := 768) (n1 := 1) k 0)) _ j (funext fun k => eye768 k j)
    (fun k => by rw [column_apply v0 v14 h14]; exact he k)
  refine Eq.trans ?_ (this.trans (column_apply v0 v14 h14 j))
  refine congrArg (fun z : EReal => z + _ + _ + _) (Ideal.ofBits_zero_f32)

end Energies

/-! ## Ranks -/

/-- The comparison of two energies with the tie settled by the positions, as a word and then as a number. -/
theorem ahead_entry (p q : EReal) {a b : ℕ} (ha : a < 768) (hb : b < 768) :
    Scalar.select (IntOp.ori (FloatOps.cmpf (F := Ideal) (φ := .f32) .ogt p q)
        (IntOp.andi (FloatOps.cmpf (F := Ideal) (φ := .f32) .oeq p q) (IntOp.cmpi .slt (BitVec.ofNat 32 a) (BitVec.ofNat 32 b))))
      (Ideal.ofBits .f32 0x3F800000#32) (Ideal.ofBits .f32 0x00000000#32) = if q < p ∨ (p = q ∧ a < b) then 1 else 0 := by
  have h1 : FloatOps.cmpf (F := Ideal) (φ := .f32) .ogt p q = BitVec.ofBool (decide (q < p)) := rfl
  have h2 : FloatOps.cmpf (F := Ideal) (φ := .f32) .oeq p q = BitVec.ofBool (decide (p = q)) := rfl
  have h3 : IntOp.cmpi .slt (BitVec.ofNat 32 a) (BitVec.ofNat 32 b) = BitVec.ofBool (decide (a < b)) := by
    simp only [IntOp.cmpi, BitVec.slt, toInt_ofNat ha, toInt_ofNat hb, Nat.cast_lt]
  rw [h1, h2, h3, ofBits_one, Ideal.ofBits_zero_f32]
  by_cases c1 : q < p <;> by_cases c2 : p = q <;> by_cases c3 : a < b <;> simp [c1, c2, c3, Scalar.select, IntOp.ori, IntOp.andi]

theorem eq_entry (p q : EReal) :
    Scalar.select (FloatOps.cmpf (F := Ideal) (φ := .f32) .oeq p q)
      (Ideal.ofBits .f32 0x3F800000#32) (Ideal.ofBits .f32 0x00000000#32) = if p = q then 1 else 0 := by
  have h2 : FloatOps.cmpf (F := Ideal) (φ := .f32) .oeq p q = BitVec.ofBool (decide (p = q)) := rfl
  rw [h2, ofBits_one, Ideal.ofBits_zero_f32]
  by_cases c2 : p = q <;> simp [c2, Scalar.select]

/-- A sum of zeros and ones counts the ones. -/
theorem sum_count {n : ℕ} (P : Fin n → Prop) [DecidablePred P] :
    (∑ i : Fin n, (1 : EReal) * (if P i then 1 else 0)) = (((Finset.univ.filter P).card : ℝ) : EReal) := by
  rw [Finset.card_filter]
  push_cast
  generalize (Finset.univ : Finset (Fin n)) = S
  induction S using Finset.induction_on with
  | empty => simp
  | insert a S ha ih =>
    rw [Finset.sum_insert ha, Finset.sum_insert ha, ih, EReal.coe_add, one_mul]
    split <;> simp

/-- A number of 32-bit range goes back to the word it came from. -/
theorem fptosi_nat {n : ℕ} (hn : n < 768) : Ideal.fptosi 32 (((n : ℝ)) : EReal) = BitVec.ofNat 32 n := by
  unfold Ideal.fptosi
  rw [Ideal.toIntClamped_coe, if_pos (Nat.cast_nonneg n)]
  have h : ⌊(n : ℝ)⌋ = (n : ℤ) := Int.floor_natCast n
  rw [h]
  have : max (-((2 ^ (32 - 1) : ℕ) : ℤ)) (min (((2 ^ (32 - 1) : ℕ) : ℤ) - 1) (n : ℤ)) = (n : ℤ) := by
    rw [min_eq_right (by norm_num; omega), max_eq_right (by norm_num)]
  rw [this]
  exact BitVec.ofInt_natCast 32 n

theorem sitofp_nat {n : ℕ} (hn : n < 768) : (FloatOps.sitofp .f32 (BitVec.ofNat 32 n) : Ideal .f32) = ((n : ℝ) : EReal) := by
  show ((((BitVec.ofNat 32 n).toInt : ℝ)) : EReal) = _
  rw [toInt_ofNat hn]
  norm_cast

section Stages
variable (v0 : Vec Ideal S512x16 .f32) (v14 : Vec Ideal S1x256 .f32)

/-- The comparison of every two channels. -/
def order : FVec Ideal S768x768 .f32 :=
  select (ori (k2_pay4 v0 v14) (andi (cmpf .oeq (k2_pay5 v0 v14) (broadcastTo S768x768 (k2_pay3 v0 v14) broadcasts_S1x768_S768x768))
      (cmpi .slt (iota .tc S768x768 32 [0] iota_S768x768_d0_w32) (iota .tc S768x768 32 [1] iota_S768x768_d1_w32))))
    (broadcast S768x768 (Scalar.ofBits (F := Ideal) .f32 0x3F800000#32)) (broadcast S768x768 (Scalar.ofBits (F := Ideal) .f32 0x00000000#32))

/-- The ranks, as a row. -/
def rankRow (M : FVec Ideal S768x768 .f32) : FVec Ideal S1x768 .f32 :=
  matmul dot_S1x768_S768x768_S1x768_1_0_0_1_n_n none (broadcast S1x768 (Scalar.ofBits (F := Ideal) .f32 0x3F800000#32)) M (constant S1x768 .f32 0x00000000#32)

/-- The row of ranks as a column: a product with the identity, in three parts. -/
def rankColumn (r : FVec Ideal S1x768 .f32) : FVec Ideal S768x1 .f32 :=
  addf (addf (addf (broadcast S768x1 (Scalar.ofBits (F := Ideal) .f32 0x00000000#32))
      (matmul dot_S768x768_S1x768_S768x1_1_1_0_0_n_n none (k2_pay1 (F := Ideal)) r (constant S768x1 .f32 0x00000000#32)))
      (matmul dot_S768x768_S1x768_S768x1_1_1_0_0_n_n none (k2_pay1 (F := Ideal)) (subf r r) (constant S768x1 .f32 0x00000000#32)))
      (matmul dot_S768x768_S1x768_S768x1_1_1_0_0_n_n none (k2_pay1 (F := Ideal)) (subf (subf r r) (subf r r)) (constant S768x1 .f32 0x00000000#32))

/-- Which channel has which of the first ranks. -/
def hot (c : FVec Ideal S768x1 .f32) : FVec Ideal S768x192 .f32 :=
  select (cmpf .oeq (broadcastTo S768x192 c broadcasts_S768x1_S768x192) (sitofp .f32 (iota .tc S768x192 32 [1] iota_S768x192_d1_w32)))
    (broadcast S768x192 (Scalar.ofBits (F := Ideal) .f32 0x3F800000#32)) (broadcast S768x192 (Scalar.ofBits (F := Ideal) .f32 0x00000000#32))

/-- The channels' numbers, as a row. -/
def numbers : FVec Ideal S1x768 .f32 := sitofp .f32 (iota .tc S1x768 32 [1] iota_S1x768_d1_w32)

/-- The channel of each rank: a product with the numbers, in three parts. -/
def channels (h : FVec Ideal S768x192 .f32) : FVec Ideal S1x192 .f32 :=
  addf (addf (addf (broadcast S1x192 (Scalar.ofBits (F := Ideal) .f32 0x00000000#32))
      (matmul dot_S1x768_S768x192_S1x192_1_0_0_1_n_n none numbers h (constant S1x192 .f32 0x00000000#32)))
      (matmul dot_S1x768_S768x192_S1x192_1_0_0_1_n_n none (subf numbers numbers) h (constant S1x192 .f32 0x00000000#32)))
      (matmul dot_S1x768_S768x192_S1x192_1_0_0_1_n_n none (subf (subf numbers numbers) (subf numbers numbers)) h (constant S1x192 .f32 0x00000000#32))

theorem chosen_eq : chosen v0 v14 = fptosi 32 (channels (hot (rankColumn (rankRow (order v0 v14))))) := rfl

theorem order_apply (h14 : ∀ r : Fin 256, Real' (v14 (ix2 (n0 := 1) (n1 := 256) 0 r))) (he : ∀ j, Real' (energy v0 v14 j)) (i j : Fin 768) :
    order v0 v14 (ix2 (n0 := 768) (n1 := 768) i j) = if Ahead (energy v0 v14) i j then 1 else 0 := by
  have hcol : broadcastTo S768x768 (k2_pay2 v0 v14) broadcasts_S768x1_S768x768 (ix2 (n0 := 768) (n1 := 768) i j) = energy v0 v14 i := by
    refine (broadcastTo_apply _ _ _ (ix2 (n0 := 768) (n1 := 1) i 0) ?_).trans (column_apply v0 v14 h14 i)
    intro a
    match a with
    | ⟨0, _⟩ => rfl
    | ⟨1, _⟩ => rfl
  have hrow : broadcastTo S768x768 (k2_pay3 v0 v14) broadcasts_S1x768_S768x768 (ix2 (n0 := 768) (n1 := 768) i j) = energy v0 v14 j := by
    refine (broadcastTo_apply _ _ _ (ix2 (n0 := 1) (n1 := 768) 0 j) ?_).trans (row_apply v0 v14 h14 he j)
    intro a
    match a with
    | ⟨0, _⟩ => rfl
    | ⟨1, _⟩ => rfl
  have h := ahead_entry (energy v0 v14 i) (energy v0 v14 j) i.isLt j.isLt
  have h' : (if energy v0 v14 j < energy v0 v14 i ∨ (energy v0 v14 i = energy v0 v14 j ∧ i.val < j.val) then (1 : EReal) else 0)
      = if Ahead (energy v0 v14) i j then 1 else 0 := by
    have iff : (energy v0 v14 j < energy v0 v14 i ∨ (energy v0 v14 i = energy v0 v14 j ∧ i.val < j.val)) ↔ Ahead (energy v0 v14) i j := Iff.rfl
    exact if_congr iff rfl rfl
  rw [← h', ← h, ← hcol]
  conv_rhs => rw [← hrow]
  have e0 : iota .tc S768x768 32 [0] iota_S768x768_d0_w32 (ix2 (n0 := 768) (n1 := 768) i j) = BitVec.ofNat 32 i.val := by
    show BitVec.ofNat 32 (0 * 768 + i.val) = _
    rw [zero_mul, zero_add]
  have e1 : iota .tc S768x768 32 [1] iota_S768x768_d1_w32 (ix2 (n0 := 768) (n1 := 768) i j) = BitVec.ofNat 32 j.val := by
    show BitVec.ofNat 32 (0 * 768 + j.val) = _
    rw [zero_mul, zero_add]
  rw [← e0, ← e1, hcol]
  conv_rhs => rw [← hcol]
  rfl

theorem rankRow_apply (e : Fin 768 → EReal) (M : FVec Ideal S768x768 .f32)
    (hM : ∀ i j, M (ix2 (n0 := 768) (n1 := 768) i j) = if Ahead e i j then 1 else 0) (j : Fin 768) :
    rankRow M (ix2 (n0 := 1) (n1 := 768) 0 j) = ((rank e j : ℝ) : EReal) := by
  unfold rankRow
  rw [dot_row]
  unfold rank
  rw [← sum_count]
  refine Finset.sum_congr rfl fun i _ => ?_
  rw [hM, ← ofBits_one]
  rfl

theorem rankColumn_apply (r : FVec Ideal S1x768 .f32) (hr : ∀ j : Fin 768, Real' (r (ix2 (n0 := 1) (n1 := 768) 0 j))) (j : Fin 768) :
    rankColumn r (ix2 (n0 := 768) (n1 := 1) j 0) = r (ix2 (n0 := 1) (n1 := 768) 0 j) := by
  unfold rankColumn
  simp only [addf_apply, dot_768]
  have := three_eye _ (fun k => r (ix2 (n0 := 1) (n1 := 768) 0 k)) j (funext (eye768 j)) hr
  refine Eq.trans ?_ this
  refine congrArg (fun z : EReal => z + _ + _ + _) (Ideal.ofBits_zero_f32)

theorem hot_apply (e : Fin 768 → EReal) (c : FVec Ideal S768x1 .f32)
    (hc : ∀ j : Fin 768, c (ix2 (n0 := 768) (n1 := 1) j 0) = ((rank e j : ℝ) : EReal)) (j : Fin 768) (k : Fin 192) :
    hot c (ix2 (n0 := 768) (n1 := 192) j k) = if rank e j = k.val then 1 else 0 := by
  have hk : k.val < 768 := by have := k.isLt; omega
  have hcol : broadcastTo S768x192 c broadcasts_S768x1_S768x192 (ix2 (n0 := 768) (n1 := 192) j k) = ((rank e j : ℝ) : EReal) := by
    refine (broadcastTo_apply _ _ _ (ix2 (n0 := 768) (n1 := 1) j 0) ?_).trans (hc j)
    intro a
    match a with
    | ⟨0, _⟩ => rfl
    | ⟨1, _⟩ => rfl
  have e1 : iota .tc S768x192 32 [1] iota_S768x192_d1_w32 (ix2 (n0 := 768) (n1 := 192) j k) = BitVec.ofNat 32 k.val := by
    show BitVec.ofNat 32 (0 * 192 + k.val) = _
    rw [zero_mul, zero_add]
  have hn : sitofp (F := Ideal) .f32 (iota .tc S768x192 32 [1] iota_S768x192_d1_w32) (ix2 (n0 := 768) (n1 := 192) j k) = (((k.val : ℝ)) : EReal) := by
    refine Eq.trans ?_ (sitofp_nat hk)
    exact congrArg (fun w => (FloatOps.sitofp .f32 w : Ideal .f32)) e1
  have h := eq_entry ((rank e j : ℝ) : EReal) (((k.val : ℝ)) : EReal)
  have h' : (if ((rank e j : ℝ) : EReal) = (((k.val : ℝ)) : EReal) then (1 : EReal) else 0) = if rank e j = k.val then 1 else 0 := by
    simp only [EReal.coe_eq_coe_iff, Nat.cast_inj]
  rw [← h', ← h, ← hcol, ← hn]
  rfl

theorem channels_apply (h : FVec Ideal S768x192 .f32) (k : Fin 192) (s : Fin 768)
    (hh : ∀ j : Fin 768, h (ix2 (n0 := 768) (n1 := 192) j k) = if j.val = s.val then 1 else 0) :
    channels h (ix2 (n0 := 1) (n1 := 192) 0 k) = ((s.val : ℝ) : EReal) := by
  have hn : ∀ j : Fin 768, numbers (ix2 (n0 := 1) (n1 := 768) 0 j) = ((j.val : ℝ) : EReal) := by
    intro j
    have e1 : iota .tc S1x768 32 [1] iota_S1x768_d1_w32 (ix2 (n0 := 1) (n1 := 768) 0 j) = BitVec.ofNat 32 j.val := by
      show BitVec.ofNat 32 (0 * 768 + j.val) = _
      rw [zero_mul, zero_add]
    refine Eq.trans ?_ (sitofp_nat j.isLt)
    exact congrArg (fun w => (FloatOps.sitofp .f32 w : Ideal .f32)) e1
  unfold channels
  simp only [addf_apply, dot_192]
  have := three_eye' (fun k => numbers (ix2 (n0 := 1) (n1 := 768) 0 k)) _ s (funext hh) (fun j => by rw [hn]; exact real_coe _)
  refine Eq.trans ?_ (this.trans (hn s))
  refine congrArg (fun z : EReal => z + _ + _ + _) (Ideal.ofBits_zero_f32)

/-- Entry `k` of the selection: the channel at place `k` of the stable descending order. -/
theorem chosen_apply (h14 : ∀ r : Fin 256, Real' (v14 (ix2 (n0 := 1) (n1 := 256) 0 r))) (he : ∀ j, Real' (energy v0 v14 j)) (k : Fin 192) :
    chosen v0 v14 (ix2 (n0 := 1) (n1 := 192) 0 k)
      = BitVec.ofNat 32 (sortedFrom (greater (energy v0 v14)) ⟨k.val, by have := k.isLt; omega⟩).val := by
  rw [chosen_eq]
  have hrow := rankRow_apply (energy v0 v14) _ (order_apply v0 v14 h14 he)
  have hcol : ∀ j : Fin 768, rankColumn (rankRow (order v0 v14)) (ix2 (n0 := 768) (n1 := 1) j 0) = ((rank (energy v0 v14) j : ℝ) : EReal) := fun j =>
    (rankColumn_apply _ (fun j => by rw [hrow]; exact real_coe _) j).trans (hrow j)
  have hhot := hot_apply (energy v0 v14) _ hcol
  have h := channels_apply (hot (rankColumn (rankRow (order v0 v14)))) k (sortedFrom (greater (energy v0 v14)) ⟨k.val, by have := k.isLt; omega⟩) (fun j => by
    rw [hhot]
    have := rank_eq_iff (energy v0 v14) j ⟨k.val, by have := k.isLt; omega⟩
    rw [Fin.ext_iff] at this
    by_cases c : rank (energy v0 v14) j = k.val
    · rw [if_pos c, if_pos (this.mp c)]
    · rw [if_neg c, if_neg (fun d => c (this.mpr d))])
  exact (congrArg (Ideal.fptosi 32) h).trans (fptosi_nat (Fin.isLt _))

end Stages

end Cert.Proof.KernelSelect

end
-- ==== Proof.WholeValue.lean ====
/-
  The whole kernel over the extended reals: where every number of `x` is finite, the list that it gathers by is the
  reference's, whose entries all name channels.
-/
module

public import proofs.«01_k».proof.Proof.KernelLaunch
public import proofs.«01_k».proof.Proof.SelectValue
public import proofs.«01_k».proof.Proof.EnergyValue
public import proofs.«01_k».proof.Proof.WholeReference
public import proofs.«01_k».proof.Pre_finite

@[expose] public section

noncomputable section

namespace Cert.Proof.WholeValue

open Cert.KernelIdeal Cert.KernelIdeal.Gen Idealize.ShloMosaic Cert.Proof.Rank Cert.Proof.Take
open Cert.Proof.EnergyValue (en left_apply lanes_apply en_real)
open Cert.Proof.KernelGather (xLoc)
open Cert.Proof.WholeReference (best best_lt)
open scoped BigOperators

/-! ## The precondition -/

theorem bcast_S_S16x768x48x48 : Cert.Pre_finite.S_.BroadcastsInDim Cert.Pre_finite.S16x768x48x48
    (![] : Fin 0 → Fin Cert.Pre_finite.S16x768x48x48.rank) := by decide
theorem reducesTo_S16x768x48x48_S : Cert.Pre_finite.S16x768x48x48.ReducesTo [0, 1, 2, 3] Cert.Pre_finite.S_ := by decide
theorem pos_S : 0 < Cert.Pre_finite.S_.numel := by decide

instance finiteFacts : Cert.Pre_finite.Facts where
  bcast_S_S16x768x48x48 := bcast_S_S16x768x48x48
  reducesTo_S16x768x48x48_S_d0_1_2_3 := reducesTo_S16x768x48x48_S
  h_S_ := pos_S

/-- The precondition gives every number finite. -/
theorem real_of_pre (x : S16x768x48x48.Idx → EReal) (h : Cert.Pre_finite.fn (F := Ideal) x = fun _ => 1#1) (i : S16x768x48x48.Idx) :
    x i ≠ ⊤ ∧ x i ≠ ⊥ := by
  unfold Cert.Pre_finite.fn at h
  dsimp only at h
  have e := congrFun h (fun a => a.elim0)
  have h1 := all_of_reduce_and _ _ _ _ (fun _ => rfl) _ e i (funext fun a => a.elim0)
  have h2 : BitVec.ofBool (decide (max (x i) (-(x i)) < Ideal.ofBits .f32 0x7F800000#32)) = 1#1 := h1
  have top : Ideal.ofBits .f32 0x7F800000#32 = ⊤ := by simp [Ideal.ofBits, Ideal.ieee]
  rw [top] at h2
  have h3 : max (x i) (-(x i)) < ⊤ := by
    by_contra n
    rw [decide_eq_false n] at h2
    exact absurd h2 (by decide)
  constructor
  · rintro q
    rw [q] at h3
    exact absurd h3 (by simp)
  · rintro q
    rw [q] at h3
    exact absurd h3 (by simp)

/-! ## The list -/

section List

variable (m : (ℓ : Loc nD τ sig) → Buf (Elt Ideal) ℓ) (d : Dev nD)

theorem energy_eq (j : Fin 768) :
    KernelSelect.energy (KernelLaunch.V2 m d main_v0) (KernelLaunch.V2 m d main_v1) j = en (m (xLoc d)) j := by
  have h0 : KernelLaunch.V2 m d main_v0 = KernelLaunch.lanes m d := rfl
  have h1 : KernelLaunch.V2 m d main_v1 = KernelEnergy.left (KernelLaunch.V1 m) d := rfl
  rw [h0, h1]
  unfold KernelSelect.energy
  split
  · rename_i h
    exact (left_apply (KernelLaunch.V1 m) d ⟨j.val, h⟩).trans rfl
  · rename_i h
    exact lanes_apply d (m (xLoc d)) ⟨j.val - 256, by have := j.isLt; omega⟩ j (by show j.val = j.val - 256 + 256; omega)

theorem list_eq (hx : ∀ i, m (xLoc d) i ≠ (⊤ : EReal) ∧ m (xLoc d) i ≠ (⊥ : EReal)) : KernelLaunch.list m d = best (m (xLoc d)) := by
  have he : KernelSelect.energy (KernelLaunch.V2 m d main_v0) (KernelLaunch.V2 m d main_v1) = en (m (xLoc d)) := funext (energy_eq m d)
  have h14 : ∀ r : Fin 256, KernelSelect.Real' (KernelLaunch.V2 m d main_v1 (ix2 (n0 := 1) (n1 := 256) 0 r)) := fun r => by
    have h : KernelLaunch.V2 m d main_v1 (ix2 (n0 := 1) (n1 := 256) 0 r) = (en (m (xLoc d)) ⟨r.val, by have := r.isLt; omega⟩ : EReal) :=
      (left_apply (KernelLaunch.V1 m) d r).trans rfl
    rw [h]
    exact en_real _ hx _
  funext j
  have hk : (j 0).val < 192 := (j 0).isLt
  have c := KernelSelect.chosen_apply (KernelLaunch.V2 m d main_v0) (KernelLaunch.V2 m d main_v1) h14
    (fun k => by rw [he]; exact en_real _ hx k) ⟨(j 0).val, hk⟩
  rw [he] at c
  unfold KernelLaunch.list
  refine (shapeCast_apply _ shapeCasts_S1x192_S192 j (ix2 (n0 := 1) (n1 := 192) 0 ⟨(j 0).val, hk⟩) ?_).trans ?_
  · rw [Shape.rowMajor_val_two, Shape.rowMajor_val_one]
    show 0 * 192 + (j 0).val = (j 0).val
    omega
  · rw [KernelSelect.left_eq]
    exact c

theorem list_ok (hx : ∀ i, m (xLoc d) i ≠ (⊤ : EReal) ∧ m (xLoc d) i ≠ (⊥ : EReal)) : KernelGather.ListOK (KernelLaunch.list m d) := fun j => by
  rw [list_eq m d hx]
  exact best_lt _ j

end List

end Cert.Proof.WholeValue

end
-- ==== Proof.lean ====
/-
  The proof of `Cert.Claim`: the whole kernel, over the extended reals, ends cleanly with its argument unchanged and with
  the reference's result; and the gather call alone does so too, at machine words and at extended reals.
-/
module

public import proofs.«01_k».proof.Defs
public import proofs.«01_k».proof.Proof.Gen.Gather
public import proofs.«01_k».proof.Proof.Gen.Gather.Skeleton
public import proofs.«01_k».proof.Proof.Gen.GatherIdeal
public import proofs.«01_k».proof.Proof.Gen.GatherIdeal.Skeleton
public import proofs.«01_k».proof.Proof.Gen.GatherReferenceIdeal
public import proofs.«01_k».proof.Proof.Gen.GatherReferenceIdeal.Run
public import proofs.«01_k».proof.Proof.Gen.ReferenceIdeal.Run
public import proofs.«01_k».proof.Proof.Gen.KernelIdeal.Launch
public import proofs.«01_k».proof.Proof.Gen.KernelIdeal.Regions
public import proofs.«01_k».proof.Proof.Gen.KernelIdeal.Points
public import proofs.«01_k».proof.Proof.Gen.KernelIdeal.Skeleton
public import proofs.«01_k».proof.Proof.Gen.Pre_in_range
public import proofs.«01_k».proof.Proof.GatherLaunch
public import proofs.«01_k».proof.Proof.GatherBitsLaunch
public import proofs.«01_k».proof.Proof.GatherReference
public import proofs.«01_k».proof.Proof.WholeReference
public import proofs.«01_k».proof.Proof.WholeValue
public import Idealize.ShloMosaic.Adequacy
public import Idealize.ShloMosaic.Init
public import Idealize.ShloMosaic.Lib.Quiescent
public import Idealize.ShloMosaic.Lib.Claim

@[expose] public section

noncomputable section

namespace Cert.Proof

open Idealize.ShloMosaic Idealize.SL.Sem Cert.Gather

theorem gather_ok (m : (ℓ : Loc Cert.Gather.nD Cert.Gather.τ Cert.Gather.sig) → Buf (Elt Bits) ℓ) (h : Cert.Pre_Gather m) :
    Gather.PreOK m := fun d j => GatherReference.lt_of_pre _ _ (h d) j

theorem gatherIdeal_ok (m : (ℓ : Loc Cert.GatherIdeal.nD Cert.GatherIdeal.τ Cert.GatherIdeal.sig) → Buf (Elt Ideal) ℓ)
    (h : Cert.Pre_GatherIdeal m) : GatherIdeal.PreOK m := fun d j => GatherReference.lt_of_pre _ _ (h d) j

theorem frame_gather : Cert.quiescent_Gather := fun m ρ h =>
  (θ_run Cert.Gather.defs _ _).mono (fun _ q => ⟨fun c => ⟨(q.1 c).1, (q.1 c).2.1⟩, q.2⟩)
    (Gather.run_main (F := Bits) m ρ (gather_ok m h))

theorem frame_gatherIdeal : Cert.quiescent_GatherIdeal := fun m ρ h =>
  (θ_run Cert.GatherIdeal.defs _ _).mono (fun _ q => ⟨fun c => ⟨(q.1 c).1, (q.1 c).2.1⟩, q.2⟩)
    (GatherIdeal.run_main (F := Ideal) m ρ (gatherIdeal_ok m h))

theorem frame_reference : Cert.quiescent_GatherReferenceIdeal := fun m ρ _ =>
  (θ_run Cert.GatherReferenceIdeal.defs _ _).mono
    (fun r q => ⟨fun c => (q c).2, sem_eq_zero_of_no_sems (by decide) r.2⟩)
    (Cert.GatherReferenceIdeal.Value.run (F := Ideal) m ρ)

theorem frame_reference_pre : Cert.quiescent_GatherReferenceIdeal_pre_in_range := fun m ρ _ => frame_reference m ρ trivial

theorem algebraic_gather : Cert.algebraic_GatherIdeal_GatherReferenceIdeal := by
  intro m ρ m' ρ' h hargs
  refine ⟨fun c => GatherIdeal.gathered (F := Ideal) (m (GatherIdeal.xLoc c)) (m (GatherIdeal.iLoc c)),
    (θ_run Cert.GatherIdeal.defs _ _).mono (fun _ q c => ⟨(q.1 c).2.2, (q.1 c).1, (q.1 c).2.1⟩)
      (GatherIdeal.run_main (F := Ideal) m ρ (gatherIdeal_ok m h)), ?_⟩
  refine (θ_run Cert.GatherReferenceIdeal.defs _ _).mono (fun r q c => ⟨(q c).1.trans ?_, (q c).2⟩)
    (GatherReference.run_taken (F := Ideal) m' ρ' fun c j => ?_)
  · rw [(hargs c).2]
    exact gatherIdeal_ok m h c j
  · rw [(hargs c).1, (hargs c).2]
    rfl

/-! ## The whole kernel -/

theorem kernelIdeal_real (m : (ℓ : Loc Cert.KernelIdeal.nD Cert.KernelIdeal.τ Cert.KernelIdeal.sig) → Buf (Elt Ideal) ℓ)
    (h : Cert.Pre_KernelIdeal m) (d : Dev Cert.KernelIdeal.nD) (i : Cert.KernelIdeal.S16x768x48x48.Idx) :
    m (KernelGather.xLoc d) i ≠ (⊤ : EReal) ∧ m (KernelGather.xLoc d) i ≠ (⊥ : EReal) :=
  WholeValue.real_of_pre (m (KernelGather.xLoc d)) (h d) i

theorem kernelIdeal_ok (m : (ℓ : Loc Cert.KernelIdeal.nD Cert.KernelIdeal.τ Cert.KernelIdeal.sig) → Buf (Elt Ideal) ℓ)
    (h : Cert.Pre_KernelIdeal m) : KernelLaunch.PreOK m := fun d => WholeValue.list_ok m d (kernelIdeal_real m h d)

theorem frame_kernelIdeal : Cert.quiescent_KernelIdeal := fun m ρ h =>
  (θ_run Cert.KernelIdeal.defs _ _).mono (fun _ q => ⟨fun c => (q.1 c).1, q.2⟩)
    (KernelLaunch.run_main (F := Ideal) m ρ (kernelIdeal_ok m h))

theorem frame_whole : Cert.quiescent_ReferenceIdeal := fun m ρ _ =>
  (θ_run Cert.ReferenceIdeal.defs _ _).mono
    (fun r q => ⟨fun c => (q c).2, sem_eq_zero_of_no_sems (by decide) r.2⟩)
    (Cert.ReferenceIdeal.Value.run (F := Ideal) m ρ)

theorem frame_whole_pre : Cert.quiescent_ReferenceIdeal_pre_finite := fun m ρ _ => frame_whole m ρ trivial

theorem algebraic_whole : Cert.algebraic_KernelIdeal_ReferenceIdeal := by
  intro m ρ m' ρ' h hargs
  refine ⟨fun c => KernelGather.gathered (F := Ideal) (m (KernelGather.xLoc c)) (KernelLaunch.list m c),
    (θ_run Cert.KernelIdeal.defs _ _).mono (fun _ q c => ⟨(q.1 c).2, (q.1 c).1⟩)
      (KernelLaunch.run_main (F := Ideal) m ρ (kernelIdeal_ok m h)), ?_⟩
  refine (θ_run Cert.ReferenceIdeal.defs _ _).mono (fun r q c => ⟨(q c).1.trans ?_, (q c).2⟩)
    (WholeReference.run_best m' ρ')
  rw [hargs c]
  show _ = KernelGather.gathered (F := Ideal) (m (KernelGather.xLoc c)) (KernelLaunch.list m c)
  rw [WholeValue.list_eq m c (kernelIdeal_real m h c)]
  rfl

theorem claim : Cert.Claim :=
  ⟨Cert.KernelIdeal.Gen.facts, Cert.ReferenceIdeal.Gen.facts, Cert.Gather.Gen.facts, Cert.GatherIdeal.Gen.facts,
    Cert.GatherReferenceIdeal.Gen.facts, WholeValue.finiteFacts, Cert.Pre_in_range.Gen.facts,
    frame_kernelIdeal, frame_whole, frame_whole_pre, frame_gather, frame_gatherIdeal, frame_reference, frame_reference_pre,
    algebraic_whole, trivial, algebraic_gather⟩

end Cert.Proof

end
